-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_latents [hPre_finite_latents : Cert.Pre_finite_latents.Facts] (m : (ℓ : Loc Cert.KernelIdeal.nD Cert.KernelIdeal.τ Cert.KernelIdeal.sig) → Buf (Elt Ideal) ℓ) : Prop :=
  ∀ c : Dev Cert.KernelIdeal.nD,
    (Cert.Pre_finite_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_latents [hPre_finite_latents : Cert.Pre_finite_latents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_latents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reg (m : (ℓ : Loc Cert.Reg.nD Cert.Reg.τ Cert.Reg.sig) → Buf (Elt Bits) ℓ) : Prop :=
  True

def Pre_RegIdeal (m : (ℓ : Loc Cert.RegIdeal.nD Cert.RegIdeal.τ Cert.RegIdeal.sig) → Buf (Elt Ideal) ℓ) : Prop :=
  True

def Pre_RegRefIdeal (m : (ℓ : Loc Cert.RegRefIdeal.nD Cert.RegRefIdeal.τ Cert.RegRefIdeal.sig) → Buf (Elt Ideal) ℓ) : Prop :=
  True

def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecRefIdeal (m : (ℓ : Loc Cert.DecRefIdeal.nD Cert.DecRefIdeal.τ Cert.DecRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_latents [hKernelIdeal : Cert.KernelIdeal.Facts] [hPre_finite_latents : Cert.Pre_finite_latents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_latents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_latents [hReferenceIdeal : Cert.ReferenceIdeal.Facts] [hPre_finite_latents : Cert.Pre_finite_latents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_latents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reg [hReg : Cert.Reg.Facts] : Prop :=
  ∀ (m : (ℓ : Loc Cert.Reg.nD Cert.Reg.τ Cert.Reg.sig) → Buf (Elt Bits) ℓ) (g : Dev Cert.Reg.nD → PrngReg), Pre_Reg m →
    θ_run (Cert.Reg.defs (F := Bits)) (onTc (τ := Cert.Reg.τ) (Cert.Reg.main (F := Bits))) ⟨m, fun _ => 0, g⟩ (fun r => (∀ c : Dev Cert.Reg.nD,
      r.2.mem ((c.tc : Thread Cert.Reg.nD Cert.Reg.τ).loc Cert.Reg.main_arg0) = m ((c.tc : Thread Cert.Reg.nD Cert.Reg.τ).loc Cert.Reg.main_arg0)
      ∧ r.2.mem ((c.tc : Thread Cert.Reg.nD Cert.Reg.τ).loc Cert.Reg.main_arg1) = m ((c.tc : Thread Cert.Reg.nD Cert.Reg.τ).loc Cert.Reg.main_arg1)
      ∧ r.2.mem ((c.tc : Thread Cert.Reg.nD Cert.Reg.τ).loc Cert.Reg.main_arg2) = m ((c.tc : Thread Cert.Reg.nD Cert.Reg.τ).loc Cert.Reg.main_arg2)
      ∧ r.2.mem ((c.tc : Thread Cert.Reg.nD Cert.Reg.τ).loc Cert.Reg.main_arg3) = m ((c.tc : Thread Cert.Reg.nD Cert.Reg.τ).loc Cert.Reg.main_arg3)
      ∧ r.2.mem ((c.tc : Thread Cert.Reg.nD Cert.Reg.τ).loc Cert.Reg.main_arg4) = m ((c.tc : Thread Cert.Reg.nD Cert.Reg.τ).loc Cert.Reg.main_arg4)
      ∧ r.2.mem ((c.tc : Thread Cert.Reg.nD Cert.Reg.τ).loc Cert.Reg.main_arg5) = m ((c.tc : Thread Cert.Reg.nD Cert.Reg.τ).loc Cert.Reg.main_arg5)
      ∧ r.2.mem ((c.tc : Thread Cert.Reg.nD Cert.Reg.τ).loc Cert.Reg.main_arg6) = m ((c.tc : Thread Cert.Reg.nD Cert.Reg.τ).loc Cert.Reg.main_arg6))
      ∧ r.2.sem = fun _ => 0)

def quiescent_RegIdeal [hRegIdeal : Cert.RegIdeal.Facts] : Prop :=
  ∀ (m : (ℓ : Loc Cert.RegIdeal.nD Cert.RegIdeal.τ Cert.RegIdeal.sig) → Buf (Elt Ideal) ℓ) (g : Dev Cert.RegIdeal.nD → PrngReg), Pre_RegIdeal m →
    θ_run (Cert.RegIdeal.defs (F := Ideal)) (onTc (τ := Cert.RegIdeal.τ) (Cert.RegIdeal.main (F := Ideal))) ⟨m, fun _ => 0, g⟩ (fun r => (∀ c : Dev Cert.RegIdeal.nD,
      r.2.mem ((c.tc : Thread Cert.RegIdeal.nD Cert.RegIdeal.τ).loc Cert.RegIdeal.main_arg0) = m ((c.tc : Thread Cert.RegIdeal.nD Cert.RegIdeal.τ).loc Cert.RegIdeal.main_arg0)
      ∧ r.2.mem ((c.tc : Thread Cert.RegIdeal.nD Cert.RegIdeal.τ).loc Cert.RegIdeal.main_arg1) = m ((c.tc : Thread Cert.RegIdeal.nD Cert.RegIdeal.τ).loc Cert.RegIdeal.main_arg1)
      ∧ r.2.mem ((c.tc : Thread Cert.RegIdeal.nD Cert.RegIdeal.τ).loc Cert.RegIdeal.main_arg2) = m ((c.tc : Thread Cert.RegIdeal.nD Cert.RegIdeal.τ).loc Cert.RegIdeal.main_arg2)
      ∧ r.2.mem ((c.tc : Thread Cert.RegIdeal.nD Cert.RegIdeal.τ).loc Cert.RegIdeal.main_arg3) = m ((c.tc : Thread Cert.RegIdeal.nD Cert.RegIdeal.τ).loc Cert.RegIdeal.main_arg3)
      ∧ r.2.mem ((c.tc : Thread Cert.RegIdeal.nD Cert.RegIdeal.τ).loc Cert.RegIdeal.main_arg4) = m ((c.tc : Thread Cert.RegIdeal.nD Cert.RegIdeal.τ).loc Cert.RegIdeal.main_arg4)
      ∧ r.2.mem ((c.tc : Thread Cert.RegIdeal.nD Cert.RegIdeal.τ).loc Cert.RegIdeal.main_arg5) = m ((c.tc : Thread Cert.RegIdeal.nD Cert.RegIdeal.τ).loc Cert.RegIdeal.main_arg5)
      ∧ r.2.mem ((c.tc : Thread Cert.RegIdeal.nD Cert.RegIdeal.τ).loc Cert.RegIdeal.main_arg6) = m ((c.tc : Thread Cert.RegIdeal.nD Cert.RegIdeal.τ).loc Cert.RegIdeal.main_arg6))
      ∧ r.2.sem = fun _ => 0)

def quiescent_RegRefIdeal [hRegRefIdeal : Cert.RegRefIdeal.Facts] : Prop :=
  ∀ (m : (ℓ : Loc Cert.RegRefIdeal.nD Cert.RegRefIdeal.τ Cert.RegRefIdeal.sig) → Buf (Elt Ideal) ℓ) (g : Dev Cert.RegRefIdeal.nD → PrngReg), Pre_RegRefIdeal m →
    θ_run (Cert.RegRefIdeal.defs (F := Ideal)) (onTc (τ := Cert.RegRefIdeal.τ) (Cert.RegRefIdeal.main (F := Ideal))) ⟨m, fun _ => 0, g⟩ (fun r => (∀ c : Dev Cert.RegRefIdeal.nD,
      r.2.mem ((c.tc : Thread Cert.RegRefIdeal.nD Cert.RegRefIdeal.τ).loc Cert.RegRefIdeal.main_arg0) = m ((c.tc : Thread Cert.RegRefIdeal.nD Cert.RegRefIdeal.τ).loc Cert.RegRefIdeal.main_arg0)
      ∧ r.2.mem ((c.tc : Thread Cert.RegRefIdeal.nD Cert.RegRefIdeal.τ).loc Cert.RegRefIdeal.main_arg1) = m ((c.tc : Thread Cert.RegRefIdeal.nD Cert.RegRefIdeal.τ).loc Cert.RegRefIdeal.main_arg1)
      ∧ r.2.mem ((c.tc : Thread Cert.RegRefIdeal.nD Cert.RegRefIdeal.τ).loc Cert.RegRefIdeal.main_arg2) = m ((c.tc : Thread Cert.RegRefIdeal.nD Cert.RegRefIdeal.τ).loc Cert.RegRefIdeal.main_arg2)
      ∧ r.2.mem ((c.tc : Thread Cert.RegRefIdeal.nD Cert.RegRefIdeal.τ).loc Cert.RegRefIdeal.main_arg3) = m ((c.tc : Thread Cert.RegRefIdeal.nD Cert.RegRefIdeal.τ).loc Cert.RegRefIdeal.main_arg3)
      ∧ r.2.mem ((c.tc : Thread Cert.RegRefIdeal.nD Cert.RegRefIdeal.τ).loc Cert.RegRefIdeal.main_arg4) = m ((c.tc : Thread Cert.RegRefIdeal.nD Cert.RegRefIdeal.τ).loc Cert.RegRefIdeal.main_arg4)
      ∧ r.2.mem ((c.tc : Thread Cert.RegRefIdeal.nD Cert.RegRefIdeal.τ).loc Cert.RegRefIdeal.main_arg5) = m ((c.tc : Thread Cert.RegRefIdeal.nD Cert.RegRefIdeal.τ).loc Cert.RegRefIdeal.main_arg5)
      ∧ r.2.mem ((c.tc : Thread Cert.RegRefIdeal.nD Cert.RegRefIdeal.τ).loc Cert.RegRefIdeal.main_arg6) = m ((c.tc : Thread Cert.RegRefIdeal.nD Cert.RegRefIdeal.τ).loc Cert.RegRefIdeal.main_arg6))
      ∧ r.2.sem = fun _ => 0)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4)
      ∧ r.2.mem ((c.tc : Thread Cert.Dec.nD Cert.Dec.τ).loc Cert.Dec.main_arg5) = m ((c.tc : Thread Cert.Dec.nD Cert.Dec.τ).loc Cert.Dec.main_arg5))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
      ∧ r.2.mem ((c.tc : Thread Cert.DecIdeal.nD Cert.DecIdeal.τ).loc Cert.DecIdeal.main_arg5) = m ((c.tc : Thread Cert.DecIdeal.nD Cert.DecIdeal.τ).loc Cert.DecIdeal.main_arg5))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m ((c.tc : Thread Cert.DecRefIdeal.nD Cert.DecRefIdeal.τ).loc Cert.DecRefIdeal.main_arg5))
      ∧ r.2.sem = fun _ => 0)

def preserves_Kernel_KernelIdeal : Prop :=
  True

def algebraic_KernelIdeal_ReferenceIdeal_pre_finite_latents [hKernelIdeal : Cert.KernelIdeal.Facts] [hReferenceIdeal : Cert.ReferenceIdeal.Facts] [hPre_finite_latents : Cert.Pre_finite_latents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_latents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Reg_RegIdeal : Prop :=
  True

def algebraic_RegIdeal_RegRefIdeal [hRegIdeal : Cert.RegIdeal.Facts] [hRegRefIdeal : Cert.RegRefIdeal.Facts] : Prop :=
  ∀ (m : (ℓ : Loc Cert.RegIdeal.nD Cert.RegIdeal.τ Cert.RegIdeal.sig) → Buf (Elt Ideal) ℓ) (g : Dev Cert.RegIdeal.nD → PrngReg)
    (m' : (ℓ : Loc Cert.RegRefIdeal.nD Cert.RegRefIdeal.τ Cert.RegRefIdeal.sig) → Buf (Elt Ideal) ℓ) (g' : Dev Cert.RegRefIdeal.nD → PrngReg), Pre_RegIdeal m →
    (∀ c : Dev Cert.RegIdeal.nD,
      m' ((c.tc : Thread Cert.RegRefIdeal.nD Cert.RegRefIdeal.τ).loc Cert.RegRefIdeal.main_arg0) = m ((c.tc : Thread Cert.RegIdeal.nD Cert.RegIdeal.τ).loc Cert.RegIdeal.main_arg0)
      ∧ m' ((c.tc : Thread Cert.RegRefIdeal.nD Cert.RegRefIdeal.τ).loc Cert.RegRefIdeal.main_arg1) = m ((c.tc : Thread Cert.RegIdeal.nD Cert.RegIdeal.τ).loc Cert.RegIdeal.main_arg1)
      ∧ m' ((c.tc : Thread Cert.RegRefIdeal.nD Cert.RegRefIdeal.τ).loc Cert.RegRefIdeal.main_arg2) = m ((c.tc : Thread Cert.RegIdeal.nD Cert.RegIdeal.τ).loc Cert.RegIdeal.main_arg2)
      ∧ m' ((c.tc : Thread Cert.RegRefIdeal.nD Cert.RegRefIdeal.τ).loc Cert.RegRefIdeal.main_arg3) = m ((c.tc : Thread Cert.RegIdeal.nD Cert.RegIdeal.τ).loc Cert.RegIdeal.main_arg3)
      ∧ m' ((c.tc : Thread Cert.RegRefIdeal.nD Cert.RegRefIdeal.τ).loc Cert.RegRefIdeal.main_arg4) = m ((c.tc : Thread Cert.RegIdeal.nD Cert.RegIdeal.τ).loc Cert.RegIdeal.main_arg4)
      ∧ m' ((c.tc : Thread Cert.RegRefIdeal.nD Cert.RegRefIdeal.τ).loc Cert.RegRefIdeal.main_arg5) = m ((c.tc : Thread Cert.RegIdeal.nD Cert.RegIdeal.τ).loc Cert.RegIdeal.main_arg5)
      ∧ m' ((c.tc : Thread Cert.RegRefIdeal.nD Cert.RegRefIdeal.τ).loc Cert.RegRefIdeal.main_arg6) = m ((c.tc : Thread Cert.RegIdeal.nD Cert.RegIdeal.τ).loc Cert.RegIdeal.main_arg6)) →
    ∃ (v0 : (c : Dev Cert.RegIdeal.nD) → Buf (Elt Ideal) ((c.tc : Thread Cert.RegIdeal.nD Cert.RegIdeal.τ).loc Cert.RegIdeal.main_v3_0)) (v1 : (c : Dev Cert.RegIdeal.nD) → Buf (Elt Ideal) ((c.tc : Thread Cert.RegIdeal.nD Cert.RegIdeal.τ).loc Cert.RegIdeal.main_v3_1)) (v2 : (c : Dev Cert.RegIdeal.nD) → Buf (Elt Ideal) ((c.tc : Thread Cert.RegIdeal.nD Cert.RegIdeal.τ).loc Cert.RegIdeal.main_v3_2)),
      θ_run (Cert.RegIdeal.defs (F := Ideal)) (onTc (τ := Cert.RegIdeal.τ) (Cert.RegIdeal.main (F := Ideal))) ⟨m, fun _ => 0, g⟩ (fun r => ∀ c : Dev Cert.RegIdeal.nD,
          r.2.mem ((c.tc : Thread Cert.RegIdeal.nD Cert.RegIdeal.τ).loc Cert.RegIdeal.main_v3_0) = v0 c
          ∧ r.2.mem ((c.tc : Thread Cert.RegIdeal.nD Cert.RegIdeal.τ).loc Cert.RegIdeal.main_v3_1) = v1 c
          ∧ r.2.mem ((c.tc : Thread Cert.RegIdeal.nD Cert.RegIdeal.τ).loc Cert.RegIdeal.main_v3_2) = v2 c
          ∧ r.2.mem ((c.tc : Thread Cert.RegIdeal.nD Cert.RegIdeal.τ).loc Cert.RegIdeal.main_arg0) = m ((c.tc : Thread Cert.RegIdeal.nD Cert.RegIdeal.τ).loc Cert.RegIdeal.main_arg0)
          ∧ r.2.mem ((c.tc : Thread Cert.RegIdeal.nD Cert.RegIdeal.τ).loc Cert.RegIdeal.main_arg1) = m ((c.tc : Thread Cert.RegIdeal.nD Cert.RegIdeal.τ).loc Cert.RegIdeal.main_arg1)
          ∧ r.2.mem ((c.tc : Thread Cert.RegIdeal.nD Cert.RegIdeal.τ).loc Cert.RegIdeal.main_arg2) = m ((c.tc : Thread Cert.RegIdeal.nD Cert.RegIdeal.τ).loc Cert.RegIdeal.main_arg2)
          ∧ r.2.mem ((c.tc : Thread Cert.RegIdeal.nD Cert.RegIdeal.τ).loc Cert.RegIdeal.main_arg3) = m ((c.tc : Thread Cert.RegIdeal.nD Cert.RegIdeal.τ).loc Cert.RegIdeal.main_arg3)
          ∧ r.2.mem ((c.tc : Thread Cert.RegIdeal.nD Cert.RegIdeal.τ).loc Cert.RegIdeal.main_arg4) = m ((c.tc : Thread Cert.RegIdeal.nD Cert.RegIdeal.τ).loc Cert.RegIdeal.main_arg4)
          ∧ r.2.mem ((c.tc : Thread Cert.RegIdeal.nD Cert.RegIdeal.τ).loc Cert.RegIdeal.main_arg5) = m ((c.tc : Thread Cert.RegIdeal.nD Cert.RegIdeal.τ).loc Cert.RegIdeal.main_arg5)
          ∧ r.2.mem ((c.tc : Thread Cert.RegIdeal.nD Cert.RegIdeal.τ).loc Cert.RegIdeal.main_arg6) = m ((c.tc : Thread Cert.RegIdeal.nD Cert.RegIdeal.τ).loc Cert.RegIdeal.main_arg6))
      ∧ θ_run (Cert.RegRefIdeal.defs (F := Ideal)) (onTc (τ := Cert.RegRefIdeal.τ) (Cert.RegRefIdeal.main (F := Ideal))) ⟨m', fun _ => 0, g'⟩ (fun r => ∀ c : Dev Cert.RegRefIdeal.nD,
          r.2.mem ((c.tc : Thread Cert.RegRefIdeal.nD Cert.RegRefIdeal.τ).loc Cert.RegRefIdeal.main_v16) = v0 c
          ∧ r.2.mem ((c.tc : Thread Cert.RegRefIdeal.nD Cert.RegRefIdeal.τ).loc Cert.RegRefIdeal.main_v30) = v1 c
          ∧ r.2.mem ((c.tc : Thread Cert.RegRefIdeal.nD Cert.RegRefIdeal.τ).loc Cert.RegRefIdeal.main_v33) = v2 c
          ∧ r.2.mem ((c.tc : Thread Cert.RegRefIdeal.nD Cert.RegRefIdeal.τ).loc Cert.RegRefIdeal.main_arg0) = m' ((c.tc : Thread Cert.RegRefIdeal.nD Cert.RegRefIdeal.τ).loc Cert.RegRefIdeal.main_arg0)
          ∧ r.2.mem ((c.tc : Thread Cert.RegRefIdeal.nD Cert.RegRefIdeal.τ).loc Cert.RegRefIdeal.main_arg1) = m' ((c.tc : Thread Cert.RegRefIdeal.nD Cert.RegRefIdeal.τ).loc Cert.RegRefIdeal.main_arg1)
          ∧ r.2.mem ((c.tc : Thread Cert.RegRefIdeal.nD Cert.RegRefIdeal.τ).loc Cert.RegRefIdeal.main_arg2) = m' ((c.tc : Thread Cert.RegRefIdeal.nD Cert.RegRefIdeal.τ).loc Cert.RegRefIdeal.main_arg2)
          ∧ r.2.mem ((c.tc : Thread Cert.RegRefIdeal.nD Cert.RegRefIdeal.τ).loc Cert.RegRefIdeal.main_arg3) = m' ((c.tc : Thread Cert.RegRefIdeal.nD Cert.RegRefIdeal.τ).loc Cert.RegRefIdeal.main_arg3)
          ∧ r.2.mem ((c.tc : Thread Cert.RegRefIdeal.nD Cert.RegRefIdeal.τ).loc Cert.RegRefIdeal.main_arg4) = m' ((c.tc : Thread Cert.RegRefIdeal.nD Cert.RegRefIdeal.τ).loc Cert.RegRefIdeal.main_arg4)
          ∧ r.2.mem ((c.tc : Thread Cert.RegRefIdeal.nD Cert.RegRefIdeal.τ).loc Cert.RegRefIdeal.main_arg5) = m' ((c.tc : Thread Cert.RegRefIdeal.nD Cert.RegRefIdeal.τ).loc Cert.RegRefIdeal.main_arg5)
          ∧ r.2.mem ((c.tc : Thread Cert.RegRefIdeal.nD Cert.RegRefIdeal.τ).loc Cert.RegRefIdeal.main_arg6) = m' ((c.tc : Thread Cert.RegRefIdeal.nD Cert.RegRefIdeal.τ).loc Cert.RegRefIdeal.main_arg6))

def preserves_Dec_DecIdeal : Prop :=
  True

def algebraic_DecIdeal_DecRefIdeal [hDecIdeal : Cert.DecIdeal.Facts] [hDecRefIdeal : Cert.DecRefIdeal.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)
      ∧ m' ((c.tc : Thread Cert.DecRefIdeal.nD Cert.DecRefIdeal.τ).loc Cert.DecRefIdeal.main_arg3) = m ((c.tc : Thread Cert.DecIdeal.nD Cert.DecIdeal.τ).loc Cert.DecIdeal.main_arg3)
      ∧ m' ((c.tc : Thread Cert.DecRefIdeal.nD Cert.DecRefIdeal.τ).loc Cert.DecRefIdeal.main_arg4) = m ((c.tc : Thread Cert.DecIdeal.nD Cert.DecIdeal.τ).loc Cert.DecIdeal.main_arg4)
      ∧ m' ((c.tc : Thread Cert.DecRefIdeal.nD Cert.DecRefIdeal.τ).loc Cert.DecRefIdeal.main_arg5) = m ((c.tc : Thread Cert.DecIdeal.nD Cert.DecIdeal.τ).loc Cert.DecIdeal.main_arg5)) →
    ∃ (v0 : (c : Dev Cert.DecIdeal.nD) → Buf (Elt Ideal) ((c.tc : Thread Cert.DecIdeal.nD Cert.DecIdeal.τ).loc Cert.DecIdeal.main_v37)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v37) = v0 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
          ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
          ∧ r.2.mem ((c.tc : Thread Cert.DecIdeal.nD Cert.DecIdeal.τ).loc Cert.DecIdeal.main_arg5) = m ((c.tc : Thread Cert.DecIdeal.nD Cert.DecIdeal.τ).loc Cert.DecIdeal.main_arg5))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v215) = v0 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
          ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3)
          ∧ r.2.mem ((c.tc : Thread Cert.DecRefIdeal.nD Cert.DecRefIdeal.τ).loc Cert.DecRefIdeal.main_arg4) = m' ((c.tc : Thread Cert.DecRefIdeal.nD Cert.DecRefIdeal.τ).loc Cert.DecRefIdeal.main_arg4)
          ∧ r.2.mem ((c.tc : Thread Cert.DecRefIdeal.nD Cert.DecRefIdeal.τ).loc Cert.DecRefIdeal.main_arg5) = m' ((c.tc : Thread Cert.DecRefIdeal.nD Cert.DecRefIdeal.τ).loc Cert.DecRefIdeal.main_arg5))

def Claim : Prop :=
  ∃ (hKernel : Cert.Kernel.Facts) (hKernelIdeal : Cert.KernelIdeal.Facts) (hReferenceIdeal : Cert.ReferenceIdeal.Facts) (hReg : Cert.Reg.Facts) (hRegIdeal : Cert.RegIdeal.Facts) (hRegRefIdeal : Cert.RegRefIdeal.Facts) (hDec : Cert.Dec.Facts) (hDecIdeal : Cert.DecIdeal.Facts) (hDecRefIdeal : Cert.DecRefIdeal.Facts) (hPre_finite_latents : Cert.Pre_finite_latents.Facts),
    quiescent_Kernel (hKernel := hKernel)
    ∧ quiescent_KernelIdeal (hKernelIdeal := hKernelIdeal)
    ∧ quiescent_KernelIdeal_pre_finite_latents (hKernelIdeal := hKernelIdeal) (hPre_finite_latents := hPre_finite_latents)
    ∧ quiescent_ReferenceIdeal (hReferenceIdeal := hReferenceIdeal)
    ∧ quiescent_ReferenceIdeal_pre_finite_latents (hReferenceIdeal := hReferenceIdeal) (hPre_finite_latents := hPre_finite_latents)
    ∧ quiescent_Reg (hReg := hReg)
    ∧ quiescent_RegIdeal (hRegIdeal := hRegIdeal)
    ∧ quiescent_RegRefIdeal (hRegRefIdeal := hRegRefIdeal)
    ∧ quiescent_Dec (hDec := hDec)
    ∧ quiescent_DecIdeal (hDecIdeal := hDecIdeal)
    ∧ quiescent_DecRefIdeal (hDecRefIdeal := hDecRefIdeal)
    ∧ preserves_Kernel_KernelIdeal
    ∧ algebraic_KernelIdeal_ReferenceIdeal_pre_finite_latents (hKernelIdeal := hKernelIdeal) (hReferenceIdeal := hReferenceIdeal) (hPre_finite_latents := hPre_finite_latents)
    ∧ preserves_Reg_RegIdeal
    ∧ algebraic_RegIdeal_RegRefIdeal (hRegIdeal := hRegIdeal) (hRegRefIdeal := hRegRefIdeal)
    ∧ preserves_Dec_DecIdeal
    ∧ algebraic_DecIdeal_DecRefIdeal (hDecIdeal := hDecIdeal) (hDecRefIdeal := hDecRefIdeal)
-- ==== Pre_finite_latents.lean ====
abbrev S64x1x4096 : Shape := ⟨3, ![64, 1, 4096]⟩
abbrev S64x1x16 : Shape := ⟨3, ![64, 1, 16]⟩
abbrev S128x64x8 : Shape := ⟨3, ![128, 64, 8]⟩
abbrev S128x128x4 : Shape := ⟨3, ![128, 128, 4]⟩
abbrev S64x128x1 : Shape := ⟨3, ![64, 128, 1]⟩
abbrev S64 : Shape := ⟨1, ![64]⟩
abbrev S1024x64 : Shape := ⟨2, ![1024, 64]⟩
abbrev S_ : Shape := ⟨0, ![]⟩

class Facts : Prop where
  bcast_S_S64x1x4096 : S_.BroadcastsInDim S64x1x4096 (![] : Fin 0 → Fin S64x1x4096.rank)
  reducesTo_S64x1x4096_S_d0_1_2 : S64x1x4096.ReducesTo [0, 1, 2] S_
  h_S_ : 0 < S_.numel
  bcast_S_S64x1x16 : S_.BroadcastsInDim S64x1x16 (![] : Fin 0 → Fin S64x1x16.rank)
  reducesTo_S64x1x16_S_d0_1_2 : S64x1x16.ReducesTo [0, 1, 2] S_
  bcast_S_S128x64x8 : S_.BroadcastsInDim S128x64x8 (![] : Fin 0 → Fin S128x64x8.rank)
  reducesTo_S128x64x8_S_d0_1_2 : S128x64x8.ReducesTo [0, 1, 2] S_
  bcast_S_S128x128x4 : S_.BroadcastsInDim S128x128x4 (![] : Fin 0 → Fin S128x128x4.rank)
  reducesTo_S128x128x4_S_d0_1_2 : S128x128x4.ReducesTo [0, 1, 2] S_
  bcast_S_S64x128x1 : S_.BroadcastsInDim S64x128x1 (![] : Fin 0 → Fin S64x128x1.rank)
  reducesTo_S64x128x1_S_d0_1_2 : S64x128x1.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128x1 .f32) (main_arg5 : FVec F S64 .f32) (main_v13 : IVec S_ 1) (main_v16 : IVec S128x128x4 1) : IVec S_ 1 :=
  let main_c_5 : IVec S_ 1 := constantI S_ 1 1#1
  let main_v17 : IVec S_ 1 := (fun x v => Host.reduce IntOp.andi x v reducesTo_S128x128x4_S_d0_1_2 h_S_) main_v16 main_c_5
  let main_v18 : IVec S_ 1 := andi main_v13 main_v17
  let main_v19 : FVec F S64x128x1 .f32 := Host.absf main_arg4
  let main_cst_6 : FVec F S_ .f32 := constant S_ .f32 0x7F800000#32
  let main_v20 : FVec F S64x128x1 .f32 := broadcastInDim S64x128x1 ![] bcast_S_S64x128x1 main_cst_6
  let main_v21 : IVec S64x128x1 1 := cmpf .olt main_v19 main_v20
  let main_c_7 : IVec S_ 1 := constantI S_ 1 1#1
  let main_v22 : IVec S_ 1 := (fun x v => Host.reduce IntOp.andi x v reducesTo_S64x128x1_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S64x1x4096 .f32) (main_arg1 : FVec F S64x1x16 .f32) (main_arg2 : FVec F S128x64x8 .f32) (main_arg3 : FVec F S128x128x4 .f32) (main_arg4 : FVec F S64x128x1 .f32) (main_arg5 : FVec F S64 .f32) (main_arg6 : FVec F S1024x64 .f32) : IVec S_ 1 :=
  let main_v0 : FVec F S64x1x4096 .f32 := Host.absf main_arg0
  let main_cst : FVec F S_ .f32 := constant S_ .f32 0x7F800000#32
  let main_v1 : FVec F S64x1x4096 .f32 := broadcastInDim S64x1x4096 ![] bcast_S_S64x1x4096 main_cst
  let main_v2 : IVec S64x1x4096 1 := cmpf .olt main_v0 main_v1
  let main_c : IVec S_ 1 := constantI S_ 1 1#1
  let main_v3 : IVec S_ 1 := (fun x v => Host.reduce IntOp.andi x v reducesTo_S64x1x4096_S_d0_1_2 h_S_) main_v2 main_c
  let main_v4 : FVec F S64x1x16 .f32 := Host.absf main_arg1
  let main_cst_0 : FVec F S_ .f32 := constant S_ .f32 0x7F800000#32
  let main_v5 : FVec F S64x1x16 .f32 := broadcastInDim S64x1x16 ![] bcast_S_S64x1x16 main_cst_0
  let main_v6 : IVec S64x1x16 1 := cmpf .olt main_v4 main_v5
  let main_c_1 : IVec S_ 1 := constantI S_ 1 1#1
  let main_v7 : IVec S_ 1 := (fun x v => Host.reduce IntOp.andi x v reducesTo_S64x1x16_S_d0_1_2 h_S_) main_v6 main_c_1
  let main_v8 : IVec S_ 1 := andi main_v3 main_v7
  let main_v9 : FVec F S128x64x8 .f32 := Host.absf main_arg2
  let main_cst_2 : FVec F S_ .f32 := constant S_ .f32 0x7F800000#32
  let main_v10 : FVec F S128x64x8 .f32 := broadcastInDim S128x64x8 ![] bcast_S_S128x64x8 main_cst_2
  let main_v11 : IVec S128x64x8 1 := cmpf .olt main_v9 main_v10
  let main_c_3 : IVec S_ 1 := constantI S_ 1 1#1
  let main_v12 : IVec S_ 1 := (fun x v => Host.reduce IntOp.andi x v reducesTo_S128x64x8_S_d0_1_2 h_S_) main_v11 main_c_3
  let main_v13 : IVec S_ 1 := andi main_v8 main_v12
  let main_v14 : FVec F S128x128x4 .f32 := Host.absf main_arg3
  let main_cst_4 : FVec F S_ .f32 := constant S_ .f32 0x7F800000#32
  let main_v15 : FVec F S128x128x4 .f32 := broadcastInDim S128x128x4 ![] bcast_S_S128x128x4 main_cst_4
  let main_v16 : IVec S128x128x4 1 := cmpf .olt main_v14 main_v15
  fn_part1 (F := F) main_arg4 main_arg5 main_v13 main_v16
-- ==== Kernel.lean ====
abbrev S64x1x4096 : Shape := ⟨3, ![64, 1, 4096]⟩
abbrev S64x1x16 : Shape := ⟨3, ![64, 1, 16]⟩
abbrev S128x64x8 : Shape := ⟨3, ![128, 64, 8]⟩
abbrev S128x128x4 : Shape := ⟨3, ![128, 128, 4]⟩
abbrev S64x128x1 : Shape := ⟨3, ![64, 128, 1]⟩
abbrev S64 : Shape := ⟨1, ![64]⟩
abbrev S1024x64 : Shape := ⟨2, ![1024, 64]⟩
abbrev S64x4096 : Shape := ⟨2, ![64, 4096]⟩
abbrev S_ : Shape := ⟨0, ![]⟩
abbrev S64x4128 : Shape := ⟨2, ![64, 4128]⟩
abbrev S64x516x8 : Shape := ⟨3, ![64, 516, 8]⟩
abbrev S64x8x516 : Shape := ⟨3, ![64, 8, 516]⟩
abbrev S64x16 : Shape := ⟨2, ![64, 16]⟩
abbrev S128x8x64 : Shape := ⟨3, ![128, 8, 64]⟩
abbrev S128x512 : Shape := ⟨2, ![128, 512]⟩
abbrev S128x4x128 : Shape := ⟨3, ![128, 4, 128]⟩
abbrev S64x128 : Shape := ⟨2, ![64, 128]⟩
abbrev S64x1 : Shape := ⟨2, ![64, 1]⟩
abbrev S64x1024 : Shape := ⟨2, ![64, 1024]⟩
abbrev S1024 : Shape := ⟨1, ![1024]⟩
abbrev S1024x1 : Shape := ⟨2, ![1024, 1]⟩
abbrev S64x64x512 : Shape := ⟨3, ![64, 64, 512]⟩
abbrev S1x1 : Shape := ⟨2, ![1, 1]⟩
abbrev S8x8x516 : Shape := ⟨3, ![8, 8, 516]⟩
abbrev S8x64x512 : Shape := ⟨3, ![8, 64, 512]⟩
abbrev S8x256x514 : Shape := ⟨3, ![8, 256, 514]⟩
abbrev S8x256x1 : Shape := ⟨3, ![8, 256, 1]⟩
abbrev S8x256x2 : Shape := ⟨3, ![8, 256, 2]⟩
abbrev S1x1x512 : Shape := ⟨3, ![1, 1, 512]⟩
abbrev S1x512 : Shape := ⟨2, ![1, 512]⟩
abbrev S1x2048 : Shape := ⟨2, ![1, 2048]⟩
abbrev S16x2048 : Shape := ⟨2, ![16, 2048]⟩
abbrev S64x2048 : Shape := ⟨2, ![64, 2048]⟩
abbrev S64x512 : Shape := ⟨2, ![64, 512]⟩
abbrev S1x64x512 : Shape := ⟨3, ![1, 64, 512]⟩
abbrev S1x192x512 : Shape := ⟨3, ![1, 192, 512]⟩
abbrev S192x512 : Shape := ⟨2, ![192, 512]⟩
abbrev S1x256x512 : Shape := ⟨3, ![1, 256, 512]⟩
abbrev S256x512 : Shape := ⟨2, ![256, 512]⟩
abbrev S512x512 : Shape := ⟨2, ![512, 512]⟩
abbrev S512x1024 : Shape := ⟨2, ![512, 1024]⟩
abbrev S128x1024 : Shape := ⟨2, ![128, 1024]⟩
abbrev S1x128x512 : Shape := ⟨3, ![1, 128, 512]⟩
abbrev S1024x512 : Shape := ⟨2, ![1024, 512]⟩
abbrev S512 : Shape := ⟨1, ![512]⟩
abbrev S1 : Shape := ⟨1, ![1]⟩
abbrev S1x1x1 : Shape := ⟨3, ![1, 1, 1]⟩

abbrev nBuf : Space → Nat
  | .hbm => 28
  | .vmem => 16
  | .smem => 0
  | _ => 0

abbrev bufTy : (tb : Table) → Fin (tcTables nBuf tb) → BufTy
  | .hbm, ⟨0, _⟩ => ⟨S64x1x4096, .f32⟩
  | .hbm, ⟨1, _⟩ => ⟨S64x1x16, .f32⟩
  | .hbm, ⟨2, _⟩ => ⟨S128x64x8, .f32⟩
  | .hbm, ⟨3, _⟩ => ⟨S128x128x4, .f32⟩
  | .hbm, ⟨4, _⟩ => ⟨S64x128x1, .f32⟩
  | .hbm, ⟨5, _⟩ => ⟨S64, .f32⟩
  | .hbm, ⟨6, _⟩ => ⟨S1024x64, .f32⟩
  | .hbm, ⟨7, _⟩ => ⟨S64x4096, .f32⟩
  | .hbm, ⟨8, _⟩ => ⟨S_, .i32⟩
  | .hbm, ⟨9, _⟩ => ⟨S_, .f32⟩
  | .hbm, ⟨10, _⟩ => ⟨S64x4128, .f32⟩
  | .hbm, ⟨11, _⟩ => ⟨S64x516x8, .f32⟩
  | .hbm, ⟨12, _⟩ => ⟨S64x8x516, .f32⟩
  | .hbm, ⟨13, _⟩ => ⟨S64x16, .f32⟩
  | .hbm, ⟨14, _⟩ => ⟨S128x8x64, .f32⟩
  | .hbm, ⟨15, _⟩ => ⟨S128x512, .f32⟩
  | .hbm, ⟨16, _⟩ => ⟨S128x4x128, .f32⟩
  | .hbm, ⟨17, _⟩ => ⟨S128x512, .f32⟩
  | .hbm, ⟨18, _⟩ => ⟨S64x128, .f32⟩
  | .hbm, ⟨19, _⟩ => ⟨S64x1, .f32⟩
  | .hbm, ⟨20, _⟩ => ⟨S64x1024, .f32⟩
  | .hbm, ⟨21, _⟩ => ⟨S1024x64, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S64x64x512, .f32⟩
  | .hbm, ⟨26, _⟩ => ⟨S1024x1, .f32⟩
  | .hbm, ⟨27, _⟩ => ⟨S1x1, .f32⟩
  | .local _ .vmem, ⟨0, _⟩ => ⟨S8x8x516, .f32⟩
  | .local _ .vmem, ⟨1, _⟩ => ⟨S8x8x516, .f32⟩
  | .local _ .vmem, ⟨2, _⟩ => ⟨S64x16, .f32⟩
  | .local _ .vmem, ⟨3, _⟩ => ⟨S128x512, .f32⟩
  | .local _ .vmem, ⟨4, _⟩ => ⟨S128x512, .f32⟩
  | .local _ .vmem, ⟨5, _⟩ => ⟨S64x128, .f32⟩
  | .local _ .vmem, ⟨6, _⟩ => ⟨S64x1, .f32⟩
  | .local _ .vmem, ⟨7, _⟩ => ⟨S1024x64, .f32⟩
  | .local _ .vmem, ⟨8, _⟩ => ⟨S64x1024, .f32⟩
  | .local _ .vmem, ⟨9, _⟩ => ⟨S1024x1, .f32⟩
  | .local _ .vmem, ⟨10, _⟩ => ⟨S8x64x512, .f32⟩
  | .local _ .vmem, ⟨11, _⟩ => ⟨S8x64x512, .f32⟩
  | .local _ .vmem, ⟨12, _⟩ => ⟨S1024x1, .f32⟩
  | .local _ .vmem, ⟨13, _⟩ => ⟨S1x1, .f32⟩
  | .local _ .vmem, ⟨14, _⟩ => ⟨S8x256x514, .f32⟩
  | .local _ .vmem, ⟨15, _⟩ => ⟨S8x256x514, .f32⟩
  | _, _ => ⟨S64x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_2214 : BitVec 32 := 0#32
  let v2141 : BitVec 1 := Scalar.cmpi .eq arg0 c0_i32_2214
  let v2142 : BitVec 32 := Scalar.extui v2141
  let c0_i32_2215 : BitVec 32 := 0#32
  let v2143 : BitVec 1 := Scalar.cmpi .ne v2142 c0_i32_2215
  v2143

def k0_cond3 (i : grid0.Coords) : BitVec 1 :=
  let arg0 : BitVec 32 := BitVec.ofNat 32 (i 0).val
  let c0_i32_2216 : BitVec 32 := 0#32
  let v2144 : BitVec 1 := Scalar.cmpi .sgt arg0 c0_i32_2216
  let v2145 : BitVec 32 := Scalar.extui v2144
  let c0_i32_2217 : BitVec 32 := 0#32
  let v2146 : BitVec 1 := Scalar.cmpi .ne v2145 c0_i32_2217
  v2146

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x8x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S64x1x4096 : Shape := ⟨3, ![64, 1, 4096]⟩
abbrev S64x1x16 : Shape := ⟨3, ![64, 1, 16]⟩
abbrev S128x64x8 : Shape := ⟨3, ![128, 64, 8]⟩
abbrev S128x128x4 : Shape := ⟨3, ![128, 128, 4]⟩
abbrev S64x128x1 : Shape := ⟨3, ![64, 128, 1]⟩
abbrev S64 : Shape := ⟨1, ![64]⟩
abbrev S1024x64 : Shape := ⟨2, ![1024, 64]⟩
abbrev S_ : Shape := ⟨0, ![]⟩
abbrev S64x1x4110 : Shape := ⟨3, ![64, 1, 4110]⟩
abbrev S64x1x1 : Shape := ⟨3, ![64, 1, 1]⟩
abbrev S64x1 : Shape := ⟨2, ![64, 1]⟩
abbrev S64x1x2048 : Shape := ⟨3, ![64, 1, 2048]⟩
abbrev S64x2048x64 : Shape := ⟨3, ![64, 2048, 64]⟩
abbrev S64x64x2048 : Shape := ⟨3, ![64, 64, 2048]⟩
abbrev S64x64x2054 : Shape := ⟨3, ![64, 64, 2054]⟩
abbrev S128x64x1 : Shape := ⟨3, ![128, 64, 1]⟩
abbrev S128x64 : Shape := ⟨2, ![128, 64]⟩
abbrev S64x64x1024 : Shape := ⟨3, ![64, 64, 1024]⟩
abbrev S64x1024x128 : Shape := ⟨3, ![64, 1024, 128]⟩
abbrev S64x128x1024 : Shape := ⟨3, ![64, 128, 1024]⟩
abbrev S64x128x1026 : Shape := ⟨3, ![64, 128, 1026]⟩
abbrev S128x128x1 : Shape := ⟨3, ![128, 128, 1]⟩
abbrev S128x128 : Shape := ⟨2, ![128, 128]⟩
abbrev S64x128x512 : Shape := ⟨3, ![64, 128, 512]⟩
abbrev S64x512x128 : Shape := ⟨3, ![64, 512, 128]⟩
abbrev S64x128 : Shape := ⟨2, ![64, 128]⟩
abbrev S64x512x64 : Shape := ⟨3, ![64, 512, 64]⟩
abbrev S64x64x512 : Shape := ⟨3, ![64, 64, 512]⟩
abbrev S1x64x1 : Shape := ⟨3, ![1, 64, 1]⟩
abbrev S32768x64 : Shape := ⟨2, ![32768, 64]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1024x1 : Shape := ⟨2, ![1024, 1]⟩
abbrev S1x1 : Shape := ⟨2, ![1, 1]⟩

abbrev nBuf : Space → Nat
  | .hbm => 254
  | .vmem => 0
  | .smem => 0
  | _ => 0

abbrev hbmTy0_0 (i : Nat) : BufTy := match i % 128 with
  | 0 => ⟨S64x1x4096, .f32⟩
  | 1 => ⟨S64x1x16, .f32⟩
  | 2 => ⟨S128x64x8, .f32⟩
  | 3 => ⟨S128x128x4, .f32⟩
  | 4 => ⟨S64x128x1, .f32⟩
  | 5 => ⟨S64, .f32⟩
  | 6 => ⟨S1024x64, .f32⟩
  | 7 => ⟨S_, .i32⟩
  | 8 => ⟨S_, .f32⟩
  | 9 => ⟨S64x1x4110, .f32⟩
  | 10 => ⟨S64x1x1, .f32⟩
  | 11 => ⟨S64x1, .f32⟩
  | 12 => ⟨S64x1x2048, .f32⟩
  | 13 => ⟨S64x2048x64, .f32⟩
  | 14 => ⟨S64x64x2048, .f32⟩
  | 15 => ⟨S64x1x1, .f32⟩
  | 16 => ⟨S64x1, .f32⟩
  | 17 => ⟨S64x1x2048, .f32⟩
  | 18 => ⟨S64x2048x64, .f32⟩
  | 19 => ⟨S64x64x2048, .f32⟩
  | 20 => ⟨S64x64x2048, .f32⟩
  | 21 => ⟨S64x1x1, .f32⟩
  | 22 => ⟨S64x1, .f32⟩
  | 23 => ⟨S64x1x2048, .f32⟩
  | 24 => ⟨S64x2048x64, .f32⟩
  | 25 => ⟨S64x64x2048, .f32⟩
  | 26 => ⟨S64x64x2048, .f32⟩
  | 27 => ⟨S64x1x1, .f32⟩
  | 28 => ⟨S64x1, .f32⟩
  | 29 => ⟨S64x1x2048, .f32⟩
  | 30 => ⟨S64x2048x64, .f32⟩
  | 31 => ⟨S64x64x2048, .f32⟩
  | 32 => ⟨S64x64x2048, .f32⟩
  | 33 => ⟨S64x1x1, .f32⟩
  | 34 => ⟨S64x1, .f32⟩
  | 35 => ⟨S64x1x2048, .f32⟩
  | 36 => ⟨S64x2048x64, .f32⟩
  | 37 => ⟨S64x64x2048, .f32⟩
  | 38 => ⟨S64x64x2048, .f32⟩
  | 39 => ⟨S64x1x1, .f32⟩
  | 40 => ⟨S64x1, .f32⟩
  | 41 => ⟨S64x1x2048, .f32⟩
  | 42 => ⟨S64x2048x64, .f32⟩
  | 43 => ⟨S64x64x2048, .f32⟩
  | 44 => ⟨S64x64x2048, .f32⟩
  | 45 => ⟨S64x1x1, .f32⟩
  | 46 => ⟨S64x1, .f32⟩
  | 47 => ⟨S64x1x2048, .f32⟩
  | 48 => ⟨S64x2048x64, .f32⟩
  | 49 => ⟨S64x64x2048, .f32⟩
  | 50 => ⟨S64x64x2048, .f32⟩
  | 51 => ⟨S64x1x1, .f32⟩
  | 52 => ⟨S64x1, .f32⟩
  | 53 => ⟨S64x1x2048, .f32⟩
  | 54 => ⟨S64x2048x64, .f32⟩
  | 55 => ⟨S64x64x2048, .f32⟩
  | 56 => ⟨S64x64x2048, .f32⟩
  | 57 => ⟨S64x1x1, .f32⟩
  | 58 => ⟨S64x1, .f32⟩
  | 59 => ⟨S64x1x2048, .f32⟩
  | 60 => ⟨S64x2048x64, .f32⟩
  | 61 => ⟨S64x64x2048, .f32⟩
  | 62 => ⟨S64x64x2048, .f32⟩
  | 63 => ⟨S64x1x1, .f32⟩
  | 64 => ⟨S64x1, .f32⟩
  | 65 => ⟨S64x1x2048, .f32⟩
  | 66 => ⟨S64x2048x64, .f32⟩
  | 67 => ⟨S64x64x2048, .f32⟩
  | 68 => ⟨S64x64x2048, .f32⟩
  | 69 => ⟨S64x1x1, .f32⟩
  | 70 => ⟨S64x1, .f32⟩
  | 71 => ⟨S64x1x2048, .f32⟩
  | 72 => ⟨S64x2048x64, .f32⟩
  | 73 => ⟨S64x64x2048, .f32⟩
  | 74 => ⟨S64x64x2048, .f32⟩
  | 75 => ⟨S64x1x1, .f32⟩
  | 76 => ⟨S64x1, .f32⟩
  | 77 => ⟨S64x1x2048, .f32⟩
  | 78 => ⟨S64x2048x64, .f32⟩
  | 79 => ⟨S64x64x2048, .f32⟩
  | 80 => ⟨S64x64x2048, .f32⟩
  | 81 => ⟨S64x1x1, .f32⟩
  | 82 => ⟨S64x1, .f32⟩
  | 83 => ⟨S64x1x2048, .f32⟩
  | 84 => ⟨S64x2048x64, .f32⟩
  | 85 => ⟨S64x64x2048, .f32⟩
  | 86 => ⟨S64x64x2048, .f32⟩
  | 87 => ⟨S64x1x1, .f32⟩
  | 88 => ⟨S64x1, .f32⟩
  | 89 => ⟨S64x1x2048, .f32⟩
  | 90 => ⟨S64x2048x64, .f32⟩
  | 91 => ⟨S64x64x2048, .f32⟩
  | 92 => ⟨S64x64x2048, .f32⟩
  | 93 => ⟨S64x1x1, .f32⟩
  | 94 => ⟨S64x1, .f32⟩
  | 95 => ⟨S64x1x2048, .f32⟩
  | 96 => ⟨S64x2048x64, .f32⟩
  | 97 => ⟨S64x64x2048, .f32⟩
  | 98 => ⟨S64x64x2048, .f32⟩
  | 99 => ⟨S64x1x1, .f32⟩
  | 100 => ⟨S64x1, .f32⟩
  | 101 => ⟨S64x1x2048, .f32⟩
  | 102 => ⟨S64x2048x64, .f32⟩
  | 103 => ⟨S64x64x2048, .f32⟩
  | 104 => ⟨S64x64x2048, .f32⟩
  | 105 => ⟨S_, .f32⟩
  | 106 => ⟨S64x64x2048, .f32⟩
  | 107 => ⟨S64x64x2048, .i1⟩
  | 108 => ⟨S_, .f32⟩
  | 109 => ⟨S64x64x2048, .f32⟩
  | 110 => ⟨S64x64x2048, .f32⟩
  | 111 => ⟨S64x64x2048, .f32⟩
  | 112 => ⟨S_, .i32⟩
  | 113 => ⟨S_, .f32⟩
  | 114 => ⟨S64x64x2054, .f32⟩
  | 115 => ⟨S128x64x1, .f32⟩
  | 116 => ⟨S128x64, .f32⟩
  | 117 => ⟨S64x64x1024, .f32⟩
  | 118 => ⟨S64x1024x128, .f32⟩
  | 119 => ⟨S64x128x1024, .f32⟩
  | 120 => ⟨S128x64x1, .f32⟩
  | 121 => ⟨S128x64, .f32⟩
  | 122 => ⟨S64x64x1024, .f32⟩
  | 123 => ⟨S64x1024x128, .f32⟩
  | 124 => ⟨S64x128x1024, .f32⟩
  | 125 => ⟨S64x128x1024, .f32⟩
  | 126 => ⟨S128x64x1, .f32⟩
  | 127 => ⟨S128x64, .f32⟩
  | _ => ⟨S64x1x4096, .f32⟩

abbrev hbmTy0_1 (i : Nat) : BufTy := match i % 128 with
  | 0 => ⟨S64x64x1024, .f32⟩
  | 1 => ⟨S64x1024x128, .f32⟩
  | 2 => ⟨S64x128x1024, .f32⟩
  | 3 => ⟨S64x128x1024, .f32⟩
  | 4 => ⟨S128x64x1, .f32⟩
  | 5 => ⟨S128x64, .f32⟩
  | 6 => ⟨S64x64x1024, .f32⟩
  | 7 => ⟨S64x1024x128, .f32⟩
  | 8 => ⟨S64x128x1024, .f32⟩
  | 9 => ⟨S64x128x1024, .f32⟩
  | 10 => ⟨S128x64x1, .f32⟩
  | 11 => ⟨S128x64, .f32⟩
  | 12 => ⟨S64x64x1024, .f32⟩
  | 13 => ⟨S64x1024x128, .f32⟩
  | 14 => ⟨S64x128x1024, .f32⟩
  | 15 => ⟨S64x128x1024, .f32⟩
  | 16 => ⟨S128x64x1, .f32⟩
  | 17 => ⟨S128x64, .f32⟩
  | 18 => ⟨S64x64x1024, .f32⟩
  | 19 => ⟨S64x1024x128, .f32⟩
  | 20 => ⟨S64x128x1024, .f32⟩
  | 21 => ⟨S64x128x1024, .f32⟩
  | 22 => ⟨S128x64x1, .f32⟩
  | 23 => ⟨S128x64, .f32⟩
  | 24 => ⟨S64x64x1024, .f32⟩
  | 25 => ⟨S64x1024x128, .f32⟩
  | 26 => ⟨S64x128x1024, .f32⟩
  | 27 => ⟨S64x128x1024, .f32⟩
  | 28 => ⟨S128x64x1, .f32⟩
  | 29 => ⟨S128x64, .f32⟩
  | 30 => ⟨S64x64x1024, .f32⟩
  | 31 => ⟨S64x1024x128, .f32⟩
  | 32 => ⟨S64x128x1024, .f32⟩
  | 33 => ⟨S64x128x1024, .f32⟩
  | 34 => ⟨S_, .f32⟩
  | 35 => ⟨S64x128x1024, .f32⟩
  | 36 => ⟨S64x128x1024, .i1⟩
  | 37 => ⟨S_, .f32⟩
  | 38 => ⟨S64x128x1024, .f32⟩
  | 39 => ⟨S64x128x1024, .f32⟩
  | 40 => ⟨S64x128x1024, .f32⟩
  | 41 => ⟨S_, .i32⟩
  | 42 => ⟨S_, .f32⟩
  | 43 => ⟨S64x128x1026, .f32⟩
  | 44 => ⟨S128x128x1, .f32⟩
  | 45 => ⟨S128x128, .f32⟩
  | 46 => ⟨S64x128x512, .f32⟩
  | 47 => ⟨S64x512x128, .f32⟩
  | 48 => ⟨S64x128x512, .f32⟩
  | 49 => ⟨S128x128x1, .f32⟩
  | 50 => ⟨S128x128, .f32⟩
  | 51 => ⟨S64x128x512, .f32⟩
  | 52 => ⟨S64x512x128, .f32⟩
  | 53 => ⟨S64x128x512, .f32⟩
  | 54 => ⟨S64x128x512, .f32⟩
  | 55 => ⟨S128x128x1, .f32⟩
  | 56 => ⟨S128x128, .f32⟩
  | 57 => ⟨S64x128x512, .f32⟩
  | 58 => ⟨S64x512x128, .f32⟩
  | 59 => ⟨S64x128x512, .f32⟩
  | 60 => ⟨S64x128x512, .f32⟩
  | 61 => ⟨S128x128x1, .f32⟩
  | 62 => ⟨S128x128, .f32⟩
  | 63 => ⟨S64x128x512, .f32⟩
  | 64 => ⟨S64x512x128, .f32⟩
  | 65 => ⟨S64x128x512, .f32⟩
  | 66 => ⟨S64x128x512, .f32⟩
  | 67 => ⟨S_, .f32⟩
  | 68 => ⟨S64x128x512, .f32⟩
  | 69 => ⟨S64x128x512, .i1⟩
  | 70 => ⟨S_, .f32⟩
  | 71 => ⟨S64x128x512, .f32⟩
  | 72 => ⟨S64x128x512, .f32⟩
  | 73 => ⟨S64x128x512, .f32⟩
  | 74 => ⟨S_, .i32⟩
  | 75 => ⟨S_, .f32⟩
  | 76 => ⟨S64x128x512, .f32⟩
  | 77 => ⟨S64x128, .f32⟩
  | 78 => ⟨S64x512x64, .f32⟩
  | 79 => ⟨S64x64x512, .f32⟩
  | 80 => ⟨S1x64x1, .f32⟩
  | 81 => ⟨S64x64x512, .f32⟩
  | 82 => ⟨S64x64x512, .f32⟩
  | 83 => ⟨S64x512x64, .f32⟩
  | 84 => ⟨S32768x64, .f32⟩
  | 85 => ⟨S32768x64, .f32⟩
  | 86 => ⟨S_, .f32⟩
  | 87 => ⟨S32768, .f32⟩
  | 88 => ⟨S32768x1, .f32⟩
  | 89 => ⟨S1024x64, .f32⟩
  | 90 => ⟨S_, .f32⟩
  | 91 => ⟨S1024, .f32⟩
  | 92 => ⟨S1x1024, .f32⟩
  | 93 => ⟨S32768x1024, .f32⟩
  | 94 => ⟨S32768x1024, .f32⟩
  | 95 => ⟨S32768x1024, .f32⟩
  | 96 => ⟨S64x1024, .f32⟩
  | 97 => ⟨S32768x1024, .f32⟩
  | 98 => ⟨S_, .f32⟩
  | 99 => ⟨S32768x1024, .f32⟩
  | 100 => ⟨S32768x1024, .f32⟩
  | 101 => ⟨S32768x1024, .f32⟩
  | 102 => ⟨S32768x1024, .i32⟩
  | 103 => ⟨S_, .f32⟩
  | 104 => ⟨S_, .i32⟩
  | 105 => ⟨S32768, .f32⟩
  | 106 => ⟨S32768, .i32⟩
  | 107 => ⟨S32768x1, .i32⟩
  | 108 => ⟨S1x1024, .i32⟩
  | 109 => ⟨S32768x1024, .i32⟩
  | 110 => ⟨S32768x1024, .i32⟩
  | 111 => ⟨S32768x1024, .i1⟩
  | 112 => ⟨S32768x1024, .f32⟩
  | 113 => ⟨S32768x64, .f32⟩
  | 114 => ⟨S64x512x64, .f32⟩
  | 115 => ⟨S64x512x64, .f32⟩
  | 116 => ⟨S64x512x64, .f32⟩
  | 117 => ⟨S64x512x64, .f32⟩
  | 118 => ⟨S64x512x64, .f32⟩
  | 119 => ⟨S_, .f32⟩
  | 120 => ⟨S_, .f32⟩
  | 121 => ⟨S64x64x512, .f32⟩
  | 122 => ⟨S_, .f32⟩
  | 123 => ⟨S1024, .f32⟩
  | 124 => ⟨S1024x1, .f32⟩
  | 125 => ⟨S1x1, .f32⟩
  | _ => ⟨S64x1x4096, .f32⟩

abbrev hbmTy (i : Nat) : BufTy := match i / 128 with
  | 0 => hbmTy0_0 i
  | 1 => hbmTy0_1 i
  | _ => ⟨S64x1x4096, .f32⟩

abbrev bufTy : (tb : Table) → Fin (tcTables nBuf tb) → BufTy
  | .hbm, ⟨i, _⟩ => hbmTy i
  | _, _ => ⟨S64x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_cst : Ref sig .tc := ⟨.hbm, 105, rfl⟩
abbrev main_v96 : Ref sig .tc := ⟨.hbm, 106, rfl⟩
abbrev main_v97 : Ref sig .tc := ⟨.hbm, 107, rfl⟩
abbrev main_cst_0 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_c_1 : Ref sig .tc := ⟨.hbm, 112, rfl⟩
abbrev main_call2_v0 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_cst_2 : Ref sig .tc := ⟨.hbm, 162, rfl⟩
abbrev main_v149 : Ref sig .tc := ⟨.hbm, 163, rfl⟩
abbrev main_v150 : Ref sig .tc := ⟨.hbm, 164, rfl⟩
abbrev main_cst_3 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_c_4 : Ref sig .tc := ⟨.hbm, 169, rfl⟩
abbrev main_call4_v0 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_cst_5 : Ref sig .tc := ⟨.hbm, 195, rfl⟩
abbrev main_v178 : Ref sig .tc := ⟨.hbm, 196, rfl⟩
abbrev main_v179 : Ref sig .tc := ⟨.hbm, 197, rfl⟩
abbrev main_cst_6 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_c_7 : Ref sig .tc := ⟨.hbm, 202, rfl⟩
abbrev main_call6_v0 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_cst_8 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_cst_9 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_cst_10 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_call7_v0 : Ref sig .tc := ⟨.hbm, 230, rfl⟩
abbrev main_call7_cst : Ref sig .tc := ⟨.hbm, 231, rfl⟩
abbrev main_call7_c : Ref sig .tc := ⟨.hbm, 232, rfl⟩
abbrev main_call7_v1_0 : Ref sig .tc := ⟨.hbm, 233, rfl⟩
abbrev main_v206 : Ref sig .tc := ⟨.hbm, 234, rfl⟩
abbrev main_call8_v0 : Ref sig .tc := ⟨.hbm, 235, rfl⟩
abbrev main_call8_v1 : Ref sig .tc := ⟨.hbm, 236, rfl⟩
abbrev main_call8_v2 : Ref sig .tc := ⟨.hbm, 237, rfl⟩
abbrev main_call8_v3 : Ref sig .tc := ⟨.hbm, 238, rfl⟩
abbrev main_call8_v4 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_cst_11 : Ref sig .tc := ⟨.hbm, 247, rfl⟩
abbrev main_v214 : Ref sig .tc := ⟨.hbm, 248, rfl⟩
abbrev main_v215 : Ref sig .tc := ⟨.hbm, 249, rfl⟩
abbrev main_cst_12 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩

abbrev nD : Nat := 1
abbrev τ : Topo := Topo.v7x

variable {F : FTy → Type} [FloatOps F]
-- ==== Reg.lean ====
abbrev S64x64x512 : Shape := ⟨3, ![64, 64, 512]⟩
abbrev S1024x1 : Shape := ⟨2, ![1024, 1]⟩
abbrev S1x1 : Shape := ⟨2, ![1, 1]⟩
abbrev S256x32768 : Shape := ⟨2, ![256, 32768]⟩
abbrev S256 : Shape := ⟨1, ![256]⟩
abbrev S6x256 : Shape := ⟨2, ![6, 256]⟩
abbrev S6 : Shape := ⟨1, ![6]⟩
abbrev S1x256 : Shape := ⟨2, ![1, 256]⟩
abbrev S256x6 : Shape := ⟨2, ![256, 6]⟩
abbrev S1x6 : Shape := ⟨2, ![1, 6]⟩
abbrev S64x6 : Shape := ⟨2, ![64, 6]⟩
abbrev S64x8x512 : Shape := ⟨3, ![64, 8, 512]⟩
abbrev S256x4096 : Shape := ⟨2, ![256, 4096]⟩
abbrev S64x256 : Shape := ⟨2, ![64, 256]⟩
abbrev S64x1x512 : Shape := ⟨3, ![64, 1, 512]⟩
abbrev S64x512 : Shape := ⟨2, ![64, 512]⟩
abbrev S256x512 : Shape := ⟨2, ![256, 512]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 13
  | .vmem => 13
  | .smem => 0
  | _ => 0

abbrev bufTy : (tb : Table) → Fin (tcTables nBuf tb) → BufTy
  | .hbm, ⟨0, _⟩ => ⟨S64x64x512, .f32⟩
  | .hbm, ⟨1, _⟩ => ⟨S1024x1, .f32⟩
  | .hbm, ⟨2, _⟩ => ⟨S1x1, .f32⟩
  | .hbm, ⟨3, _⟩ => ⟨S256x32768, .f32⟩
  | .hbm, ⟨4, _⟩ => ⟨S256, .f32⟩
  | .hbm, ⟨5, _⟩ => ⟨S6x256, .f32⟩
  | .hbm, ⟨6, _⟩ => ⟨S6, .f32⟩
  | .hbm, ⟨7, _⟩ => ⟨S1x256, .f32⟩
  | .hbm, ⟨8, _⟩ => ⟨S256x6, .f32⟩
  | .hbm, ⟨9, _⟩ => ⟨S1x6, .f32⟩
  | .hbm, ⟨10, _⟩ => ⟨S64x6, .f32⟩
  | .hbm, ⟨11, _⟩ => ⟨S1x1, .f32⟩
  | .hbm, ⟨12, _⟩ => ⟨S1x1, .f32⟩
  | .local _ .vmem, ⟨0, _⟩ => ⟨S64x8x512, .f32⟩
  | .local _ .vmem, ⟨1, _⟩ => ⟨S64x8x512, .f32⟩
  | .local _ .vmem, ⟨2, _⟩ => ⟨S256x4096, .f32⟩
  | .local _ .vmem, ⟨3, _⟩ => ⟨S256x4096, .f32⟩
  | .local _ .vmem, ⟨4, _⟩ => ⟨S1x256, .f32⟩
  | .local _ .vmem, ⟨5, _⟩ => ⟨S256x6, .f32⟩
  | .local _ .vmem, ⟨6, _⟩ => ⟨S1x6, .f32⟩
  | .local _ .vmem, ⟨7, _⟩ => ⟨S1024x1, .f32⟩
  | .local _ .vmem, ⟨8, _⟩ => ⟨S1x1, .f32⟩
  | .local _ .vmem, ⟨9, _⟩ => ⟨S64x6, .f32⟩
  | .local _ .vmem, ⟨10, _⟩ => ⟨S1x1, .f32⟩
  | .local _ .vmem, ⟨11, _⟩ => ⟨S1x1, .f32⟩
  | .local _ .vmem, ⟨12, _⟩ => ⟨S64x256, .f32⟩
  | _, _ => ⟨S64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v47 : BitVec 1 := Scalar.cmpi .eq arg0 c7_i32
  let v48 : BitVec 32 := Scalar.extui v47
  let c0_i32_36 : BitVec 32 := 0#32
  let v49 : BitVec 1 := Scalar.cmpi .ne v48 c0_i32_36
  v49

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RegRefIdeal.lean ====
abbrev S64x64x512 : Shape := ⟨3, ![64, 64, 512]⟩
abbrev S1024x1 : Shape := ⟨2, ![1024, 1]⟩
abbrev S1x1 : Shape := ⟨2, ![1, 1]⟩
abbrev S256x32768 : Shape := ⟨2, ![256, 32768]⟩
abbrev S256 : Shape := ⟨1, ![256]⟩
abbrev S6x256 : Shape := ⟨2, ![6, 256]⟩
abbrev S6 : Shape := ⟨1, ![6]⟩
abbrev S64x32768 : Shape := ⟨2, ![64, 32768]⟩
abbrev S32768x256 : Shape := ⟨2, ![32768, 256]⟩
abbrev S64x256 : Shape := ⟨2, ![64, 256]⟩
abbrev S1x256 : Shape := ⟨2, ![1, 256]⟩
abbrev S256x6 : Shape := ⟨2, ![256, 6]⟩
abbrev S64x6 : Shape := ⟨2, ![64, 6]⟩
abbrev S1x6 : Shape := ⟨2, ![1, 6]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S64x64x512, .f32⟩
  | .hbm, ⟨1, _⟩ => ⟨S1024x1, .f32⟩
  | .hbm, ⟨2, _⟩ => ⟨S1x1, .f32⟩
  | .hbm, ⟨3, _⟩ => ⟨S256x32768, .f32⟩
  | .hbm, ⟨4, _⟩ => ⟨S256, .f32⟩
  | .hbm, ⟨5, _⟩ => ⟨S6x256, .f32⟩
  | .hbm, ⟨6, _⟩ => ⟨S6, .f32⟩
  | .hbm, ⟨7, _⟩ => ⟨S64x32768, .f32⟩
  | .hbm, ⟨8, _⟩ => ⟨S32768x256, .f32⟩
  | .hbm, ⟨9, _⟩ => ⟨S64x256, .f32⟩
  | .hbm, ⟨10, _⟩ => ⟨S1x256, .f32⟩
  | .hbm, ⟨11, _⟩ => ⟨S64x256, .f32⟩
  | .hbm, ⟨12, _⟩ => ⟨S64x256, .f32⟩
  | .hbm, ⟨13, _⟩ => ⟨S256x6, .f32⟩
  | .hbm, ⟨14, _⟩ => ⟨S64x6, .f32⟩
  | .hbm, ⟨15, _⟩ => ⟨S1x6, .f32⟩
  | .hbm, ⟨16, _⟩ => ⟨S64x6, .f32⟩
  | .hbm, ⟨17, _⟩ => ⟨S64x6, .f32⟩
  | .hbm, ⟨18, _⟩ => ⟨S64x6, .f32⟩
  | .hbm, ⟨19, _⟩ => ⟨S64x6, .f32⟩
  | .hbm, ⟨20, _⟩ => ⟨S_, .f32⟩
  | .hbm, ⟨21, _⟩ => ⟨S64x6, .f32⟩
  | .hbm, ⟨22, _⟩ => ⟨S64x6, .f32⟩
  | .hbm, ⟨23, _⟩ => ⟨S_, .f32⟩
  | .hbm, ⟨24, _⟩ => ⟨S64x6, .f32⟩
  | .hbm, ⟨25, _⟩ => ⟨S64x6, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S1024x1, .f32⟩
  | .hbm, ⟨33, _⟩ => ⟨S1024x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x1, .f32⟩
  | .hbm, ⟨40, _⟩ => ⟨S1x1, .f32⟩
  | .hbm, ⟨41, _⟩ => ⟨S_, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S_, .f32⟩
  | .hbm, ⟨46, _⟩ => ⟨S1x1, .f32⟩
  | .hbm, ⟨47, _⟩ => ⟨S1x1, .f32⟩
  | .hbm, ⟨48, _⟩ => ⟨S1x1, .f32⟩
  | _, _ => ⟨S64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Dec.lean ====
abbrev S64x64x512 : Shape := ⟨3, ![64, 64, 512]⟩
abbrev S128x64x3 : Shape := ⟨3, ![128, 64, 3]⟩
abbrev S128 : Shape := ⟨1, ![128]⟩
abbrev S128x128x4 : Shape := ⟨3, ![128, 128, 4]⟩
abbrev S128x64x8 : Shape := ⟨3, ![128, 64, 8]⟩
abbrev S64x1x16 : Shape := ⟨3, ![64, 1, 16]⟩
abbrev S2x3 : Shape := ⟨2, ![2, 3]⟩
abbrev S4x6 : Shape := ⟨2, ![4, 6]⟩
abbrev S8x12 : Shape := ⟨2, ![8, 12]⟩
abbrev S128x3x64 : Shape := ⟨3, ![128, 3, 64]⟩
abbrev S128x192 : Shape := ⟨2, ![128, 192]⟩
abbrev S128x1 : Shape := ⟨2, ![128, 1]⟩
abbrev S_ : Shape := ⟨0, ![]⟩
abbrev S128x128x1 : Shape := ⟨3, ![128, 128, 1]⟩
abbrev S128x128x5 : Shape := ⟨3, ![128, 128, 5]⟩
abbrev S2x3x1 : Shape := ⟨3, ![2, 3, 1]⟩
abbrev S128x128x2x3 : Shape := ⟨4, ![128, 128, 2, 3]⟩
abbrev S2x128x3x128 : Shape := ⟨4, ![2, 128, 3, 128]⟩
abbrev S256x384 : Shape := ⟨2, ![256, 384]⟩
abbrev S64x128x8 : Shape := ⟨3, ![64, 128, 8]⟩
abbrev S64x128x1 : Shape := ⟨3, ![64, 128, 1]⟩
abbrev S64x128x9 : Shape := ⟨3, ![64, 128, 9]⟩
abbrev S4x6x1 : Shape := ⟨3, ![4, 6, 1]⟩
abbrev S64x128x4x6 : Shape := ⟨4, ![64, 128, 4, 6]⟩
abbrev S4x64x6x128 : Shape := ⟨4, ![4, 64, 6, 128]⟩
abbrev S256x768 : Shape := ⟨2, ![256, 768]⟩
abbrev S1x64x16 : Shape := ⟨3, ![1, 64, 16]⟩
abbrev S64x16 : Shape := ⟨2, ![64, 16]⟩
abbrev S64x1 : Shape := ⟨2, ![64, 1]⟩
abbrev S64x17 : Shape := ⟨2, ![64, 17]⟩
abbrev S8x12x1 : Shape := ⟨3, ![8, 12, 1]⟩
abbrev S64x8x12 : Shape := ⟨3, ![64, 8, 12]⟩
abbrev S8x12x64 : Shape := ⟨3, ![8, 12, 64]⟩
abbrev S8x768 : Shape := ⟨2, ![8, 768]⟩
abbrev S64x8x512 : Shape := ⟨3, ![64, 8, 512]⟩
abbrev S8x64x512 : Shape := ⟨3, ![8, 64, 512]⟩
abbrev S8x8x512 : Shape := ⟨3, ![8, 8, 512]⟩
abbrev S8x64x514 : Shape := ⟨3, ![8, 64, 514]⟩
abbrev S8x128x514 : Shape := ⟨3, ![8, 128, 514]⟩
abbrev S8x256x514 : Shape := ⟨3, ![8, 256, 514]⟩
abbrev S8x64x1 : Shape := ⟨3, ![8, 64, 1]⟩
abbrev S8x128x1 : Shape := ⟨3, ![8, 128, 1]⟩
abbrev S8x256x1 : Shape := ⟨3, ![8, 256, 1]⟩
abbrev S1x64x512 : Shape := ⟨3, ![1, 64, 512]⟩
abbrev S64x512 : Shape := ⟨2, ![64, 512]⟩
abbrev S192x512 : Shape := ⟨2, ![192, 512]⟩
abbrev S128x512 : Shape := ⟨2, ![128, 512]⟩
abbrev S1x128x512 : Shape := ⟨3, ![1, 128, 512]⟩
abbrev S384x512 : Shape := ⟨2, ![384, 512]⟩
abbrev S256x512 : Shape := ⟨2, ![256, 512]⟩
abbrev S1x256x512 : Shape := ⟨3, ![1, 256, 512]⟩
abbrev S768x512 : Shape := ⟨2, ![768, 512]⟩
abbrev S8x512 : Shape := ⟨2, ![8, 512]⟩
abbrev S1x8x512 : Shape := ⟨3, ![1, 8, 512]⟩

abbrev nBuf : Space → Nat
  | .hbm => 56
  | .vmem => 13
  | .smem => 0
  | _ => 0

abbrev bufTy : (tb : Table) → Fin (tcTables nBuf tb) → BufTy
  | .hbm, ⟨0, _⟩ => ⟨S64x64x512, .f32⟩
  | .hbm, ⟨1, _⟩ => ⟨S128x64x3, .f32⟩
  | .hbm, ⟨2, _⟩ => ⟨S128, .f32⟩
  | .hbm, ⟨3, _⟩ => ⟨S128x128x4, .f32⟩
  | .hbm, ⟨4, _⟩ => ⟨S128x64x8, .f32⟩
  | .hbm, ⟨5, _⟩ => ⟨S64x1x16, .f32⟩
  | .hbm, ⟨6, _⟩ => ⟨S2x3, .i32⟩
  | .hbm, ⟨7, _⟩ => ⟨S2x3, .i1⟩
  | .hbm, ⟨8, _⟩ => ⟨S4x6, .i32⟩
  | .hbm, ⟨9, _⟩ => ⟨S4x6, .i1⟩
  | .hbm, ⟨10, _⟩ => ⟨S8x12, .i32⟩
  | .hbm, ⟨11, _⟩ => ⟨S8x12, .i1⟩
  | .hbm, ⟨12, _⟩ => ⟨S128x3x64, .f32⟩
  | .hbm, ⟨13, _⟩ => ⟨S128x192, .f32⟩
  | .hbm, ⟨14, _⟩ => ⟨S128x1, .f32⟩
  | .hbm, ⟨15, _⟩ => ⟨S128x128x4, .f32⟩
  | .hbm, ⟨16, _⟩ => ⟨S128x128x4, .f32⟩
  | .hbm, ⟨17, _⟩ => ⟨S_, .f32⟩
  | .hbm, ⟨18, _⟩ => ⟨S128x128x1, .f32⟩
  | .hbm, ⟨19, _⟩ => ⟨S128x128x5, .f32⟩
  | .hbm, ⟨20, _⟩ => ⟨S_, .i32⟩
  | .hbm, ⟨21, _⟩ => ⟨S2x3, .i32⟩
  | .hbm, ⟨22, _⟩ => ⟨S2x3, .i32⟩
  | .hbm, ⟨23, _⟩ => ⟨S2x3, .i32⟩
  | .hbm, ⟨24, _⟩ => ⟨S2x3x1, .i32⟩
  | .hbm, ⟨25, _⟩ => ⟨S128x128x2x3, .f32⟩
  | .hbm, ⟨26, _⟩ => ⟨S2x128x3x128, .f32⟩
  | .hbm, ⟨27, _⟩ => ⟨S256x384, .f32⟩
  | .hbm, ⟨28, _⟩ => ⟨S128x64x8, .f32⟩
  | .hbm, ⟨29, _⟩ => ⟨S64x128x8, .f32⟩
  | .hbm, ⟨30, _⟩ => ⟨S_, .f32⟩
  | .hbm, ⟨31, _⟩ => ⟨S64x128x1, .f32⟩
  | .hbm, ⟨32, _⟩ => ⟨S64x128x9, .f32⟩
  | .hbm, ⟨33, _⟩ => ⟨S_, .i32⟩
  | .hbm, ⟨34, _⟩ => ⟨S4x6, .i32⟩
  | .hbm, ⟨35, _⟩ => ⟨S4x6, .i32⟩
  | .hbm, ⟨36, _⟩ => ⟨S4x6, .i32⟩
  | .hbm, ⟨37, _⟩ => ⟨S4x6x1, .i32⟩
  | .hbm, ⟨38, _⟩ => ⟨S64x128x4x6, .f32⟩
  | .hbm, ⟨39, _⟩ => ⟨S4x64x6x128, .f32⟩
  | .hbm, ⟨40, _⟩ => ⟨S256x768, .f32⟩
  | .hbm, ⟨41, _⟩ => ⟨S64x1x16, .f32⟩
  | .hbm, ⟨42, _⟩ => ⟨S1x64x16, .f32⟩
  | .hbm, ⟨43, _⟩ => ⟨S64x16, .f32⟩
  | .hbm, ⟨44, _⟩ => ⟨S_, .f32⟩
  | .hbm, ⟨45, _⟩ => ⟨S64x1, .f32⟩
  | .hbm, ⟨46, _⟩ => ⟨S64x17, .f32⟩
  | .hbm, ⟨47, _⟩ => ⟨S_, .i32⟩
  | .hbm, ⟨48, _⟩ => ⟨S8x12, .i32⟩
  | .hbm, ⟨49, _⟩ => ⟨S8x12, .i32⟩
  | .hbm, ⟨50, _⟩ => ⟨S8x12, .i32⟩
  | .hbm, ⟨51, _⟩ => ⟨S8x12x1, .i32⟩
  | .hbm, ⟨52, _⟩ => ⟨S64x8x12, .f32⟩
  | .hbm, ⟨53, _⟩ => ⟨S8x12x64, .f32⟩
  | .hbm, ⟨54, _⟩ => ⟨S8x768, .f32⟩
  | .hbm, ⟨55, _⟩ => ⟨S64x8x512, .f32⟩
  | .local _ .vmem, ⟨0, _⟩ => ⟨S8x64x512, .f32⟩
  | .local _ .vmem, ⟨1, _⟩ => ⟨S8x64x512, .f32⟩
  | .local _ .vmem, ⟨2, _⟩ => ⟨S128x192, .f32⟩
  | .local _ .vmem, ⟨3, _⟩ => ⟨S128x1, .f32⟩
  | .local _ .vmem, ⟨4, _⟩ => ⟨S256x384, .f32⟩
  | .local _ .vmem, ⟨5, _⟩ => ⟨S256x768, .f32⟩
  | .local _ .vmem, ⟨6, _⟩ => ⟨S8x768, .f32⟩
  | .local _ .vmem, ⟨7, _⟩ => ⟨S8x8x512, .f32⟩
  | .local _ .vmem, ⟨8, _⟩ => ⟨S8x8x512, .f32⟩
  | .local _ .vmem, ⟨9, _⟩ => ⟨S8x64x514, .f32⟩
  | .local _ .vmem, ⟨10, _⟩ => ⟨S8x128x514, .f32⟩
  | .local _ .vmem, ⟨11, _⟩ => ⟨S8x256x514, .f32⟩
  | .local _ .vmem, ⟨12, _⟩ => ⟨S8x256x514, .f32⟩
  | _, _ => ⟨S64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_c_5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DecRefIdeal.lean ====
abbrev S64x64x512 : Shape := ⟨3, ![64, 64, 512]⟩
abbrev S128x64x3 : Shape := ⟨3, ![128, 64, 3]⟩
abbrev S128 : Shape := ⟨1, ![128]⟩
abbrev S128x128x4 : Shape := ⟨3, ![128, 128, 4]⟩
abbrev S128x64x8 : Shape := ⟨3, ![128, 64, 8]⟩
abbrev S64x1x16 : Shape := ⟨3, ![64, 1, 16]⟩
abbrev S_ : Shape := ⟨0, ![]⟩
abbrev S64x64x514 : Shape := ⟨3, ![64, 64, 514]⟩
abbrev S128x64x1 : Shape := ⟨3, ![128, 64, 1]⟩
abbrev S128x64 : Shape := ⟨2, ![128, 64]⟩
abbrev S64x512x128 : Shape := ⟨3, ![64, 512, 128]⟩
abbrev S64x128x512 : Shape := ⟨3, ![64, 128, 512]⟩
abbrev S1x128x1 : Shape := ⟨3, ![1, 128, 1]⟩
abbrev S64x128x1023 : Shape := ⟨3, ![64, 128, 1023]⟩
abbrev S64x128x1027 : Shape := ⟨3, ![64, 128, 1027]⟩
abbrev S128x128x1 : Shape := ⟨3, ![128, 128, 1]⟩
abbrev S128x128 : Shape := ⟨2, ![128, 128]⟩
abbrev S64x128x1024 : Shape := ⟨3, ![64, 128, 1024]⟩
abbrev S64x1024x128 : Shape := ⟨3, ![64, 1024, 128]⟩
abbrev S64x128x8 : Shape := ⟨3, ![64, 128, 8]⟩
abbrev S64x128x2047 : Shape := ⟨3, ![64, 128, 2047]⟩
abbrev S64x128x2055 : Shape := ⟨3, ![64, 128, 2055]⟩
abbrev S64x128x1 : Shape := ⟨3, ![64, 128, 1]⟩
abbrev S64x128 : Shape := ⟨2, ![64, 128]⟩
abbrev S64x128x2048 : Shape := ⟨3, ![64, 128, 2048]⟩
abbrev S64x2048x64 : Shape := ⟨3, ![64, 2048, 64]⟩
abbrev S64x64x2048 : Shape := ⟨3, ![64, 64, 2048]⟩
abbrev S1x64x16 : Shape := ⟨3, ![1, 64, 16]⟩
abbrev S64x64x4095 : Shape := ⟨3, ![64, 64, 4095]⟩
abbrev S64x64x4111 : Shape := ⟨3, ![64, 64, 4111]⟩
abbrev S1x64x1 : Shape := ⟨3, ![1, 64, 1]⟩
abbrev S1x64 : Shape := ⟨2, ![1, 64]⟩
abbrev S64x64x4096 : Shape := ⟨3, ![64, 64, 4096]⟩
abbrev S64x4096x1 : Shape := ⟨3, ![64, 4096, 1]⟩
abbrev S64x1x4096 : Shape := ⟨3, ![64, 1, 4096]⟩
abbrev S64x512x8 : Shape := ⟨3, ![64, 512, 8]⟩
abbrev S64x8x512 : Shape := ⟨3, ![64, 8, 512]⟩

abbrev nBuf : Space → Nat
  | .hbm => 239
  | .vmem => 0
  | .smem => 0
  | _ => 0

abbrev hbmTy0_0 (i : Nat) : BufTy := match i % 128 with
  | 0 => ⟨S64x64x512, .f32⟩
  | 1 => ⟨S128x64x3, .f32⟩
  | 2 => ⟨S128, .f32⟩
  | 3 => ⟨S128x128x4, .f32⟩
  | 4 => ⟨S128x64x8, .f32⟩
  | 5 => ⟨S64x1x16, .f32⟩
  | 6 => ⟨S_, .i32⟩
  | 7 => ⟨S_, .f32⟩
  | 8 => ⟨S64x64x514, .f32⟩
  | 9 => ⟨S128x64x1, .f32⟩
  | 10 => ⟨S128x64, .f32⟩
  | 11 => ⟨S64x64x512, .f32⟩
  | 12 => ⟨S64x512x128, .f32⟩
  | 13 => ⟨S64x128x512, .f32⟩
  | 14 => ⟨S128x64x1, .f32⟩
  | 15 => ⟨S128x64, .f32⟩
  | 16 => ⟨S64x64x512, .f32⟩
  | 17 => ⟨S64x512x128, .f32⟩
  | 18 => ⟨S64x128x512, .f32⟩
  | 19 => ⟨S64x128x512, .f32⟩
  | 20 => ⟨S128x64x1, .f32⟩
  | 21 => ⟨S128x64, .f32⟩
  | 22 => ⟨S64x64x512, .f32⟩
  | 23 => ⟨S64x512x128, .f32⟩
  | 24 => ⟨S64x128x512, .f32⟩
  | 25 => ⟨S64x128x512, .f32⟩
  | 26 => ⟨S1x128x1, .f32⟩
  | 27 => ⟨S64x128x512, .f32⟩
  | 28 => ⟨S64x128x512, .f32⟩
  | 29 => ⟨S128x128x4, .f32⟩
  | 30 => ⟨S128x128x4, .f32⟩
  | 31 => ⟨S_, .f32⟩
  | 32 => ⟨S64x128x1023, .f32⟩
  | 33 => ⟨S_, .i32⟩
  | 34 => ⟨S_, .f32⟩
  | 35 => ⟨S64x128x1027, .f32⟩
  | 36 => ⟨S128x128x1, .f32⟩
  | 37 => ⟨S128x128, .f32⟩
  | 38 => ⟨S64x128x1024, .f32⟩
  | 39 => ⟨S64x1024x128, .f32⟩
  | 40 => ⟨S64x128x1024, .f32⟩
  | 41 => ⟨S128x128x1, .f32⟩
  | 42 => ⟨S128x128, .f32⟩
  | 43 => ⟨S64x128x1024, .f32⟩
  | 44 => ⟨S64x1024x128, .f32⟩
  | 45 => ⟨S64x128x1024, .f32⟩
  | 46 => ⟨S64x128x1024, .f32⟩
  | 47 => ⟨S128x128x1, .f32⟩
  | 48 => ⟨S128x128, .f32⟩
  | 49 => ⟨S64x128x1024, .f32⟩
  | 50 => ⟨S64x1024x128, .f32⟩
  | 51 => ⟨S64x128x1024, .f32⟩
  | 52 => ⟨S64x128x1024, .f32⟩
  | 53 => ⟨S128x128x1, .f32⟩
  | 54 => ⟨S128x128, .f32⟩
  | 55 => ⟨S64x128x1024, .f32⟩
  | 56 => ⟨S64x1024x128, .f32⟩
  | 57 => ⟨S64x128x1024, .f32⟩
  | 58 => ⟨S64x128x1024, .f32⟩
  | 59 => ⟨S_, .f32⟩
  | 60 => ⟨S64x128x1024, .f32⟩
  | 61 => ⟨S64x128x1024, .i1⟩
  | 62 => ⟨S_, .f32⟩
  | 63 => ⟨S64x128x1024, .f32⟩
  | 64 => ⟨S64x128x1024, .f32⟩
  | 65 => ⟨S64x128x1024, .f32⟩
  | 66 => ⟨S128x64x8, .f32⟩
  | 67 => ⟨S64x128x8, .f32⟩
  | 68 => ⟨S_, .f32⟩
  | 69 => ⟨S64x128x2047, .f32⟩
  | 70 => ⟨S_, .i32⟩
  | 71 => ⟨S_, .f32⟩
  | 72 => ⟨S64x128x2055, .f32⟩
  | 73 => ⟨S64x128x1, .f32⟩
  | 74 => ⟨S64x128, .f32⟩
  | 75 => ⟨S64x128x2048, .f32⟩
  | 76 => ⟨S64x2048x64, .f32⟩
  | 77 => ⟨S64x64x2048, .f32⟩
  | 78 => ⟨S64x128x1, .f32⟩
  | 79 => ⟨S64x128, .f32⟩
  | 80 => ⟨S64x128x2048, .f32⟩
  | 81 => ⟨S64x2048x64, .f32⟩
  | 82 => ⟨S64x64x2048, .f32⟩
  | 83 => ⟨S64x64x2048, .f32⟩
  | 84 => ⟨S64x128x1, .f32⟩
  | 85 => ⟨S64x128, .f32⟩
  | 86 => ⟨S64x128x2048, .f32⟩
  | 87 => ⟨S64x2048x64, .f32⟩
  | 88 => ⟨S64x64x2048, .f32⟩
  | 89 => ⟨S64x64x2048, .f32⟩
  | 90 => ⟨S64x128x1, .f32⟩
  | 91 => ⟨S64x128, .f32⟩
  | 92 => ⟨S64x128x2048, .f32⟩
  | 93 => ⟨S64x2048x64, .f32⟩
  | 94 => ⟨S64x64x2048, .f32⟩
  | 95 => ⟨S64x64x2048, .f32⟩
  | 96 => ⟨S64x128x1, .f32⟩
  | 97 => ⟨S64x128, .f32⟩
  | 98 => ⟨S64x128x2048, .f32⟩
  | 99 => ⟨S64x2048x64, .f32⟩
  | 100 => ⟨S64x64x2048, .f32⟩
  | 101 => ⟨S64x64x2048, .f32⟩
  | 102 => ⟨S64x128x1, .f32⟩
  | 103 => ⟨S64x128, .f32⟩
  | 104 => ⟨S64x128x2048, .f32⟩
  | 105 => ⟨S64x2048x64, .f32⟩
  | 106 => ⟨S64x64x2048, .f32⟩
  | 107 => ⟨S64x64x2048, .f32⟩
  | 108 => ⟨S64x128x1, .f32⟩
  | 109 => ⟨S64x128, .f32⟩
  | 110 => ⟨S64x128x2048, .f32⟩
  | 111 => ⟨S64x2048x64, .f32⟩
  | 112 => ⟨S64x64x2048, .f32⟩
  | 113 => ⟨S64x64x2048, .f32⟩
  | 114 => ⟨S64x128x1, .f32⟩
  | 115 => ⟨S64x128, .f32⟩
  | 116 => ⟨S64x128x2048, .f32⟩
  | 117 => ⟨S64x2048x64, .f32⟩
  | 118 => ⟨S64x64x2048, .f32⟩
  | 119 => ⟨S64x64x2048, .f32⟩
  | 120 => ⟨S_, .f32⟩
  | 121 => ⟨S64x64x2048, .f32⟩
  | 122 => ⟨S64x64x2048, .i1⟩
  | 123 => ⟨S_, .f32⟩
  | 124 => ⟨S64x64x2048, .f32⟩
  | 125 => ⟨S64x64x2048, .f32⟩
  | 126 => ⟨S64x64x2048, .f32⟩
  | 127 => ⟨S64x1x16, .f32⟩
  | _ => ⟨S64x64x512, .f32⟩

abbrev hbmTy0_1 (i : Nat) : BufTy := match i % 128 with
  | 0 => ⟨S1x64x16, .f32⟩
  | 1 => ⟨S_, .f32⟩
  | 2 => ⟨S64x64x4095, .f32⟩
  | 3 => ⟨S_, .i32⟩
  | 4 => ⟨S_, .f32⟩
  | 5 => ⟨S64x64x4111, .f32⟩
  | 6 => ⟨S1x64x1, .f32⟩
  | 7 => ⟨S1x64, .f32⟩
  | 8 => ⟨S64x64x4096, .f32⟩
  | 9 => ⟨S64x4096x1, .f32⟩
  | 10 => ⟨S64x1x4096, .f32⟩
  | 11 => ⟨S1x64x1, .f32⟩
  | 12 => ⟨S1x64, .f32⟩
  | 13 => ⟨S64x64x4096, .f32⟩
  | 14 => ⟨S64x4096x1, .f32⟩
  | 15 => ⟨S64x1x4096, .f32⟩
  | 16 => ⟨S64x1x4096, .f32⟩
  | 17 => ⟨S1x64x1, .f32⟩
  | 18 => ⟨S1x64, .f32⟩
  | 19 => ⟨S64x64x4096, .f32⟩
  | 20 => ⟨S64x4096x1, .f32⟩
  | 21 => ⟨S64x1x4096, .f32⟩
  | 22 => ⟨S64x1x4096, .f32⟩
  | 23 => ⟨S1x64x1, .f32⟩
  | 24 => ⟨S1x64, .f32⟩
  | 25 => ⟨S64x64x4096, .f32⟩
  | 26 => ⟨S64x4096x1, .f32⟩
  | 27 => ⟨S64x1x4096, .f32⟩
  | 28 => ⟨S64x1x4096, .f32⟩
  | 29 => ⟨S1x64x1, .f32⟩
  | 30 => ⟨S1x64, .f32⟩
  | 31 => ⟨S64x64x4096, .f32⟩
  | 32 => ⟨S64x4096x1, .f32⟩
  | 33 => ⟨S64x1x4096, .f32⟩
  | 34 => ⟨S64x1x4096, .f32⟩
  | 35 => ⟨S1x64x1, .f32⟩
  | 36 => ⟨S1x64, .f32⟩
  | 37 => ⟨S64x64x4096, .f32⟩
  | 38 => ⟨S64x4096x1, .f32⟩
  | 39 => ⟨S64x1x4096, .f32⟩
  | 40 => ⟨S64x1x4096, .f32⟩
  | 41 => ⟨S1x64x1, .f32⟩
  | 42 => ⟨S1x64, .f32⟩
  | 43 => ⟨S64x64x4096, .f32⟩
  | 44 => ⟨S64x4096x1, .f32⟩
  | 45 => ⟨S64x1x4096, .f32⟩
  | 46 => ⟨S64x1x4096, .f32⟩
  | 47 => ⟨S1x64x1, .f32⟩
  | 48 => ⟨S1x64, .f32⟩
  | 49 => ⟨S64x64x4096, .f32⟩
  | 50 => ⟨S64x4096x1, .f32⟩
  | 51 => ⟨S64x1x4096, .f32⟩
  | 52 => ⟨S64x1x4096, .f32⟩
  | 53 => ⟨S1x64x1, .f32⟩
  | 54 => ⟨S1x64, .f32⟩
  | 55 => ⟨S64x64x4096, .f32⟩
  | 56 => ⟨S64x4096x1, .f32⟩
  | 57 => ⟨S64x1x4096, .f32⟩
  | 58 => ⟨S64x1x4096, .f32⟩
  | 59 => ⟨S1x64x1, .f32⟩
  | 60 => ⟨S1x64, .f32⟩
  | 61 => ⟨S64x64x4096, .f32⟩
  | 62 => ⟨S64x4096x1, .f32⟩
  | 63 => ⟨S64x1x4096, .f32⟩
  | 64 => ⟨S64x1x4096, .f32⟩
  | 65 => ⟨S1x64x1, .f32⟩
  | 66 => ⟨S1x64, .f32⟩
  | 67 => ⟨S64x64x4096, .f32⟩
  | 68 => ⟨S64x4096x1, .f32⟩
  | 69 => ⟨S64x1x4096, .f32⟩
  | 70 => ⟨S64x1x4096, .f32⟩
  | 71 => ⟨S1x64x1, .f32⟩
  | 72 => ⟨S1x64, .f32⟩
  | 73 => ⟨S64x64x4096, .f32⟩
  | 74 => ⟨S64x4096x1, .f32⟩
  | 75 => ⟨S64x1x4096, .f32⟩
  | 76 => ⟨S64x1x4096, .f32⟩
  | 77 => ⟨S1x64x1, .f32⟩
  | 78 => ⟨S1x64, .f32⟩
  | 79 => ⟨S64x64x4096, .f32⟩
  | 80 => ⟨S64x4096x1, .f32⟩
  | 81 => ⟨S64x1x4096, .f32⟩
  | 82 => ⟨S64x1x4096, .f32⟩
  | 83 => ⟨S1x64x1, .f32⟩
  | 84 => ⟨S1x64, .f32⟩
  | 85 => ⟨S64x64x4096, .f32⟩
  | 86 => ⟨S64x4096x1, .f32⟩
  | 87 => ⟨S64x1x4096, .f32⟩
  | 88 => ⟨S64x1x4096, .f32⟩
  | 89 => ⟨S1x64x1, .f32⟩
  | 90 => ⟨S1x64, .f32⟩
  | 91 => ⟨S64x64x4096, .f32⟩
  | 92 => ⟨S64x4096x1, .f32⟩
  | 93 => ⟨S64x1x4096, .f32⟩
  | 94 => ⟨S64x1x4096, .f32⟩
  | 95 => ⟨S1x64x1, .f32⟩
  | 96 => ⟨S1x64, .f32⟩
  | 97 => ⟨S64x64x4096, .f32⟩
  | 98 => ⟨S64x4096x1, .f32⟩
  | 99 => ⟨S64x1x4096, .f32⟩
  | 100 => ⟨S64x1x4096, .f32⟩
  | 101 => ⟨S64x1x4096, .f32⟩
  | 102 => ⟨S64x1x4096, .f32⟩
  | 103 => ⟨S_, .f32⟩
  | 104 => ⟨S64x1x4096, .f32⟩
  | 105 => ⟨S64x1x4096, .f32⟩
  | 106 => ⟨S_, .f32⟩
  | 107 => ⟨S64x1x4096, .f32⟩
  | 108 => ⟨S64x1x4096, .f32⟩
  | 109 => ⟨S64x512x8, .f32⟩
  | 110 => ⟨S64x8x512, .f32⟩
  | _ => ⟨S64x64x512, .f32⟩

abbrev hbmTy (i : Nat) : BufTy := match i / 128 with
  | 0 => hbmTy0_0 i
  | 1 => hbmTy0_1 i
  | _ => ⟨S64x64x512, .f32⟩

abbrev bufTy : (tb : Table) → Fin (tcTables nBuf tb) → BufTy
  | .hbm, ⟨i, _⟩ => hbmTy i
  | _, _ => ⟨S64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_c_0 : Ref sig .tc := ⟨.hbm, 33, rfl⟩
abbrev main_call2_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_1 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_c_4 : Ref sig .tc := ⟨.hbm, 70, rfl⟩
abbrev main_call5_v0 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_5 : Ref sig .tc := ⟨.hbm, 120, rfl⟩
abbrev main_v104 : Ref sig .tc := ⟨.hbm, 121, rfl⟩
abbrev main_v105 : Ref sig .tc := ⟨.hbm, 122, rfl⟩
abbrev main_cst_6 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_7 : Ref sig .tc := ⟨.hbm, 129, rfl⟩
abbrev main_v111 : Ref sig .tc := ⟨.hbm, 130, rfl⟩
abbrev main_c_8 : Ref sig .tc := ⟨.hbm, 131, rfl⟩
abbrev main_call8_v0 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_cst_9 : Ref sig .tc := ⟨.hbm, 231, rfl⟩
abbrev main_v210 : Ref sig .tc := ⟨.hbm, 232, rfl⟩
abbrev main_v211 : Ref sig .tc := ⟨.hbm, 233, rfl⟩
abbrev main_cst_10 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩

abbrev nD : Nat := 1
abbrev τ : Topo := Topo.v7x

variable {F : FTy → Type} [FloatOps F]
-- ==== Proof.Own.KernelFrame.lean ====
/- The launch of the encoder call: what every buffer holds after each grid point, the body's triple at a point, the
   run of the whole program and its frame. Point 0 fills the edge columns of the two scratch arrays; every other point
   finds them as the point before left them. -/
module

public import proofs.«01_k».proof.Proof.Gen.KernelIdeal.Frame.RunB
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves: the three outputs' blocks, then the two scratch arrays. -/
abbrev St (F : FTy → Type) : Type :=
  Vec F S8x64x512 .f32 × Vec F S1024x1 .f32 × Vec F S1x1 .f32 × Vec F S8x256x514 .f32 × Vec F S8x256x514 .f32

/-- The run of the body at the first point. -/
abbrev RA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    ((hcond0_0 t).mpr (by omega)) ((hcond0_1 t).mpr (by omega)) (fun hh => absurd ((hcond0_2 t).mp hh) (by omega))
    (iblk m c 0 t) (iblk m c 1 t) (iblk m c 2 t) (iblk m c 3 t) (iblk m c 4 t) (iblk m c 5 t) (iblk m c 6 t) (iblk m c 7 t) (iblk m c 8 t)

/-- The run of the body at a later point, over what the point before left. -/
abbrev RB (c : Dev nD) (t : Fin cfg0.N) (h : t.val ≠ 0) (p : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (fun hh => absurd ((hcond0_0 t).mp hh) (by have : t.val < 8 := lt_of_lt_of_eq t.isLt N_0; omega))
    (fun hh => absurd ((hcond0_1 t).mp hh) (by have : t.val < 8 := lt_of_lt_of_eq t.isLt N_0; omega))
    ((hcond0_2 t).mpr (by omega))
    (iblk m c 0 t) (iblk m c 1 t) (iblk m c 2 t) (iblk m c 3 t) (iblk m c 4 t) (iblk m c 5 t) (iblk m c 6 t) (iblk m c 7 t) (iblk m c 8 t) p.2.1 p.2.2.1 p.2.2.2.1 p.2.2.2.2

/-! ## The stores cover the buffers -/

theorem coverA_9 (c : Dev nD) (t : Fin cfg0.N) (h : t.val = 0) (y : S8x64x512.Idx) : ∃ pc ∈ (RA m c t h).1, y ∈ pc.1.set :=
  View.cover_of_tiledL (RA m c t h).1 S1x64x512.size (by sl_kernel_rfl) y

theorem coverA_10 (c : Dev nD) (t : Fin cfg0.N) (h : t.val = 0) (y : S1024x1.Idx) : ∃ pc ∈ (RA m c t h).2.1, y ∈ pc.1.set :=
  View.cover_of_tiledL (RA m c t h).2.1 S1024x1.size (by sl_kernel_rfl) y

theorem coverA_11 (c : Dev nD) (t : Fin cfg0.N) (h : t.val = 0) (y : S1x1.Idx) : ∃ pc ∈ (RA m c t h).2.2.1, y ∈ pc.1.set :=
  View.cover_of_tiledL (RA m c t h).2.2.1 S1x1.size (by sl_kernel_rfl) y

theorem coverB_9 (c : Dev nD) (t : Fin cfg0.N) (h : t.val ≠ 0) (p : St F) (y : S8x64x512.Idx) : ∃ pc ∈ (RB m c t h p).1, y ∈ pc.1.set :=
  View.cover_of_tiledL (RB m c t h p).1 S1x64x512.size (by sl_kernel_rfl) y

theorem coverB_10 (c : Dev nD) (t : Fin cfg0.N) (h : t.val ≠ 0) (p : St F) (y : S1024x1.Idx) : ∃ pc ∈ (RB m c t h p).2.1, y ∈ pc.1.set :=
  View.cover_of_tiledL (RB m c t h p).2.1 S1024x1.size (by sl_kernel_rfl) y

theorem coverB_11 (c : Dev nD) (t : Fin cfg0.N) (h : t.val ≠ 0) (p : St F) (y : S1x1.Idx) : ∃ pc ∈ (RB m c t h p).2.2.1, y ∈ pc.1.set :=
  View.cover_of_tiledL (RB m c t h p).2.2.1 S1x1.size (by sl_kernel_rfl) y

/-- Eight images cut off one by one along the first axis, the newest store first: `f k` covers the image whose newest
    store stands at place `k`, and one image has `n` stores. -/
def perImage (n : ℕ) (f : ℕ → LoadRect.Cov) : ℕ → LoadRect.Cov
  | 0 => f 0
  | k + 1 => .split 0 1 (f (n * (k + 1))) (perImage n f k)

/-- Four blocks of 64 rows, the last one stored last. -/
def fourRows (k : ℕ) : LoadRect.Cov :=
  .split 1 64 (.leaf (k + 3)) (.split 1 64 (.leaf (k + 2)) (.split 1 64 (.leaf (k + 1)) (.leaf k)))

/-- How the first point's stores cover the first scratch: the two edge columns, and between them the images' rows. -/
def cert0 : LoadRect.Cov := .split 2 1 (.leaf 33) (.split 2 512 (perImage 4 fourRows 7) (.leaf 32))

/-- How they cover the second: the upper half of the rows starts at column 0, the lower half at column 1. -/
def cert1 : LoadRect.Cov :=
  .split 1 128 (.split 2 512 (perImage 2 (fun k => .leaf (k + 1)) 7) (.leaf 16))
    (.split 2 1 (.leaf 17) (.split 2 512 (perImage 2 .leaf 7) (.leaf 16)))

theorem coverA_s0 (c : Dev nD) (t : Fin cfg0.N) (h : t.val = 0) (y : S8x256x514.Idx) : ∃ pc ∈ (RA m c t h).2.2.2.1, y ∈ pc.1.set := by
  have := LoadRect.cover_of_covChk (RA m c t h).2.2.2.1 (LoadRect.whole _) cert0 (by sl_kernel_rfl) y
  rwa [LoadRect.idx_whole] at this

theorem coverA_s1 (c : Dev nD) (t : Fin cfg0.N) (h : t.val = 0) (y : S8x256x514.Idx) : ∃ pc ∈ (RA m c t h).2.2.2.2.1, y ∈ pc.1.set := by
  have := LoadRect.cover_of_covChk (RA m c t h).2.2.2.2.1 (LoadRect.whole _) cert1 (by sl_kernel_rfl) y
  rwa [LoadRect.idx_whole] at this

/-! ## What the buffers hold after each point -/

/-- After the first point: every buffer is covered by the stores. -/
def outA9 (c : Dev nD) (t : Fin cfg0.N) (h : t.val = 0) : Vec F S8x64x512 .f32 :=
  VO0_9.read (Elt F) (VO0_9.writes (Elt F) VO0_9.junk (RA m c t h).1)
def outA10 (c : Dev nD) (t : Fin cfg0.N) (h : t.val = 0) : Vec F S1024x1 .f32 :=
  VO0_10.read (Elt F) (VO0_10.writes (Elt F) VO0_10.junk (RA m c t h).2.1)
def outA11 (c : Dev nD) (t : Fin cfg0.N) (h : t.val = 0) : Vec F S1x1 .f32 :=
  VO0_11.read (Elt F) (VO0_11.writes (Elt F) VO0_11.junk (RA m c t h).2.2.1)
def scrA0 (c : Dev nD) (t : Fin cfg0.N) (h : t.val = 0) : Vec F S8x256x514 .f32 :=
  VS0_0.read (Elt F) (VS0_0.writes (Elt F) VS0_0.junk (RA m c t h).2.2.2.1)
def scrA1 (c : Dev nD) (t : Fin cfg0.N) (h : t.val = 0) : Vec F S8x256x514 .f32 :=
  VS0_1.read (Elt F) (VS0_1.writes (Elt F) VS0_1.junk (RA m c t h).2.2.2.2.1)

/-- After a later point: the outputs are covered, the scratch arrays are written over what they held. -/
def outB9 (c : Dev nD) (t : Fin cfg0.N) (h : t.val ≠ 0) (p : St F) : Vec F S8x64x512 .f32 :=
  VO0_9.read (Elt F) (VO0_9.writes (Elt F) VO0_9.junk (RB m c t h p).1)
def outB10 (c : Dev nD) (t : Fin cfg0.N) (h : t.val ≠ 0) (p : St F) : Vec F S1024x1 .f32 :=
  VO0_10.read (Elt F) (VO0_10.writes (Elt F) VO0_10.junk (RB m c t h p).2.1)
def outB11 (c : Dev nD) (t : Fin cfg0.N) (h : t.val ≠ 0) (p : St F) : Vec F S1x1 .f32 :=
  VO0_11.read (Elt F) (VO0_11.writes (Elt F) VO0_11.junk (RB m c t h p).2.2.1)
def scrB0 (c : Dev nD) (t : Fin cfg0.N) (h : t.val ≠ 0) (p : St F) : Vec F S8x256x514 .f32 :=
  VS0_0.read (Elt F) (VS0_0.writes (Elt F) ((Memref.isWhole_whole cc0_scratch0).unread p.2.2.2.1) (RB m c t h p).2.2.2.1)
def scrB1 (c : Dev nD) (t : Fin cfg0.N) (h : t.val ≠ 0) (p : St F) : Vec F S8x256x514 .f32 :=
  VS0_1.read (Elt F) (VS0_1.writes (Elt F) ((Memref.isWhole_whole cc0_scratch1).unread p.2.2.2.2) (RB m c t h p).2.2.2.2.1)

/-- What the first point leaves. -/
abbrev stA (c : Dev nD) (t : Fin cfg0.N) (h : t.val = 0) : St F := (outA9 m c t h, outA10 m c t h, outA11 m c t h, scrA0 m c t h, scrA1 m c t h)
/-- What a later point leaves, over what the point before left. -/
abbrev stB (c : Dev nD) (t : Fin cfg0.N) (h : t.val ≠ 0) (p : St F) : St F := (outB9 m c t h p, outB10 m c t h p, outB11 m c t h p, scrB0 m c t h p, scrB1 m c t h p)

/-- What the buffers hold after point `n`. -/
def outsAt (c : Dev nD) : (n : ℕ) → n < cfg0.N → St F
  | 0, hn => stA m c ⟨0, hn⟩ rfl
  | n + 1, hn => stB m c ⟨n + 1, hn⟩ (Nat.succ_ne_zero n) (outsAt c n (Nat.lt_of_succ_lt hn))

theorem outsAt_A (c : Dev nD) (t : Fin cfg0.N) (h : t.val = 0) : outsAt m c t.val t.isLt = stA m c t h := by
  obtain ⟨n, hn⟩ := t
  cases n with
  | zero => rfl
  | succ n => exact absurd h (Nat.succ_ne_zero n)

theorem outsAt_B (c : Dev nD) (t : Fin cfg0.N) (h : t.val ≠ 0) :
    outsAt m c t.val t.isLt = stB m c t h (outsAt m c (t.val - 1) (Nat.lt_of_le_of_lt (Nat.sub_le _ _) t.isLt)) := by
  obtain ⟨n, hn⟩ := t
  cases n with
  | zero => exact absurd rfl h
  | succ n => rfl

/-! ## The pipeline's data -/

/-- What holds before position `n`: the scratch arrays at anything, then as the point before left them. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.1) ∗ owns (c : Thread nD τ) scM0_1 fullShare ((outsAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.2.1) ∗ owns (c : Thread nD τ) scM0_1 fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.2.1) ∗ owns (c : Thread nD τ) scM0_1 fullShare ((outsAt m c (n - 1) (by omega)).2.2.2.2)) ∗ (∃ r, prngReg c r)) := by
  cases n with
  | zero => exact absurd rfl hz
  | succ n => rfl

/-- The proof data: the inputs' buffers at their blocks, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_9 (c : Dev nD) (t : Fin cfg0.N) : (dats m 0 c).after 9 t = (outsAt m c t.val t.isLt).1 := by dsimp only [dats]
theorem after_10 (c : Dev nD) (t : Fin cfg0.N) : (dats m 0 c).after 10 t = (outsAt m c t.val t.isLt).2.1 := by dsimp only [dats]
theorem after_11 (c : Dev nD) (t : Fin cfg0.N) : (dats m 0 c).after 11 t = (outsAt m c t.val t.isLt).2.2.1 := by dsimp only [dats]

/-- No point leaves a window idle. -/
theorem live (w : Fin cfg0.W) (t : Fin cfg0.N) : cfg0.idle w (grid0.coords t) = false := by
  have hN : t.val < 8 := lt_of_lt_of_eq t.isLt N_0
  fin_cases w
  · exact liveAt0_0 t
  · exact liveAt0_1 t
  · exact liveAt0_2 t
  · exact liveAt0_3 t
  · exact liveAt0_4 t
  · exact liveAt0_5 t
  · exact liveAt0_6 t
  · exact liveAt0_7 t
  · exact liveAt0_8 t
  · exact liveAt0_9 t
  · by_cases h : t.val = 0
    · exact liveAt0_10_A t ((hcond0_0 t).mpr (by omega)) ((hcond0_1 t).mpr (by omega)) (fun hh => absurd ((hcond0_2 t).mp hh) (by omega))
    · exact liveAt0_10_B t (fun hh => absurd ((hcond0_0 t).mp hh) (by omega)) (fun hh => absurd ((hcond0_1 t).mp hh) (by omega)) ((hcond0_2 t).mpr (by omega))
  · by_cases h : t.val = 0
    · exact liveAt0_11_A t ((hcond0_0 t).mpr (by omega)) ((hcond0_1 t).mpr (by omega)) (fun hh => absurd ((hcond0_2 t).mp hh) (by omega))
    · exact liveAt0_11_B t (fun hh => absurd ((hcond0_0 t).mp hh) (by omega)) (fun hh => absurd ((hcond0_1 t).mp hh) (by omega)) ((hcond0_2 t).mpr (by omega))

/-- So the body leaves every window's buffer at what the data says. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d

theorem before_10 (c : Dev nD) (t : Fin cfg0.N) (h : t.val ≠ 0) (d) :
    (dats m 0 c).before 10 t d = (outsAt m c (t.val - 1) (Nat.lt_of_le_of_lt (Nat.sub_le _ _) t.isLt)).2.1 := by
  have hN : t.val < 8 := lt_of_lt_of_eq t.isLt N_0
  rw [Dat.before_out_traj _ 10 rfl (fun _ _ => rfl) (fun t _ hi _ => absurd hi (by rw [live 10 t]; exact Bool.false_ne_true)) t.val t rfl d,
    if_neg (by rw [notFresh0_10_B t (fun hh => absurd ((hcond0_0 t).mp hh) (by omega)) (fun hh => absurd ((hcond0_1 t).mp hh) (by omega)) ((hcond0_2 t).mpr (by omega))]; exact Bool.false_ne_true)]
  dsimp only [dats]

theorem before_11 (c : Dev nD) (t : Fin cfg0.N) (h : t.val ≠ 0) (d) :
    (dats m 0 c).before 11 t d = (outsAt m c (t.val - 1) (Nat.lt_of_le_of_lt (Nat.sub_le _ _) t.isLt)).2.2.1 := by
  have hN : t.val < 8 := lt_of_lt_of_eq t.isLt N_0
  rw [Dat.before_out_traj _ 11 rfl (fun _ _ => rfl) (fun t _ hi _ => absurd hi (by rw [live 11 t]; exact Bool.false_ne_true)) t.val t rfl d,
    if_neg (by rw [notFresh0_11_B t (fun hh => absurd ((hcond0_0 t).mp hh) (by omega)) (fun hh => absurd ((hcond0_1 t).mp hh) (by omega)) ((hcond0_2 t).mpr (by omega))]; exact Bool.false_ne_true)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The postcondition with every window spelled out. -/
theorem bodyPost_eq (c : Dev nD) (t : Fin cfg0.N) : bodyPost m c t =
    iprop(iprop(iprop(owns (c : Thread nD τ) scM0_0 fullShare ((outsAt m c t.val t.isLt).2.2.2.1) ∗ owns (c : Thread nD τ) scM0_1 fullShare ((outsAt m c t.val t.isLt).2.2.2.2)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare ((outsAt m c t.val t.isLt).1)
    ∗ owns (c : Thread nD τ) (ms0_10 t) fullShare ((outsAt m c t.val t.isLt).2.1)
    ∗ owns (c : Thread nD τ) (ms0_11 t) fullShare ((outsAt m c t.val t.isLt).2.2.1)) := by
  unfold bodyPost
  simp only [leaves, after_0, after_1, after_2, after_3, after_4, after_5, after_6, after_7, after_8, after_9, after_10, after_11]
  rw [show (dats m 0 c).owesAt () t.succ = (dats m 0 c).owesAt () t.castSucc from rfl,
    show (dats m 0 c).Φ t.succ = PhiS m c (t.val + 1) t.isLt from rfl, PhiS_succ]

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  rw [bodyPost_eq]
  unfold bodyPre bodyAt0
  simp only [before_0, before_1, before_2, before_3, before_4, before_5, before_6, before_7, before_8]
  have hN : t.val < 8 := lt_of_lt_of_eq t.isLt N_0
  by_cases h : t.val = 0
  · rw [PhiS_castSucc m c t, PhiS_zero m c _ _ h, PhiA0_eq, outsAt_A m c t h]
    unfold stA outA9 outA10 outA11 scrA0 scrA1
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((RA m c t h).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverA_s0 m c t h)
        unfold owns; iexists _; isplitr
        swap; · iexact HS1
        ipureintro; exact View.read_writes_of_cover _ _ _ _ _ (coverA_s1 m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverA_9 m c t h)
    isplitl [H10]
    · unfold owns; iexists _; isplitr
      swap; · iexact H10
      ipureintro; exact View.read_writes_of_cover _ _ _ _ _ (coverA_10 m c t h)
    unfold owns; iexists _; isplitr
    swap; · iexact H11
    ipureintro; exact View.read_writes_of_cover _ _ _ _ _ (coverA_11 m c t h)
  · rw [PhiS_castSucc m c t, PhiS_pos m c _ _ h, outsAt_B m c t h]
    simp only [before_10 m c t h, before_11 m c t h]
    generalize outsAt m c (t.val - 1) _ = p
    unfold outB9 outB10 outB11 scrB0 scrB1
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((RB m c t h p).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, ⟨%e10, H10⟩, ⟨%e11, H11⟩, HS0, HS1⟩
    isplitl [HS0 HS1 Hg]
    · isplitl [HS0 HS1]
      · isplitl [HS0]
        · unfold owns; iexists _; isplitr
          swap; · iexact HS0
          ipureintro; rfl
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverB_9 m c t h p)
    isplitl [H10]
    · unfold owns; iexists _; isplitr
      swap; · iexact H10
      ipureintro; exact View.read_writes_of_cover _ _ _ _ _ (coverB_10 m c t h p)
    unfold owns; iexists _; isplitr
    swap; · iexact H11
    ipureintro; exact View.read_writes_of_cover _ _ _ _ _ (coverB_11 m c t h p)

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 8 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution ends, with the pipeline's arrays at what the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame at any float values: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.Own.KernelBits.lean ====
/- The frame of the encoder program over machine floats: the two printed programs are the same text, so the frame
   proved for one is the frame of the other. -/
module

public import proofs.«01_k».proof.Proof.Own.KernelFrame
public import proofs.«01_k».proof.Proof.Gen.Kernel
public import proofs.«01_k».proof.Defs

@[expose] public section

set_option maxRecDepth 16384

noncomputable section

namespace Cert.Kernel.Own

open Idealize.ShloMosaic Idealize.ShloMosaic.TcCoe Idealize.ShloMosaic.Tactic Idealize.SL.Sem

/-- The two claims are one statement, read off two copies of one text. -/
theorem frame : Cert.quiescent_Kernel := fun m ρ _ =>
  have h := Cert.KernelIdeal.Own.frame (F := Bits) m ρ
  Eq.mp (by sl_kernel_rfl) h

end Cert.Kernel.Own

end
-- ==== Proof.Own.RefRun.lean ====
/- The reference of the encoder, run: @main is a straight line of host operations, read off its four windows. -/
module

public import proofs.«01_k».proof.Proof.Gen.ReferenceIdeal
public import proofs.«01_k».proof.Defs
public import Idealize.ShloMosaic.Lib.StableHlo.RunHlo
public import Idealize.ShloMosaic.Lib.Quiescent
public import Idealize.ShloMosaic.Lib.StableHlo.RunRead
public import Idealize.ShloMosaic.PureOps.Ideal.Laws

@[expose] public section

set_option maxRecDepth 16384
set_option maxHeartbeats 4000000

noncomputable section

namespace Cert.ReferenceIdeal.Own

open Cert.ReferenceIdeal Cert.ReferenceIdeal.Gen Idealize.ShloMosaic Idealize.ShloMosaic.TcCoe Idealize.SL.Sem Idealize.ShloMosaic.StableHlo

/-- A straight line of host operations. -/
abbrev Line := List (HloOp τ sig (Elt Ideal))

/-- A program of the reference. -/
abbrev P := Prog (TpuEff nD τ sig (Elt Ideal) (Pipeline.Sig Λ₀ (Fin 0) fun p => (pcfgs (F := Ideal) p).Adm) .tc) PUnit

/-- A line after a line. -/
theorem isSeq_append {p k : P} {l l' : Line} (h : IsSeq p l) (h' : IsSeq k l') : IsSeq (p >>= fun _ => k) (l ++ l') := by
  unfold IsSeq at h h' ⊢
  rw [h, h', seq_append]

/-- One operation alone. -/
theorem isSeq_one {op : HloOp τ sig (Elt Ideal)} : IsSeq ((hlo rfl op fun _ => .ret (⟨⟩ : PUnit)) : P) [op] := rfl

/-- The line of window 0 of @main, with the proof that the window is that line: a call is its callee's line. -/
def w0 : { l : Line // ∀ c, IsSeq (main_part0 (F := Ideal) c) l } := by
  apply Subtype.mk
  · intro c
    unfold main_part0
    repeat first
      | exact IsSeq.nil
      | exact isSeq_one
      | apply IsSeq.cons
      | refine isSeq_append ?_ ?_
      | unfold fn_pad.body
      | unfold fn_pad_0.body
      | unfold fn_pad_2.body
      | unfold fn_pad_4.body
      | unfold fn_where.body
      | unfold fn_where_1.body
      | unfold fn_where_3.body
      | unfold fn_argmin.body
      | unfold fn_one_hot.body

/-- The line of window 1 of @main, with the proof that the window is that line: a call is its callee's line. -/
def w1 : { l : Line // ∀ c, IsSeq (main_part1 (F := Ideal) c) l } := by
  apply Subtype.mk
  · intro c
    unfold main_part1
    repeat first
      | exact IsSeq.nil
      | exact isSeq_one
      | apply IsSeq.cons
      | refine isSeq_append ?_ ?_
      | unfold fn_pad.body
      | unfold fn_pad_0.body
      | unfold fn_pad_2.body
      | unfold fn_pad_4.body
      | unfold fn_where.body
      | unfold fn_where_1.body
      | unfold fn_where_3.body
      | unfold fn_argmin.body
      | unfold fn_one_hot.body

/-- The line of window 2 of @main, with the proof that the window is that line: a call is its callee's line. -/
def w2 : { l : Line // ∀ c, IsSeq (main_part2 (F := Ideal) c) l } := by
  apply Subtype.mk
  · intro c
    unfold main_part2
    repeat first
      | exact IsSeq.nil
      | exact isSeq_one
      | apply IsSeq.cons
      | refine isSeq_append ?_ ?_
      | unfold fn_pad.body
      | unfold fn_pad_0.body
      | unfold fn_pad_2.body
      | unfold fn_pad_4.body
      | unfold fn_where.body
      | unfold fn_where_1.body
      | unfold fn_where_3.body
      | unfold fn_argmin.body
      | unfold fn_one_hot.body

/-- The line of window 3 of @main, with the proof that the window is that line: a call is its callee's line. -/
def w3 : { l : Line // ∀ c, IsSeq (main_part3 (F := Ideal) c) l } := by
  apply Subtype.mk
  · intro c
    unfold main_part3
    repeat first
      | exact IsSeq.nil
      | exact isSeq_one
      | apply IsSeq.cons
      | refine isSeq_append ?_ ?_
      | unfold fn_pad.body
      | unfold fn_pad_0.body
      | unfold fn_pad_2.body
      | unfold fn_pad_4.body
      | unfold fn_where.body
      | unfold fn_where_1.body
      | unfold fn_where_3.body
      | unfold fn_argmin.body
      | unfold fn_one_hot.body

/-- @main's operations, in order. -/
def ops : Line := w0.1 ++ (w1.1 ++ (w2.1 ++ w3.1))

theorem main_eq (c : Dev nD) : main (F := Ideal) c = seq ops := by
  have h0 : main_part0 (F := Ideal) c = seq w0.1 := w0.2 c
  have h1 : main_part1 (F := Ideal) c = seq w1.1 := w1.2 c
  have h2 : main_part2 (F := Ideal) c = seq w2.1 := w2.2 c
  have h3 : main_part3 (F := Ideal) c = seq w3.1 := w3.2 c
  simp only [ops, seq_append, ← h0, ← h1, ← h2, ← h3]
  rfl

/-- An operation that touches only the core's own buffers and allocates none. -/
def Plain (op : HloOp τ sig (Elt Ideal)) : Prop := op.bufs ⊆ tcRefs τ sig ∧ op.fresh = ∅

theorem plain0 : w0.1.Forall Plain := by
  unfold w0
  simp [Plain]
  try (repeat' apply And.intro) <;> rfl
theorem plain1 : w1.1.Forall Plain := by
  unfold w1
  simp [Plain]
  try (repeat' apply And.intro) <;> rfl
theorem plain2 : w2.1.Forall Plain := by
  unfold w2
  simp [Plain]
  try (repeat' apply And.intro) <;> rfl
theorem plain3 : w3.1.Forall Plain := by
  unfold w3
  simp [Plain]
  try (repeat' apply And.intro) <;> rfl

theorem plain : ops.Forall Plain := by
  simp only [ops, List.forall_append]
  exact ⟨plain0, plain1, plain2, plain3⟩

theorem scopedRefs_eq : (Finset.univ.filter fun b : Ref sig .tc => b.isScoped) = ∅ := by decide
theorem scopedSems_eq : (Finset.univ.filter fun sm : SemLoc sig => sm.isScoped .tc) = ∅ := by decide

/-- Every buffer ends at what the line leaves there. -/
theorem run_ops (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => plain.imp fun _ h => h.1) m ρ (fun _ op h => (List.forall_iff_forall_mem.mp plain op h).2)

/-- @main's arguments. -/
def args : List (Ref sig .tc) := [main_arg0, main_arg1, main_arg2, main_arg3, main_arg4, main_arg5, main_arg6]

/-- No operation writes an argument. -/
theorem args_unwritten : (ops.all fun op => args.all fun r => decide ((Proc.devRef .tc r : DevRef τ sig) ∉ op.writes)) = true := by
  decide +kernel

/-- So an argument ends at its launch contents. -/
theorem arg_kept (V : Valuation τ sig (Elt Ideal)) {r : Ref sig .tc} (h : r ∈ args) : after ops V (Proc.devRef .tc r) = V (Proc.devRef .tc r) := by
  refine after_of_forall_not_mem ops V fun op hop => ?_
  simpa using List.all_eq_true.mp (List.all_eq_true.mp args_unwritten op hop) r h

/-- The frame of the reference: it runs, its arguments end unchanged, and it declares no counter. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, ∀ a ∈ args, r.2.mem ((c.tc : Thread nD τ).loc a) = m ((c.tc : Thread nD τ).loc a)) ∧ r.2.sem = fun _ => 0 :=
  θ_run_mono (run_ops m ρ) fun r h => ⟨fun c a ha => (h c a).trans (arg_kept _ ha), sem_eq_zero_of_no_sems (by decide) r.2⟩

theorem frame : Cert.quiescent_ReferenceIdeal := fun m ρ _ =>
  θ_run_mono (run_frame m ρ) fun r h => ⟨fun c => ⟨h.1 c _ (by simp [args]), h.1 c _ (by simp [args]), h.1 c _ (by simp [args]),
    h.1 c _ (by simp [args]), h.1 c _ (by simp [args]), h.1 c _ (by simp [args]), h.1 c _ (by simp [args])⟩, h.2⟩

end Cert.ReferenceIdeal.Own

end
-- ==== Proof.Own.RegValue.lean ====
module

public import proofs.«01_k».proof.Proof.Gen.RegIdeal.Value
public import proofs.«01_k».proof.Proof.Gen.RegRefIdeal.Read
public import Idealize.ShloMosaic.Lib.Pipeline.ValueKit
public import Idealize.ShloMosaic.Lib.Pointwise

set_option maxRecDepth 16384

@[expose] public section
noncomputable section

open Idealize.ShloMosaic Idealize.ShloMosaic.TcCoe Idealize.SL.Sem
open Idealize.ShloMosaic.Pipeline (Dat)

namespace Cert.RegIdeal.Own
open Cert.RegIdeal Cert.RegIdeal.Gen

/-- One grid point's part of the first layer, from its slab of the latents and its columns of the weights. -/
def part (X : Vec Ideal S64x8x512 .f32) (W : Vec Ideal S256x4096 .f32) : FVec Ideal S64x256 .f32 :=
  k0_pay1 (k0_pay7 (View.ld X (Rect.unit ![0, 0, 0] ![64, 1, 512] inb_S64x8x512_S64x1x512_0_0_0))
      (View.ld W (Rect.unit ![0, 0] ![256, 512] inb_S256x4096_S256x512_0_0))
      (View.ld X (Rect.unit ![0, 1, 0] ![64, 1, 512] inb_S64x8x512_S64x1x512_0_1_0))
      (View.ld W (Rect.unit ![0, 512] ![256, 512] inb_S256x4096_S256x512_0_512))
      (View.ld X (Rect.unit ![0, 2, 0] ![64, 1, 512] inb_S64x8x512_S64x1x512_0_2_0))
      (View.ld W (Rect.unit ![0, 1024] ![256, 512] inb_S256x4096_S256x512_0_1024))
      (View.ld X (Rect.unit ![0, 3, 0] ![64, 1, 512] inb_S64x8x512_S64x1x512_0_3_0))
      (View.ld W (Rect.unit ![0, 1536] ![256, 512] inb_S256x4096_S256x512_0_1536))
      (View.ld X (Rect.unit ![0, 4, 0] ![64, 1, 512] inb_S64x8x512_S64x1x512_0_4_0))
      (View.ld W (Rect.unit ![0, 2048] ![256, 512] inb_S256x4096_S256x512_0_2048)))
    (View.ld X (Rect.unit ![0, 5, 0] ![64, 1, 512] inb_S64x8x512_S64x1x512_0_5_0))
    (View.ld W (Rect.unit ![0, 2560] ![256, 512] inb_S256x4096_S256x512_0_2560))
    (View.ld X (Rect.unit ![0, 6, 0] ![64, 1, 512] inb_S64x8x512_S64x1x512_0_6_0))
    (View.ld W (Rect.unit ![0, 3072] ![256, 512] inb_S256x4096_S256x512_0_3072))
    (View.ld X (Rect.unit ![0, 7, 0] ![64, 1, 512] inb_S64x8x512_S64x1x512_0_7_0))
    (View.ld W (Rect.unit ![0, 3584] ![256, 512] inb_S256x4096_S256x512_0_3584))

/-- That part as one sum over the 4096 lanes of the point. -/
theorem part_at (X : Vec Ideal S64x8x512 .f32) (W : Vec Ideal S256x4096 .f32) (b : Fin 64) (o : Fin 256) :
    part X W (ix2 b o) = ∑ k : Fin 4096, X (ix3 b ⟨k.val / 512, by omega⟩ ⟨k.val % 512, by omega⟩) * W (ix2 o k) := by
  rw [← Fin.sum_mul_add_fin 8 512 (fun k : Fin 4096 => X (ix3 b ⟨k.val / 512, by omega⟩ ⟨k.val % 512, by omega⟩) * W (ix2 o k)),
    Fin.sum_univ_eight]
  pointwise [part, k0_pay1, k0_pay7]
  blk_point []

variable (m : (ℓ : Loc nD τ sig) → Buf (Elt Ideal) ℓ)

theorem idx : ∀ t : Fin cfg0.N, win0_0.index t = ![0, t.val, 0] ∧ win0_1.index t = ![0, t.val]
    ∧ win0_2.index t = ![0, 0] ∧ win0_3.index t = ![0, 0] ∧ win0_4.index t = ![0, 0] ∧ win0_5.index t = ![0, 0]
    ∧ win0_6.index t = ![0, 0] :=
  (by decide +kernel : ∀ t : Fin grid0.N, _)

/-- The first point stores its part, whatever the scratch held. -/
theorem store_at (X : Vec Ideal S64x8x512 .f32) (W : Vec Ideal S256x4096 .f32) (j : S64x256.Idx) :
    k0_pay2 (F := Ideal) (k0_pay7 (View.ld X (Rect.unit ![0, 0, 0] ![64, 1, 512] inb_S64x8x512_S64x1x512_0_0_0))
      (View.ld W (Rect.unit ![0, 0] ![256, 512] inb_S256x4096_S256x512_0_0))
      (View.ld X (Rect.unit ![0, 1, 0] ![64, 1, 512] inb_S64x8x512_S64x1x512_0_1_0))
      (View.ld W (Rect.unit ![0, 512] ![256, 512] inb_S256x4096_S256x512_0_512))
      (View.ld X (Rect.unit ![0, 2, 0] ![64, 1, 512] inb_S64x8x512_S64x1x512_0_2_0))
      (View.ld W (Rect.unit ![0, 1024] ![256, 512] inb_S256x4096_S256x512_0_1024))
      (View.ld X (Rect.unit ![0, 3, 0] ![64, 1, 512] inb_S64x8x512_S64x1x512_0_3_0))
      (View.ld W (Rect.unit ![0, 1536] ![256, 512] inb_S256x4096_S256x512_0_1536))
      (View.ld X (Rect.unit ![0, 4, 0] ![64, 1, 512] inb_S64x8x512_S64x1x512_0_4_0))
      (View.ld W (Rect.unit ![0, 2048] ![256, 512] inb_S256x4096_S256x512_0_2048)))
    (View.ld X (Rect.unit ![0, 5, 0] ![64, 1, 512] inb_S64x8x512_S64x1x512_0_5_0))
    (View.ld W (Rect.unit ![0, 2560] ![256, 512] inb_S256x4096_S256x512_0_2560))
    (View.ld X (Rect.unit ![0, 6, 0] ![64, 1, 512] inb_S64x8x512_S64x1x512_0_6_0))
    (View.ld W (Rect.unit ![0, 3072] ![256, 512] inb_S256x4096_S256x512_0_3072))
    (View.ld X (Rect.unit ![0, 7, 0] ![64, 1, 512] inb_S64x8x512_S64x1x512_0_7_0))
    (View.ld W (Rect.unit ![0, 3584] ![256, 512] inb_S256x4096_S256x512_0_3584)) j = 0 + part X W j := by
  rw [zero_add]; unfold k0_pay2; exact congrFun (shapeCast_self _ _) j

/-- Every later point adds its part to what the scratch held. -/
theorem step_at (X : Vec Ideal S64x8x512 .f32) (W : Vec Ideal S256x4096 .f32) (acc : Vec Ideal S64x256 .f32) (j : S64x256.Idx) :
    k0_pay3 (F := Ideal) (k0_pay7 (View.ld X (Rect.unit ![0, 0, 0] ![64, 1, 512] inb_S64x8x512_S64x1x512_0_0_0))
      (View.ld W (Rect.unit ![0, 0] ![256, 512] inb_S256x4096_S256x512_0_0))
      (View.ld X (Rect.unit ![0, 1, 0] ![64, 1, 512] inb_S64x8x512_S64x1x512_0_1_0))
      (View.ld W (Rect.unit ![0, 512] ![256, 512] inb_S256x4096_S256x512_0_512))
      (View.ld X (Rect.unit ![0, 2, 0] ![64, 1, 512] inb_S64x8x512_S64x1x512_0_2_0))
      (View.ld W (Rect.unit ![0, 1024] ![256, 512] inb_S256x4096_S256x512_0_1024))
      (View.ld X (Rect.unit ![0, 3, 0] ![64, 1, 512] inb_S64x8x512_S64x1x512_0_3_0))
      (View.ld W (Rect.unit ![0, 1536] ![256, 512] inb_S256x4096_S256x512_0_1536))
      (View.ld X (Rect.unit ![0, 4, 0] ![64, 1, 512] inb_S64x8x512_S64x1x512_0_4_0))
      (View.ld W (Rect.unit ![0, 2048] ![256, 512] inb_S256x4096_S256x512_0_2048)))
    (View.ld X (Rect.unit ![0, 5, 0] ![64, 1, 512] inb_S64x8x512_S64x1x512_0_5_0))
    (View.ld W (Rect.unit ![0, 2560] ![256, 512] inb_S256x4096_S256x512_0_2560))
    (View.ld X (Rect.unit ![0, 6, 0] ![64, 1, 512] inb_S64x8x512_S64x1x512_0_6_0))
    (View.ld W (Rect.unit ![0, 3072] ![256, 512] inb_S256x4096_S256x512_0_3072))
    (View.ld X (Rect.unit ![0, 7, 0] ![64, 1, 512] inb_S64x8x512_S64x1x512_0_7_0))
    (View.ld W (Rect.unit ![0, 3584] ![256, 512] inb_S256x4096_S256x512_0_3584))
    (View.read (Elt Ideal) (View.whole cc0_scratch0) ((Memref.isWhole_whole cc0_scratch0).unread acc)) j = acc j + part X W j := by
  rw [(Memref.isWhole_whole cc0_scratch0).read_unread acc]; unfold k0_pay3; exact congrFun (shapeCast_self _ _) j

/-- The scratch after the last point: the sum of every point's part. -/
theorem acc_last (c : Dev nD) (j : S64x256.Idx) :
    (outsAt0 m c t0_7.val t0_7.isLt).2.2.2 j = ∑ p : Fin cfg0.N, part (iblk m c 0 p) (iblk m c 1 p) j := by
  rw [Pipeline.eq_sum_fin_of_reset_step_apply_last (fun n h => (outsAt0 m c n h).2.2.2) 8 (fun _ => 0)
    (fun p j => part (iblk m c 0 p) (iblk m c 1 p) j)
    (fun t h j => by
      have h1 : ¬ 1 ≤ t.val := by have := lt_of_lt_of_eq t.isLt N_0; omega
      rw [outsAt0_A m c t h h1 (by omega)]; frame_out; exact store_at _ _ j)
    (fun t h j => by
      by_cases h7 : t.val % 8 = 7
      · rw [outsAt0_C m c t h (by omega) h7]; frame_out; exact step_at _ _ _ j
      · rw [outsAt0_B m c t h (by omega) h7]; frame_out; exact step_at _ _ _ j)
    (le_of_eq N_0) t0_7 rfl j]
  exact zero_add _

/-- The first layer's product, over all lanes at once. -/
def layer1 (E : FVec Ideal S64x64x512 .f32) (W : FVec Ideal S256x32768 .f32) (b : Fin 64) (o : Fin 256) : EReal :=
  ∑ k : Fin 32768, E (ix3 b ⟨k.val / 512, by omega⟩ ⟨k.val % 512, by omega⟩) * W (ix2 o k)

theorem acc_sum (c : Dev nD) (b : Fin 64) (o : Fin 256) :
    (outsAt0 m c t0_7.val t0_7.isLt).2.2.2 (ix2 b o)
      = layer1 (m ((c : Thread nD τ).loc main_arg0)) (m ((c : Thread nD τ).loc main_arg3)) b o := by
  rw [acc_last]
  simp only [part_at]
  refine Fin.sum_mul_add_congr (fun p k hl => ?_) (by have : cfg0.N = 8 := N_0; omega)
  blk_point [iblk, V, idx p]

/-- The same as one equation of arrays. -/
theorem acc_eq (c : Dev nD) : (outsAt0 m c t0_7.val t0_7.isLt).2.2.2
    = fun j : S64x256.Idx => layer1 (m ((c : Thread nD τ).loc main_arg0)) (m ((c : Thread nD τ).loc main_arg3)) (j 0) (j 1) := by
  funext j
  idx_vars j
  exact acc_sum m c _ _

/-- The contents of the first result, over the scratch the last point leaves. -/
theorem out7 (c : Dev nD) : (outsAt0 m c t0_7.val t0_7.isLt).1
    = k0_pay4 (outsAt0 m c t0_7.val t0_7.isLt).2.2.2 (iblk m c 2 t0_7) (iblk m c 3 t0_7) (iblk m c 4 t0_7) := by
  rw [outsAt0_C m c t0_7 (by decide) (by decide) (by decide)]; frame_out

/-! ## The constants -/

theorem one_bits : Ideal.ofBits .f32 0x3F800000#32 = 1 := by simp [Ideal.ofBits, Ideal.ieee, -EReal.coe_mul]; norm_num
theorem rows_bits : Ideal.ofBits .f32 0x47000000#32 = ((32768 : ℝ) : EReal) := by
  simp [Ideal.ofBits, Ideal.ieee, -EReal.coe_mul]; norm_num
theorem inv_rows_bits : Ideal.ofBits .f32 0x38000000#32 = ((1 / 32768 : ℝ) : EReal) := by
  simp [Ideal.ofBits, Ideal.ieee, -EReal.coe_mul]; norm_num
theorem size_bits : Ideal.ofBits .f32 0x4A000000#32 = ((2097152 : ℝ) : EReal) := by
  simp [Ideal.ofBits, Ideal.ieee, -EReal.coe_mul]; norm_num
theorem quarter_bits : Ideal.ofBits .f32 0x3E800000#32 = ((1 / 4 : ℝ) : EReal) := by
  simp [Ideal.ofBits, Ideal.ieee, -EReal.coe_mul]; norm_num
theorem loss_bits : Ideal.ofBits .f32 0x35200000#32 = ((5 / 4 * (1 / 2097152) : ℝ) : EReal) := by
  simp [Ideal.ofBits, Ideal.ieee, -EReal.coe_mul]; norm_num

/-- A quarter of a positive multiple added to that multiple, also at the infinities. -/
theorem add_quarter (x : EReal) : x * ((5 / 4 * (1 / 2097152) : ℝ) : EReal)
    = x * ((1 / 2097152 : ℝ) : EReal) + ((1 / 4 : ℝ) : EReal) * (x * ((1 / 2097152 : ℝ) : EReal)) := by
  induction x with
  | bot => rw [EReal.bot_mul_coe_of_pos (by norm_num), EReal.bot_mul_coe_of_pos (by norm_num), EReal.coe_mul_bot_of_pos (by norm_num)]; rfl
  | top => rw [EReal.top_mul_coe_of_pos (by norm_num), EReal.top_mul_coe_of_pos (by norm_num), EReal.coe_mul_top_of_pos (by norm_num)]; rfl
  | coe r => norm_cast; ring

/-- The frequencies: the two layers and the sigmoid. -/
theorem freq (c : Dev nD) : (dats m 0 c).arrAt 7 cfg0.N
    = Cert.RegRefIdeal.Read.val_main_v16 (F := Ideal) (m ((c : Thread nD τ).loc main_arg0)) (m ((c : Thread nD τ).loc main_arg3))
        (m ((c : Thread nD τ).loc main_arg4)) (m ((c : Thread nD τ).loc main_arg5)) (m ((c : Thread nD τ).loc main_arg6)) := by
  refine (dats m 0 c).arrAt_eq_of_after_last 7 t0_7 (by decide +kernel) _ fun j => ?_
  blk_simp
  rw [after0_7, out7, acc_eq]
  pointwise [k0_pay4, Cert.RegRefIdeal.Read.val_main_v0, Cert.RegRefIdeal.Read.val_main_v1, Cert.RegRefIdeal.Read.val_main_v2, Cert.RegRefIdeal.Read.val_main_v3, Cert.RegRefIdeal.Read.val_main_v4, Cert.RegRefIdeal.Read.val_main_v5, Cert.RegRefIdeal.Read.val_main_v6, Cert.RegRefIdeal.Read.val_main_v7, Cert.RegRefIdeal.Read.val_main_v8, Cert.RegRefIdeal.Read.val_main_v9, Cert.RegRefIdeal.Read.val_main_v10, Cert.RegRefIdeal.Read.val_main_v11, Cert.RegRefIdeal.Read.val_main_v12, Cert.RegRefIdeal.Read.val_main_cst, Cert.RegRefIdeal.Read.val_main_v13, Cert.RegRefIdeal.Read.val_main_v14, Cert.RegRefIdeal.Read.val_main_cst_0, Cert.RegRefIdeal.Read.val_main_v15, Cert.RegRefIdeal.Read.val_main_v16]
  simp only [layer1, one_bits, Ideal.logistic]
  blk_point [iblk, V, idx t0_7]

/-- The perplexity. -/
theorem perp (c : Dev nD) : (dats m 0 c).arrAt 8 cfg0.N
    = Cert.RegRefIdeal.Read.val_main_v30 (F := Ideal) (m ((c : Thread nD τ).loc main_arg1)) := by
  refine (dats m 0 c).arrAt_eq_of_after_last 8 t0_7 (by decide +kernel) _ fun j => ?_
  blk_simp
  rw [after0_8, outsAt0_C m c t0_7 (by decide) (by decide) (by decide)]; frame_out
  pointwise [k0_pay5, Cert.RegRefIdeal.Read.val_main_cst_1, Cert.RegRefIdeal.Read.val_main_v17, Cert.RegRefIdeal.Read.val_main_v18, Cert.RegRefIdeal.Read.val_main_cst_2, Cert.RegRefIdeal.Read.val_main_v19, Cert.RegRefIdeal.Read.val_main_v20, Cert.RegRefIdeal.Read.val_main_v21, Cert.RegRefIdeal.Read.val_main_v22, Cert.RegRefIdeal.Read.val_main_cst_3, Cert.RegRefIdeal.Read.val_main_v23, Cert.RegRefIdeal.Read.val_main_v24, Cert.RegRefIdeal.Read.val_main_v25, Cert.RegRefIdeal.Read.val_main_cst_4, Cert.RegRefIdeal.Read.val_main_v26, Cert.RegRefIdeal.Read.val_main_v27, Cert.RegRefIdeal.Read.val_main_cst_5, Cert.RegRefIdeal.Read.val_main_v28, Cert.RegRefIdeal.Read.val_main_v29, Cert.RegRefIdeal.Read.val_main_v30]
  simp only [rows_bits, inv_rows_bits, Ideal.div_coe (show (32768 : ℝ) ≠ 0 by norm_num), zero_sub]
  rw [show (iblk m c 5 t0_7 : S1024x1.Idx → EReal) = m ((c : Thread nD τ).loc main_arg1) by blk_ext! [iblk, V, idx t0_7]]
  refine congrArg (fun x : EReal => Ideal.exp (-x)) (Fin.sum_fin_congr fun x => Fin.sum_fin_congr fun y => ?_)
  rw [Subsingleton.elim y 0]

/-- The loss. -/
theorem loss (c : Dev nD) : (dats m 0 c).arrAt 9 cfg0.N
    = Cert.RegRefIdeal.Read.val_main_v33 (F := Ideal) (m ((c : Thread nD τ).loc main_arg2)) := by
  refine (dats m 0 c).arrAt_eq_of_after_last 9 t0_7 (by decide +kernel) _ fun j => ?_
  blk_simp
  rw [after0_9, outsAt0_C m c t0_7 (by decide) (by decide) (by decide)]; frame_out
  pointwise [k0_pay6, Cert.RegRefIdeal.Read.val_main_cst_1, Cert.RegRefIdeal.Read.val_main_v17, Cert.RegRefIdeal.Read.val_main_v18, Cert.RegRefIdeal.Read.val_main_cst_2, Cert.RegRefIdeal.Read.val_main_v19, Cert.RegRefIdeal.Read.val_main_v20, Cert.RegRefIdeal.Read.val_main_v21, Cert.RegRefIdeal.Read.val_main_v22, Cert.RegRefIdeal.Read.val_main_cst_3, Cert.RegRefIdeal.Read.val_main_v23, Cert.RegRefIdeal.Read.val_main_v24, Cert.RegRefIdeal.Read.val_main_v25, Cert.RegRefIdeal.Read.val_main_cst_4, Cert.RegRefIdeal.Read.val_main_v26, Cert.RegRefIdeal.Read.val_main_v27, Cert.RegRefIdeal.Read.val_main_cst_5, Cert.RegRefIdeal.Read.val_main_v28, Cert.RegRefIdeal.Read.val_main_v29, Cert.RegRefIdeal.Read.val_main_v30, Cert.RegRefIdeal.Read.val_main_cst_6, Cert.RegRefIdeal.Read.val_main_v31, Cert.RegRefIdeal.Read.val_main_v32, Cert.RegRefIdeal.Read.val_main_v33]
  simp only [loss_bits, size_bits, quarter_bits, Ideal.div_coe (show (2097152 : ℝ) ≠ 0 by norm_num), add_quarter]
  blk_point [iblk, V, idx t0_7]

end Cert.RegIdeal.Own
-- ==== Proof.Own.Model.lean ====
/- The encoder's body told once for a general image. The printed body repeats the same statements for the eight images
   of a grid point; here one image is written with its number as a parameter, and the lists of stores are built by
   recursion over the images. -/
module

public import proofs.«01_k».proof.Proof.Own.KernelFrame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F]

/-- What the body loads from its inputs: the phases of the signal by rectangle, every other array whole. -/
structure Inp (F : FTy → Type) where
  x : (r : LoadRect S8x8x516) → r.shape.Idx → Elt F .f32
  w1 : Vec F S64x16 .f32
  w2 : Vec F S128x512 .f32
  w3 : Vec F S128x512 .f32
  pw : Vec F S64x128 .f32
  pb : Vec F S64x1 .f32
  emb : Vec F S1024x64 .f32
  embt : Vec F S64x1024 .f32
  e2 : Vec F S1024x1 .f32

/-- The stores into a scratch array, the newest first. -/
abbrev Pcs (F : FTy → Type) : Type := List (View.Piece (Elt F) S8x256x514 .f32)
/-- How a scratch array is read after some stores. -/
abbrev Rd (F : FTy → Type) : Type := Pcs F → (r : LoadRect S8x256x514) → r.shape.Idx → Elt F .f32

theorem inb_x (i : Fin 8) (p : Fin 24) :
    ∀ a, (![i.val, p.val % 8, p.val / 8] : Fin 3 → ℕ) a + S1x1x512.size a ≤ S8x8x516.size a := by
  have := i.isLt; have := p.isLt
  intro a; fin_cases a <;> simp [S1x1x512, S8x8x516] <;> omega

/-- A box of one image of a scratch array: `h` rows from `r` on, 512 columns from `o` on. -/
theorem inb_s (h : ℕ) (i : Fin 8) (r o : ℕ) (h1 : r + h ≤ 256) (h2 : o + 512 ≤ 514) :
    ∀ a, (![i.val, r, o] : Fin 3 → ℕ) a + (![1, h, 512] : Fin 3 → ℕ) a ≤ S8x256x514.size a := by
  have := i.isLt
  intro a; fin_cases a <;> simp [S8x256x514] <;> omega

/-- The box of 64 rows. -/
abbrev box64 (i : Fin 8) (r o : ℕ) (h1 : r + 64 ≤ 256) (h2 : o + 512 ≤ 514) : Rect S8x256x514 :=
  Rect.unit (s := S8x256x514) ![i.val, r, o] S1x64x512.size (inb_s 64 i r o h1 h2)
/-- The box of 128 rows. -/
abbrev box128 (i : Fin 8) (r o : ℕ) (h1 : r + 128 ≤ 256) (h2 : o + 512 ≤ 514) : Rect S8x256x514 :=
  Rect.unit (s := S8x256x514) ![i.val, r, o] S1x128x512.size (inb_s 128 i r o h1 h2)
/-- The box of 192 rows. -/
abbrev box192 (i : Fin 8) (r o : ℕ) (h1 : r + 192 ≤ 256) (h2 : o + 512 ≤ 514) : Rect S8x256x514 :=
  Rect.unit (s := S8x256x514) ![i.val, r, o] S1x192x512.size (inb_s 192 i r o h1 h2)
/-- The box of all 256 rows. -/
abbrev box256 (i : Fin 8) (r o : ℕ) (h1 : r + 256 ≤ 256) (h2 : o + 512 ≤ 514) : Rect S8x256x514 :=
  Rect.unit (s := S8x256x514) ![i.val, r, o] S1x256x512.size (inb_s 256 i r o h1 h2)

namespace Inp

variable (I : Inp F)

/-- The signal at the positions `8u + p` of image `i`, as a row. -/
def cut (i : Fin 8) (p : Fin 24) : FVec F S1x512 .f32 :=
  shapeCast S1x512 (I.x (Rect.unit (s := S8x8x516) ![i.val, p.val % 8, p.val / 8] S1x1x512.size (inb_x i p)).toLoadRect) shapeCasts_S1x1x512_S1x512

/-- Row `k` of the first layer's operand: tap `k` for the four output phases. -/
def row (i : Fin 8) (k : Fin 16) : FVec F S1x2048 .f32 :=
  concatenate S1x2048 1
    [⟨S1x512, I.cut i ⟨k.val, by omega⟩⟩, ⟨S1x512, I.cut i ⟨k.val + 2, by omega⟩⟩,
     ⟨S1x512, I.cut i ⟨k.val + 4, by omega⟩⟩, ⟨S1x512, I.cut i ⟨k.val + 6, by omega⟩⟩]
    concatenates_S1x512_S1x512_S1x512_S1x512_S1x2048_d1

/-- The first layer's operand. -/
def x1 (i : Fin 8) : FVec F S16x2048 .f32 :=
  concatenate S16x2048 0
    [⟨S1x2048, I.row i 0⟩, ⟨S1x2048, I.row i 1⟩, ⟨S1x2048, I.row i 2⟩, ⟨S1x2048, I.row i 3⟩,
     ⟨S1x2048, I.row i 4⟩, ⟨S1x2048, I.row i 5⟩, ⟨S1x2048, I.row i 6⟩, ⟨S1x2048, I.row i 7⟩,
     ⟨S1x2048, I.row i 8⟩, ⟨S1x2048, I.row i 9⟩, ⟨S1x2048, I.row i 10⟩, ⟨S1x2048, I.row i 11⟩,
     ⟨S1x2048, I.row i 12⟩, ⟨S1x2048, I.row i 13⟩, ⟨S1x2048, I.row i 14⟩, ⟨S1x2048, I.row i 15⟩]
    concatenates_S1x2048_S1x2048_S1x2048_S1x2048_S1x2048_S1x2048_S1x2048_S1x2048_S1x2048_S1x2048_S1x2048_S1x2048_S1x2048_S1x2048_S1x2048_S1x2048_S16x2048_d0

/-- The stores of image `i` into the first scratch. -/
def push1 (i : Fin 8) (L : Pcs F) : Pcs F :=
  ⟨box64 i 192 1 (by omega) (by omega), k0_pay77 (I.x1 i) I.w1⟩ ::
  ⟨box64 i 128 1 (by omega) (by omega), k0_pay76 (I.x1 i) I.w1⟩ ::
  ⟨box64 i 64 1 (by omega) (by omega), k0_pay75 (I.x1 i) I.w1⟩ ::
  ⟨box64 i 0 1 (by omega) (by omega), k0_pay74 (I.x1 i) I.w1⟩ :: L

/-- The stores of the first `n` images into the first scratch. -/
def list1 (L : Pcs F) : ℕ → Pcs F
  | 0 => L
  | n + 1 => I.push1 (Fin.ofNat 8 n) (list1 L n)

/-- The second layer of image `i`, from the first scratch: `E` reads the boxes that touch an edge column, `J` the
    others. -/
def h2 (E J : (r : LoadRect S8x256x514) → r.shape.Idx → Elt F .f32) (i : Fin 8) : FVec F S128x1024 .f32 :=
  k0_pay162 (E (box192 i 64 0 (by omega) (by omega)).toLoadRect) (J (box256 i 0 1 (by omega) (by omega)).toLoadRect)
    (E (box64 i 0 2 (by omega) (by omega)).toLoadRect) (E (box64 i 192 0 (by omega) (by omega)).toLoadRect)
    (J (box256 i 0 1 (by omega) (by omega)).toLoadRect) (E (box192 i 0 2 (by omega) (by omega)).toLoadRect) I.w2

/-- The stores of image `i` into the second scratch. -/
def push2 (H : FVec F S128x1024 .f32) (i : Fin 8) (L : Pcs F) : Pcs F :=
  ⟨box128 i 128 1 (by omega) (by omega), k0_pay165 H⟩ ::
  ⟨box128 i 0 0 (by omega) (by omega),
    k0_pay164 (extractStridedSlice S128x512 ![0, 0] H slices_S128x1024_o0_0_S128x512)⟩ :: L

/-- The stores of the first `n` images into the second scratch; the first scratch is read after the stores of the image
    itself. -/
def list2 (E J : Rd F) (L1 L2 : Pcs F) : ℕ → Pcs F
  | 0 => L2
  | n + 1 => push2 (I.h2 (E (I.list1 L1 (n + 1))) (J (I.list1 L1 (n + 1))) (Fin.ofNat 8 n)) (Fin.ofNat 8 n) (list2 E J L1 L2 n)

/-- The latents of image `i`, from the second scratch. -/
def z (E J : (r : LoadRect S8x256x514) → r.shape.Idx → Elt F .f32) (i : Fin 8) : FVec F S64x512 .f32 :=
  k0_pay166 (E (box128 i 128 0 (by omega) (by omega)).toLoadRect) (J (box128 i 0 0 (by omega) (by omega)).toLoadRect)
    (J (box128 i 128 1 (by omega) (by omega)).toLoadRect) (E (box128 i 0 1 (by omega) (by omega)).toLoadRect) I.w3 I.pw I.pb

/-- The counts after the first `n` images, from their latents. -/
def cnt (Z : ℕ → FVec F S64x512 .f32) : ℕ → FVec F S1024x1 .f32
  | 0 => k0_pay7
  | n + 1 => k0_pay170 (cnt Z n) (Z n) I.emb I.e2

/-- The squared error after the first `n` images. -/
def sse (Z : ℕ → FVec F S64x512 .f32) : ℕ → FVec F S1x1 .f32
  | 0 => k0_pay8
  | n + 1 => k0_pay171 (sse Z n) (Z n) I.emb I.e2 I.embt

theorem inb_q (i : Fin 8) : ∀ a, (![i.val, 0, 0] : Fin 3 → ℕ) a + S1x64x512.size a ≤ S8x64x512.size a := by
  have := i.isLt
  intro a; fin_cases a <;> simp [S8x64x512, S1x64x512] <;> omega

/-- The stores of the first `n` images' codes. -/
def listq (Z : ℕ → FVec F S64x512 .f32) : ℕ → List (View.Piece (Elt F) S8x64x512 .f32)
  | 0 => []
  | n + 1 => ⟨Rect.unit (s := S8x64x512) ![(Fin.ofNat 8 n).val, 0, 0] S1x64x512.size (inb_q _), k0_pay169 (Z n) I.emb I.e2 I.embt⟩ :: listq Z n

end Inp

/-- The zero edge columns the first point stores into the two scratch arrays. -/
def edges1 : Pcs F :=
  [⟨Rect.unit (s := S8x256x514) ![0, 0, 513] S8x256x1.size inb_S8x256x514_S8x256x1_0_0_513, k0_pay4⟩,
   ⟨Rect.unit (s := S8x256x514) ![0, 0, 0] S8x256x1.size inb_S8x256x514_S8x256x1_0_0_0, k0_pay3⟩]
def edges2 : Pcs F :=
  [⟨Rect.unit (s := S8x256x514) ![0, 0, 512] S8x256x2.size inb_S8x256x514_S8x256x2_0_0_512, k0_pay6⟩,
   ⟨Rect.unit (s := S8x256x514) ![0, 0, 0] S8x256x1.size inb_S8x256x514_S8x256x1_0_0_0, k0_pay5⟩]

variable (m : (ℓ : Loc nD τ sig) → Buf (Elt F) ℓ)

/-- What point `t` loads. -/
def inpAt (c : Dev nD) (t : Fin cfg0.N) : Inp F where
  x := fun r => View.readAt (Elt F) (ms0_0 t).view r ((hs0_0 t).unread (iblk m c 0 t))
  w1 := View.readAt (Elt F) (ms0_1 t).view (Rect.unit (s := S64x16) ![0, 0] S64x16.size inb_S64x16_S64x16_0_0).toLoadRect ((hs0_1 t).unread (iblk m c 1 t))
  w2 := View.readAt (Elt F) (ms0_2 t).view (Rect.unit (s := S128x512) ![0, 0] S128x512.size inb_S128x512_S128x512_0_0).toLoadRect ((hs0_2 t).unread (iblk m c 2 t))
  w3 := View.readAt (Elt F) (ms0_3 t).view (Rect.unit (s := S128x512) ![0, 0] S128x512.size inb_S128x512_S128x512_0_0).toLoadRect ((hs0_3 t).unread (iblk m c 3 t))
  pw := View.readAt (Elt F) (ms0_4 t).view (Rect.unit (s := S64x128) ![0, 0] S64x128.size inb_S64x128_S64x128_0_0).toLoadRect ((hs0_4 t).unread (iblk m c 4 t))
  pb := View.readAt (Elt F) (ms0_5 t).view (Rect.unit (s := S64x1) ![0, 0] S64x1.size inb_S64x1_S64x1_0_0).toLoadRect ((hs0_5 t).unread (iblk m c 5 t))
  emb := View.readAt (Elt F) (ms0_6 t).view (Rect.unit (s := S1024x64) ![0, 0] S1024x64.size inb_S1024x64_S1024x64_0_0).toLoadRect ((hs0_6 t).unread (iblk m c 6 t))
  embt := View.readAt (Elt F) (ms0_7 t).view (Rect.unit (s := S64x1024) ![0, 0] S64x1024.size inb_S64x1024_S64x1024_0_0).toLoadRect ((hs0_7 t).unread (iblk m c 7 t))
  e2 := View.readAt (Elt F) (ms0_8 t).view (Rect.unit (s := S1024x1) ![0, 0] S1024x1.size inb_S1024x1_S1024x1_0_0).toLoadRect ((hs0_8 t).unread (iblk m c 8 t))

/-- A scratch array read where the stores cover it, and one read over older contents. -/
def covRd (v : View sig .tc .vmem S8x256x514 .f32) : Rd F := fun L r => v.readCov L r
def overRd (v : View sig .tc .vmem S8x256x514 .f32) (f : v.ty.Contents (Elt F)) : Rd F := fun L r => View.readAt (Elt F) v r (v.writes (Elt F) f L)

end Cert.KernelIdeal.Own

end
-- ==== Proof.Own.BridgeA.lean ====
module

public import proofs.«01_k».proof.Proof.Own.Model

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F] (m : (ℓ : Loc nD τ sig) → Buf (Elt F) ℓ)

/-- The second scratch's stores at the first point. -/
def listA2 (c : Dev nD) (t : Fin cfg0.N) (n : ℕ) : Pcs F :=
  (inpAt m c t).list2 (covRd scM0_0.view) (covRd scM0_0.view) edges1 edges2 n

/-- The latents of image `n` at the first point. -/
def zA (c : Dev nD) (t : Fin cfg0.N) (n : ℕ) : FVec F S64x512 .f32 :=
  (inpAt m c t).z (covRd scM0_1.view (listA2 m c t (n + 1))) (covRd scM0_1.view (listA2 m c t (n + 1))) (Fin.ofNat 8 n)

theorem runA_list1 (c : Dev nD) (t : Fin cfg0.N) (h : t.val = 0) :
    (RA m c t h).2.2.2.1 = (inpAt m c t).list1 edges1 8 := by
  sl_kernel_rfl

theorem runA_list2 (c : Dev nD) (t : Fin cfg0.N) (h : t.val = 0) :
    (RA m c t h).2.2.2.2.1 = listA2 m c t 8 := by
  sl_kernel_rfl

theorem runA_listq (c : Dev nD) (t : Fin cfg0.N) (h : t.val = 0) :
    (RA m c t h).1 = (inpAt m c t).listq (zA m c t) 8 := by
  sl_kernel_rfl

theorem runA_cnt (c : Dev nD) (t : Fin cfg0.N) (h : t.val = 0) :
    (RA m c t h).2.1 = [⟨Rect.unit (s := S1024x1) ![0, 0] S1024x1.size inb_S1024x1_S1024x1_0_0, (inpAt m c t).cnt (zA m c t) 8⟩] := by
  sl_kernel_rfl

theorem runA_sse (c : Dev nD) (t : Fin cfg0.N) (h : t.val = 0) :
    (RA m c t h).2.2.1 = [⟨Rect.unit (s := S1x1) ![0, 0] S1x1.size inb_S1x1_S1x1_0_0, (inpAt m c t).sse (zA m c t) 8⟩] := by
  sl_kernel_rfl

end Cert.KernelIdeal.Own

end
-- ==== Proof.Own.BridgeB.lean ====
module

public import proofs.«01_k».proof.Proof.Own.Model

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F] (m : (ℓ : Loc nD τ sig) → Buf (Elt F) ℓ)

/-- A scratch array read over what the point before left. -/
def oldRd0 (p : St F) : Rd F := overRd scM0_0.view ((Memref.isWhole_whole cc0_scratch0).unread p.2.2.2.1)
def oldRd1 (p : St F) : Rd F := overRd scM0_1.view ((Memref.isWhole_whole cc0_scratch1).unread p.2.2.2.2)

/-- The second scratch's stores at a later point. -/
def listB2 (c : Dev nD) (t : Fin cfg0.N) (p : St F) (n : ℕ) : Pcs F :=
  (inpAt m c t).list2 (oldRd0 p) (covRd scM0_0.view) [] [] n

/-- The latents of image `n` at a later point. -/
def zB (c : Dev nD) (t : Fin cfg0.N) (p : St F) (n : ℕ) : FVec F S64x512 .f32 :=
  (inpAt m c t).z (oldRd1 p (listB2 m c t p (n + 1))) (covRd scM0_1.view (listB2 m c t p (n + 1))) (Fin.ofNat 8 n)

theorem runB_list1 (c : Dev nD) (t : Fin cfg0.N) (h : t.val ≠ 0) (p : St F) :
    (RB m c t h p).2.2.2.1 = (inpAt m c t).list1 [] 8 := by
  sl_kernel_rfl

theorem runB_list2 (c : Dev nD) (t : Fin cfg0.N) (h : t.val ≠ 0) (p : St F) :
    (RB m c t h p).2.2.2.2.1 = listB2 m c t p 8 := by
  sl_kernel_rfl

theorem runB_listq (c : Dev nD) (t : Fin cfg0.N) (h : t.val ≠ 0) (p : St F) :
    (RB m c t h p).1 = (inpAt m c t).listq (zB m c t p) 8 := by
  sl_kernel_rfl

theorem runB_cnt (c : Dev nD) (t : Fin cfg0.N) (h : t.val ≠ 0) (p : St F) :
    (RB m c t h p).2.1 = [⟨Rect.unit (s := S1024x1) ![0, 0] S1024x1.size inb_S1024x1_S1024x1_0_0,
      k0_pay1 ((inpAt m c t).cnt (zB m c t p) 8)
        (View.readAt (Elt F) (ms0_10 t).view (Rect.unit (s := S1024x1) ![0, 0] S1024x1.size inb_S1024x1_S1024x1_0_0).toLoadRect ((hs0_10 t).unread p.2.1))⟩] := by
  sl_kernel_rfl

theorem runB_sse (c : Dev nD) (t : Fin cfg0.N) (h : t.val ≠ 0) (p : St F) :
    (RB m c t h p).2.2.1 = [⟨Rect.unit (s := S1x1) ![0, 0] S1x1.size inb_S1x1_S1x1_0_0,
      k0_pay2 ((inpAt m c t).sse (zB m c t p) 8)
        (View.readAt (Elt F) (ms0_11 t).view (Rect.unit (s := S1x1) ![0, 0] S1x1.size inb_S1x1_S1x1_0_0).toLoadRect ((hs0_11 t).unread p.2.2.1))⟩] := by
  sl_kernel_rfl

end Cert.KernelIdeal.Own

end
-- ==== Proof.Own.Scratch.lean ====
/- What the two scratch arrays hold: whatever lists of stores are read, the body of an image sees the first layer with
   one zero column at each side, and the second layer's even and odd columns, each with its zero columns. -/
module

public import proofs.«01_k».proof.Proof.Own.Model
public import Idealize.ShloMosaic.Lib.Pointwise
public import Idealize.ShloMosaic.Lib.WritesUnit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F]

/-- The zero the edge columns hold. -/
abbrev zero : Elt F .f32 := (Scalar.ofBits .f32 0x00000000#32 : F .f32)

/-- A scratch array read at a box. -/
def gat (X : Vec F S8x256x514 .f32) : (r : LoadRect S8x256x514) → r.shape.Idx → Elt F .f32 := fun r j => X (r.idx j)

/-- The first scratch: row `64r + o`, column `u + 1` is the first layer's channel `o` at position `4u + r`. -/
def Inp.s1 (I : Inp F) : Vec F S8x256x514 .f32 := fun y =>
  if h : 1 ≤ (y 2).val ∧ (y 2).val ≤ 512 then
    k0_pay73 (I.x1 (y 0)) I.w1 (ix2 ⟨(y 1).val % 64, by omega⟩
      ⟨512 * ((y 1).val / 64) + ((y 2).val - 1), by have : (y 1).val < 256 := (y 1).isLt; omega⟩)
  else zero

/-- The second layer of an image, over that scratch. -/
def Inp.H2 (I : Inp F) (i : Fin 8) : FVec F S128x1024 .f32 := I.h2 (gat I.s1) (gat I.s1) i

/-- The second scratch: the second layer's even positions in the upper half, its odd ones in the lower half, one column
    further right. -/
def Inp.s2 (I : Inp F) : Vec F S8x256x514 .f32 := fun y =>
  if h : (y 1).val < 128 then
    if h2 : (y 2).val < 512 then I.H2 (y 0) (ix2 ⟨(y 1).val, h⟩ ⟨(y 2).val, by omega⟩) else zero
  else if h2 : 1 ≤ (y 2).val ∧ (y 2).val ≤ 512 then
    I.H2 (y 0) (ix2 ⟨(y 1).val - 128, by have : (y 1).val < 256 := (y 1).isLt; omega⟩ ⟨512 + ((y 2).val - 1), by omega⟩)
  else zero

/-- The latents of an image, over that scratch. -/
def Inp.Z (I : Inp F) (i : Fin 8) : FVec F S64x512 .f32 := I.z (gat I.s2) (gat I.s2) i

/-- The columns that stay zero. -/
def edge1 (y : S8x256x514.Idx) : Prop := (y 2).val = 0 ∨ (y 2).val = 513
def edge2 (y : S8x256x514.Idx) : Prop := ((y 1).val < 128 ∧ 512 ≤ (y 2).val) ∨ (128 ≤ (y 1).val ∧ ((y 2).val = 0 ∨ (y 2).val = 513))

variable (v : View sig .tc .vmem S8x256x514 .f32) (f : v.ty.Contents (Elt F)) (I : Inp F)

theorem pay77_at (X : FVec F S16x2048 .f32) (w : Vec F S64x16 .f32) (r : Fin 64) (u : Fin 512) :
    k0_pay77 X w (ix3 0 r u) = k0_pay73 X w (ix2 r ⟨1536 + u.val, by omega⟩) := by pointwise [k0_pay77]
theorem pay76_at (X : FVec F S16x2048 .f32) (w : Vec F S64x16 .f32) (r : Fin 64) (u : Fin 512) :
    k0_pay76 X w (ix3 0 r u) = k0_pay73 X w (ix2 r ⟨1024 + u.val, by omega⟩) := by pointwise [k0_pay76]
theorem pay75_at (X : FVec F S16x2048 .f32) (w : Vec F S64x16 .f32) (r : Fin 64) (u : Fin 512) :
    k0_pay75 X w (ix3 0 r u) = k0_pay73 X w (ix2 r ⟨512 + u.val, by omega⟩) := by pointwise [k0_pay75]
theorem pay74_at (X : FVec F S16x2048 .f32) (w : Vec F S64x16 .f32) (r : Fin 64) (u : Fin 512) :
    k0_pay74 X w (ix3 0 r u) = k0_pay73 X w (ix2 r ⟨u.val, by omega⟩) := by pointwise [k0_pay74]

/-- Image `i`'s stores do not touch another image or an edge column. -/
theorem read_push1_out (i : Fin 8) (L : Pcs F) (y : S8x256x514.Idx)
    (h : (y 0).val ≠ i.val ∨ edge1 y) :
    v.read (Elt F) (v.writes (Elt F) f (I.push1 i L)) y = v.read (Elt F) (v.writes (Elt F) f L) y := by
  have key : ∀ (r : ℕ) (h1 : r + 64 ≤ 256) (w : FVec F S1x64x512 .f32) (L : Pcs F),
      v.read (Elt F) (v.writes (Elt F) f (⟨box64 i r 1 h1 (by omega), w⟩ :: L)) y = v.read (Elt F) (v.writes (Elt F) f L) y := by
    intro r h1 w L
    rcases h with h | h | h
    · exact View.read_writes_cons_unit_of_not_mem v f _ w L y rfl 0 (by
        show (y 0).val < i.val ∨ i.val + 1 ≤ (y 0).val
        omega)
    · exact View.read_writes_cons_unit_of_not_mem v f _ w L y rfl 2 (by
        show (y 2).val < 1 ∨ 1 + 512 ≤ (y 2).val
        omega)
    · exact View.read_writes_cons_unit_of_not_mem v f _ w L y rfl 2 (by
        show (y 2).val < 1 ∨ 1 + 512 ≤ (y 2).val
        omega)
  unfold Inp.push1
  rw [key, key, key, key]

/-- Inside, they leave the first layer. -/
theorem read_push1_in (i : Fin 8) (L : Pcs F) (y : S8x256x514.Idx) (h0 : y 0 = i) (h1 : 1 ≤ (y 2).val) (h2 : (y 2).val ≤ 512) :
    v.read (Elt F) (v.writes (Elt F) f (I.push1 i L)) y = I.s1 y := by
  have skip : ∀ (r : ℕ) (hr : r + 64 ≤ 256) (w : FVec F S1x64x512 .f32) (L : Pcs F), (y 1).val < r →
      v.read (Elt F) (v.writes (Elt F) f (⟨box64 i r 1 hr (by omega), w⟩ :: L)) y = v.read (Elt F) (v.writes (Elt F) f L) y :=
    fun r hr w L hy => View.read_writes_cons_unit_of_not_mem v f _ w L y rfl 1 (Or.inl hy)
  have take : ∀ (r : ℕ) (hr : r + 64 ≤ 256) (w : FVec F S1x64x512 .f32) (L : Pcs F) (hy : r ≤ (y 1).val) (hy' : (y 1).val < r + 64),
      v.read (Elt F) (v.writes (Elt F) f (⟨box64 i r 1 hr (by omega), w⟩ :: L)) y
        = w (ix3 0 ⟨(y 1).val - r, by omega⟩ ⟨(y 2).val - 1, by omega⟩) := by
    intro r hr w L hy hy'
    refine View.read_writes_cons_unit_of_mem v f _ w L y _ rfl fun a => ?_
    match a with
    | ⟨0, _⟩ => show (y 0).val = i.val + 0; rw [h0]; rfl
    | ⟨1, _⟩ => show (y 1).val = r + ((y 1).val - r); omega
    | ⟨2, _⟩ => show (y 2).val = 1 + ((y 2).val - 1); omega
  have hy : (y 1).val < 256 := (y 1).isLt
  unfold Inp.push1 Inp.s1
  rw [dif_pos ⟨h1, h2⟩, h0]
  by_cases c3 : 192 ≤ (y 1).val
  · rw [take 192 _ _ _ c3 (by omega), pay77_at]
    congr 1; congr 1 <;> apply Fin.ext <;> simp only [] <;> omega
  · rw [skip 192 _ _ _ (by omega)]
    by_cases c2 : 128 ≤ (y 1).val
    · rw [take 128 _ _ _ c2 (by omega), pay76_at]
      congr 1; congr 1 <;> apply Fin.ext <;> simp only [] <;> omega
    · rw [skip 128 _ _ _ (by omega)]
      by_cases c1 : 64 ≤ (y 1).val
      · rw [take 64 _ _ _ c1 (by omega), pay75_at]
        congr 1; congr 1 <;> apply Fin.ext <;> simp only [] <;> omega
      · rw [skip 64 _ _ _ (by omega), take 0 _ _ _ (by omega) (by omega), pay74_at]
        congr 1; congr 1 <;> apply Fin.ext <;> simp only [] <;> omega

theorem read_list1_edge (L : Pcs F) (n : ℕ) (y : S8x256x514.Idx) (h : edge1 y) :
    v.read (Elt F) (v.writes (Elt F) f (I.list1 L n)) y = v.read (Elt F) (v.writes (Elt F) f L) y := by
  induction n with
  | zero => rfl
  | succ n ih => exact (read_push1_out v f I _ _ y (.inr h)).trans ih

theorem read_list1_in (L : Pcs F) (n : ℕ) (y : S8x256x514.Idx) (h0 : y 0 = Fin.ofNat 8 n) (h : ¬ edge1 y) :
    v.read (Elt F) (v.writes (Elt F) f (I.list1 L (n + 1))) y = I.s1 y :=
  read_push1_in v f I _ _ y h0 (by unfold edge1 at h; omega)
    (by unfold edge1 at h; have : (y 2).val < 514 := (y 2).isLt; omega)

theorem s1_edge (y : S8x256x514.Idx) (h : edge1 y) : I.s1 y = zero := by
  unfold Inp.s1; rw [dif_neg]; unfold edge1 at h; omega

/-! ## The second scratch -/

theorem pay165_at (H : FVec F S128x1024 .f32) (r : Fin 128) (u : Fin 512) :
    k0_pay165 H (ix3 0 r u) = H (ix2 r ⟨512 + u.val, by omega⟩) := by pointwise [k0_pay165]
theorem pay164_at (H : FVec F S128x1024 .f32) (r : Fin 128) (u : Fin 512) :
    k0_pay164 (extractStridedSlice S128x512 ![0, 0] H slices_S128x1024_o0_0_S128x512) (ix3 0 r u) = H (ix2 r ⟨u.val, by omega⟩) := by
  pointwise [k0_pay164]

theorem read_push2_out (H : FVec F S128x1024 .f32) (i : Fin 8) (L : Pcs F) (y : S8x256x514.Idx)
    (h : (y 0).val ≠ i.val ∨ edge2 y) :
    v.read (Elt F) (v.writes (Elt F) f (Inp.push2 H i L)) y = v.read (Elt F) (v.writes (Elt F) f L) y := by
  unfold Inp.push2
  have hy : (y 1).val < 256 := (y 1).isLt
  have hz : (y 2).val < 514 := (y 2).isLt
  rcases h with h | h
  · exact (View.read_writes_cons_unit_of_not_mem v f _ _ _ y rfl 0
      (by show (y 0).val < i.val ∨ i.val + 1 ≤ (y 0).val; omega)).trans
      (View.read_writes_cons_unit_of_not_mem v f _ _ _ y rfl 0
      (by show (y 0).val < i.val ∨ i.val + 1 ≤ (y 0).val; omega))
  · unfold edge2 at h
    by_cases c : (y 1).val < 128
    · exact (View.read_writes_cons_unit_of_not_mem v f _ _ _ y rfl 1
        (by show (y 1).val < 128 ∨ 128 + 128 ≤ (y 1).val; omega)).trans
        (View.read_writes_cons_unit_of_not_mem v f _ _ _ y rfl 2
        (by show (y 2).val < 0 ∨ 0 + 512 ≤ (y 2).val; omega))
    · exact (View.read_writes_cons_unit_of_not_mem v f _ _ _ y rfl 2
        (by show (y 2).val < 1 ∨ 1 + 512 ≤ (y 2).val; omega)).trans
        (View.read_writes_cons_unit_of_not_mem v f _ _ _ y rfl 1
        (by show (y 1).val < 0 ∨ 0 + 128 ≤ (y 1).val; omega))

theorem read_push2_in (i : Fin 8) (L : Pcs F) (y : S8x256x514.Idx) (h0 : y 0 = i) (h : ¬ edge2 y) :
    v.read (Elt F) (v.writes (Elt F) f (Inp.push2 (I.H2 i) i L)) y = I.s2 y := by
  have hy : (y 1).val < 256 := (y 1).isLt
  have hz : (y 2).val < 514 := (y 2).isLt
  unfold edge2 at h
  unfold Inp.push2 Inp.s2
  rw [h0]
  by_cases c : (y 1).val < 128
  · rw [dif_pos c, dif_pos (by omega)]
    refine (View.read_writes_cons_unit_of_not_mem v f _ _ _ y rfl 1
        (by show (y 1).val < 128 ∨ 128 + 128 ≤ (y 1).val; omega)).trans ?_
    refine (View.read_writes_cons_unit_of_mem v f _ _ L y (ix3 0 ⟨(y 1).val, c⟩ ⟨(y 2).val, by omega⟩) rfl fun a => ?_).trans
      (pay164_at _ _ _)
    match a with
    | ⟨0, _⟩ => show (y 0).val = i.val + 0; rw [h0]; rfl
    | ⟨1, _⟩ => show (y 1).val = 0 + (y 1).val; omega
    | ⟨2, _⟩ => show (y 2).val = 0 + (y 2).val; omega
  · rw [dif_neg c, dif_pos (by omega)]
    refine (View.read_writes_cons_unit_of_mem v f _ _ _ y (ix3 0 ⟨(y 1).val - 128, by omega⟩ ⟨(y 2).val - 1, by omega⟩) rfl fun a => ?_).trans
      (pay165_at _ _ _)
    match a with
    | ⟨0, _⟩ => show (y 0).val = i.val + 0; rw [h0]; rfl
    | ⟨1, _⟩ => show (y 1).val = 128 + ((y 1).val - 128); omega
    | ⟨2, _⟩ => show (y 2).val = 1 + ((y 2).val - 1); omega

theorem s2_edge (y : S8x256x514.Idx) (h : edge2 y) : I.s2 y = zero := by
  unfold edge2 at h
  unfold Inp.s2
  by_cases c : (y 1).val < 128
  · rw [dif_pos c, dif_neg (by omega)]
  · rw [dif_neg c, dif_neg (by omega)]

/-! ## The readers -/

/-- A reader sees `X` in image `i`, everywhere or off the columns `P`. -/
def Sees (R : (r : LoadRect S8x256x514) → r.shape.Idx → Elt F .f32) (X : Vec F S8x256x514 .f32) (i : Fin 8)
    (P : S8x256x514.Idx → Prop) : Prop := ∀ r j, (r.idx j) 0 = i → P (r.idx j) → R r j = X (r.idx j)

theorem h2_of_sees (E J : (r : LoadRect S8x256x514) → r.shape.Idx → Elt F .f32) (i : Fin 8)
    (hE : Sees E I.s1 i fun _ => True) (hJ : Sees J I.s1 i fun y => ¬ edge1 y) : I.h2 E J i = I.H2 i := by
  have at0 : ∀ (h r o : ℕ) h1 h2 (j), ((Rect.unit (s := S8x256x514) ![i.val, r, o] ![1, h, 512] (inb_s h i r o h1 h2)).toLoadRect.idx j) 0 = i := by
    intro h r o h1 h2 j
    apply Fin.ext
    show i.val + 1 * (j 0).val = i.val
    have : (j 0).val < 1 := (j 0).isLt
    omega
  have e1 := fun r h1 h2 => funext fun j => hE (box192 i 64 r h1 h2).toLoadRect j (at0 192 64 r h1 h2 j) trivial
  have e2 := fun r h1 h2 => funext fun j => hE (box192 i 0 r h1 h2).toLoadRect j (at0 192 0 r h1 h2 j) trivial
  have e3 := fun r h1 h2 => funext fun j => hE (box64 i 0 r h1 h2).toLoadRect j (at0 64 0 r h1 h2 j) trivial
  have e4 := fun r h1 h2 => funext fun j => hE (box64 i 192 r h1 h2).toLoadRect j (at0 64 192 r h1 h2 j) trivial
  have e5 : J (box256 i 0 1 (by omega) (by omega)).toLoadRect = gat I.s1 (box256 i 0 1 (by omega) (by omega)).toLoadRect :=
    funext fun j => hJ (box256 i 0 1 (by omega) (by omega)).toLoadRect j (at0 256 0 1 (by omega) (by omega) j) (by
      show ¬ (1 + 1 * (j 2).val = 0 ∨ 1 + 1 * (j 2).val = 513)
      have : (j 2).val < 512 := (j 2).isLt
      omega)
  unfold Inp.H2 Inp.h2
  rw [e5, e1 0 (by omega) (by omega), e2 2 (by omega) (by omega), e3 2 (by omega) (by omega), e4 0 (by omega) (by omega)]
  rfl

theorem z_of_sees (E J : (r : LoadRect S8x256x514) → r.shape.Idx → Elt F .f32) (i : Fin 8)
    (hE : Sees E I.s2 i fun _ => True) (hJ : Sees J I.s2 i fun y => ¬ edge2 y) : I.z E J i = I.Z i := by
  have at0 : ∀ (r o : ℕ) h1 h2 (j), ((box128 i r o h1 h2).toLoadRect.idx j) 0 = i := by
    intro r o h1 h2 j
    apply Fin.ext
    show i.val + 1 * (j 0).val = i.val
    have : (j 0).val < 1 := (j 0).isLt
    omega
  have e1 := fun r o h1 h2 => funext fun j => hE (box128 i r o h1 h2).toLoadRect j (at0 r o h1 h2 j) trivial
  have e2 : J (box128 i 0 0 (by omega) (by omega)).toLoadRect = gat I.s2 (box128 i 0 0 (by omega) (by omega)).toLoadRect :=
    funext fun j => hJ (box128 i 0 0 (by omega) (by omega)).toLoadRect j (at0 0 0 (by omega) (by omega) j) (by
      show ¬ ((0 + 1 * (j 1).val < 128 ∧ 512 ≤ 0 + 1 * (j 2).val) ∨ (128 ≤ 0 + 1 * (j 1).val ∧ (0 + 1 * (j 2).val = 0 ∨ 0 + 1 * (j 2).val = 513)))
      have : (j 2).val < 512 := (j 2).isLt
      have : (j 1).val < 128 := (j 1).isLt
      omega)
  have e3 : J (box128 i 128 1 (by omega) (by omega)).toLoadRect = gat I.s2 (box128 i 128 1 (by omega) (by omega)).toLoadRect :=
    funext fun j => hJ (box128 i 128 1 (by omega) (by omega)).toLoadRect j (at0 128 1 (by omega) (by omega) j) (by
      show ¬ ((128 + 1 * (j 1).val < 128 ∧ 512 ≤ 1 + 1 * (j 2).val) ∨ (128 ≤ 128 + 1 * (j 1).val ∧ (1 + 1 * (j 2).val = 0 ∨ 1 + 1 * (j 2).val = 513)))
      have : (j 2).val < 512 := (j 2).isLt
      have : (j 1).val < 128 := (j 1).isLt
      omega)
  unfold Inp.Z Inp.z
  rw [e2, e3, e1 128 0 (by omega) (by omega), e1 0 1 (by omega) (by omega)]
  rfl

/-! ## The lists -/

/-- Old contents and first stores that leave the edge columns zero. -/
def Clean (f : v.ty.Contents (Elt F)) (L : Pcs F) (P : S8x256x514.Idx → Prop) : Prop :=
  ∀ y, P y → v.read (Elt F) (v.writes (Elt F) f L) y = zero

theorem sees1 (L : Pcs F) (n : ℕ) (h : Clean v f L edge1) :
    Sees (overRd v f (I.list1 L (n + 1))) I.s1 (Fin.ofNat 8 n) fun _ => True := by
  intro r j h0 _
  show v.read (Elt F) (v.writes (Elt F) f (I.list1 L (n + 1))) (r.idx j) = _
  by_cases c : edge1 (r.idx j)
  · rw [read_list1_edge v f I L _ _ c, h _ c, s1_edge I _ c]
  · exact read_list1_in v f I L n _ h0 c

theorem sees1_in (L : Pcs F) (n : ℕ) :
    Sees (overRd v f (I.list1 L (n + 1))) I.s1 (Fin.ofNat 8 n) fun y => ¬ edge1 y := by
  intro r j h0 c
  exact read_list1_in v f I L n _ h0 c

theorem read_list2_edge (E J : Rd F) (L1 L2 : Pcs F) (n : ℕ) (y : S8x256x514.Idx) (h : edge2 y) :
    v.read (Elt F) (v.writes (Elt F) f (I.list2 E J L1 L2 n)) y = v.read (Elt F) (v.writes (Elt F) f L2) y := by
  induction n with
  | zero => rfl
  | succ n ih => exact (read_push2_out v f _ _ _ y (.inr h)).trans ih

/-- The readers of the first scratch a point uses. -/
def Good (E J : Rd F) (L1 : Pcs F) : Prop := ∀ n,
  Sees (E (I.list1 L1 (n + 1))) I.s1 (Fin.ofNat 8 n) (fun _ => True) ∧ Sees (J (I.list1 L1 (n + 1))) I.s1 (Fin.ofNat 8 n) (fun y => ¬ edge1 y)

theorem read_list2_in (E J : Rd F) (L1 L2 : Pcs F) (g : Good I E J L1) (n : ℕ) (y : S8x256x514.Idx) (h0 : y 0 = Fin.ofNat 8 n) (h : ¬ edge2 y) :
    v.read (Elt F) (v.writes (Elt F) f (I.list2 E J L1 L2 (n + 1))) y = I.s2 y := by
  unfold Inp.list2
  rw [h2_of_sees I _ _ _ (g n).1 (g n).2]
  exact read_push2_in v f I _ _ y h0 h

theorem sees2 (E J : Rd F) (L1 L2 : Pcs F) (g : Good I E J L1) (n : ℕ) (h : Clean v f L2 edge2) :
    Sees (overRd v f (I.list2 E J L1 L2 (n + 1))) I.s2 (Fin.ofNat 8 n) fun _ => True := by
  intro r j h0 _
  show v.read (Elt F) (v.writes (Elt F) f (I.list2 E J L1 L2 (n + 1))) (r.idx j) = _
  by_cases c : edge2 (r.idx j)
  · rw [read_list2_edge v f I E J L1 L2 _ _ c, h _ c, s2_edge I _ c]
  · exact read_list2_in v f I E J L1 L2 g n _ h0 c

theorem sees2_in (E J : Rd F) (L1 L2 : Pcs F) (g : Good I E J L1) (n : ℕ) :
    Sees (overRd v f (I.list2 E J L1 L2 (n + 1))) I.s2 (Fin.ofNat 8 n) fun y => ¬ edge2 y := by
  intro r j h0 c
  exact read_list2_in v f I E J L1 L2 g n _ h0 c

/-- The first point's edge stores. -/
theorem clean1 : Clean v f edges1 edge1 := by
  intro y h
  unfold edges1
  by_cases c : (y 2).val = 513
  · refine (View.read_writes_cons_unit_of_mem v f _ _ _ y (ix3 (y 0) (y 1) 0) rfl fun a => ?_).trans rfl
    match a with
    | ⟨0, _⟩ => show (y 0).val = 0 + (y 0).val; omega
    | ⟨1, _⟩ => show (y 1).val = 0 + (y 1).val; omega
    | ⟨2, _⟩ => show (y 2).val = 513 + 0; omega
  · refine (View.read_writes_cons_unit_of_not_mem v f _ _ _ y rfl 2 (by
      show (y 2).val < 513 ∨ 513 + 1 ≤ (y 2).val
      have : (y 2).val < 514 := (y 2).isLt
      omega)).trans ?_
    refine (View.read_writes_cons_unit_of_mem v f _ _ _ y (ix3 (y 0) (y 1) 0) rfl fun a => ?_).trans rfl
    unfold edge1 at h
    match a with
    | ⟨0, _⟩ => show (y 0).val = 0 + (y 0).val; omega
    | ⟨1, _⟩ => show (y 1).val = 0 + (y 1).val; omega
    | ⟨2, _⟩ => show (y 2).val = 0 + 0; omega

theorem clean2 : Clean v f edges2 edge2 := by
  intro y h
  unfold edges2
  have hz : (y 2).val < 514 := (y 2).isLt
  unfold edge2 at h
  by_cases c : 512 ≤ (y 2).val
  · refine (View.read_writes_cons_unit_of_mem v f _ _ _ y (ix3 (y 0) (y 1) ⟨(y 2).val - 512, by omega⟩) rfl fun a => ?_).trans rfl
    match a with
    | ⟨0, _⟩ => show (y 0).val = 0 + (y 0).val; omega
    | ⟨1, _⟩ => show (y 1).val = 0 + (y 1).val; omega
    | ⟨2, _⟩ => show (y 2).val = 512 + ((y 2).val - 512); omega
  · refine (View.read_writes_cons_unit_of_not_mem v f _ _ _ y rfl 2 (by
      show (y 2).val < 512 ∨ 512 + 2 ≤ (y 2).val
      omega)).trans ?_
    refine (View.read_writes_cons_unit_of_mem v f _ _ _ y (ix3 (y 0) (y 1) 0) rfl fun a => ?_).trans rfl
    match a with
    | ⟨0, _⟩ => show (y 0).val = 0 + (y 0).val; omega
    | ⟨1, _⟩ => show (y 1).val = 0 + (y 1).val; omega
    | ⟨2, _⟩ => show (y 2).val = 0 + 0; omega

end Cert.KernelIdeal.Own

end
-- ==== Proof.Own.Points.lean ====
/- Every grid point computes the same function of its blocks: the edge columns stay zero from point to point, so the
   latents of a point depend on its inputs alone, and the outputs are read off the lists of stores. -/
module

public import proofs.«01_k».proof.Proof.Own.BridgeA
public import proofs.«01_k».proof.Proof.Own.BridgeB
public import proofs.«01_k».proof.Proof.Own.Scratch

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F] (m : (ℓ : Loc nD τ sig) → Buf (Elt F) ℓ)

/-! ## The inputs are the blocks -/

/-- What a point loads, from its blocks. -/
def inpOf (x0 : Vec F S8x8x516 .f32) (x1 : Vec F S64x16 .f32) (x2 x3 : Vec F S128x512 .f32) (x4 : Vec F S64x128 .f32)
    (x5 : Vec F S64x1 .f32) (x6 : Vec F S1024x64 .f32) (x7 : Vec F S64x1024 .f32) (x8 : Vec F S1024x1 .f32) : Inp F :=
  ⟨fun r j => x0 (r.idx j), x1, x2, x3, x4, x5, x6, x7, x8⟩

theorem whole_load {s : Shape} {mm : Memref sig .tc .vmem s .f32} (h : mm.IsWhole) (X : Vec F s .f32) (off : Fin s.rank → ℕ)
    (inb : ∀ a, off a + s.size a ≤ s.size a) :
    View.readAt (Elt F) mm.view (Rect.unit (s := s) off s.size inb).toLoadRect (h.unread X) = X := by
  funext x
  show mm.view.read (Elt F) (h.unread X) ((Rect.unit (s := s) off s.size inb).toLoadRect.idx x) = X x
  rw [h.read_unread]
  refine congrArg X (funext fun a => Fin.ext ?_)
  show off a + 1 * (x a).val = (x a).val
  have := inb a
  omega

theorem mk_congr {a a' : (r : LoadRect S8x8x516) → r.shape.Idx → Elt F .f32} {b b' : Vec F S64x16 .f32} {d d' e e' : Vec F S128x512 .f32}
    {g g' : Vec F S64x128 .f32} {h h' : Vec F S64x1 .f32} {i i' : Vec F S1024x64 .f32} {j j' : Vec F S64x1024 .f32} {k k' : Vec F S1024x1 .f32}
    (ha : a = a') (hb : b = b') (hd : d = d') (he : e = e') (hg : g = g') (hh : h = h') (hi : i = i') (hj : j = j') (hk : k = k') :
    Inp.mk a b d e g h i j k = Inp.mk a' b' d' e' g' h' i' j' k' := by
  subst ha hb hd he hg hh hi hj hk; rfl

theorem part_load {s : Shape} {mm : Memref sig .tc .vmem s .f32} (h : mm.IsWhole) (X : Vec F s .f32) :
    (fun (r : LoadRect s) => View.readAt (Elt F) mm.view r (h.unread X)) = fun r j => X (r.idx j) := by
  funext r j
  show mm.view.read (Elt F) (h.unread X) (r.idx j) = _
  rw [h.read_unread]

theorem inpAt_eq (c : Dev nD) (t : Fin cfg0.N) :
    inpAt m c t = inpOf (iblk m c 0 t) (iblk m c 1 t) (iblk m c 2 t) (iblk m c 3 t) (iblk m c 4 t) (iblk m c 5 t)
      (iblk m c 6 t) (iblk m c 7 t) (iblk m c 8 t) := by
  unfold inpAt inpOf
  exact mk_congr (part_load (hs0_0 t) _) (whole_load (hs0_1 t) _ _ _) (whole_load (hs0_2 t) _ _ _) (whole_load (hs0_3 t) _ _ _)
    (whole_load (hs0_4 t) _ _ _) (whole_load (hs0_5 t) _ _ _) (whole_load (hs0_6 t) _ _ _) (whole_load (hs0_7 t) _ _ _)
    (whole_load (hs0_8 t) _ _ _)

/-! ## The latents -/

/-- The latents of image `n` of point `t`. -/
def zAt (c : Dev nD) (t : Fin cfg0.N) (n : ℕ) : FVec F S64x512 .f32 := (inpAt m c t).Z (Fin.ofNat 8 n)

theorem zA_eq (c : Dev nD) (t : Fin cfg0.N) : zA m c t = zAt m c t := by
  funext n
  have g : Good (inpAt m c t) (covRd scM0_0.view) (covRd scM0_0.view) edges1 := fun n =>
    ⟨sees1 scM0_0.view _ (inpAt m c t) edges1 n (clean1 scM0_0.view _), sees1_in scM0_0.view _ (inpAt m c t) edges1 n⟩
  exact z_of_sees _ _ _ _ (sees2 scM0_1.view _ (inpAt m c t) _ _ edges1 edges2 g n (clean2 scM0_1.view _))
    (sees2_in scM0_1.view _ (inpAt m c t) _ _ edges1 edges2 g n)

/-- The scratch arrays' edge columns hold zero. -/
def Edges (p : St F) : Prop := (∀ y, edge1 y → p.2.2.2.1 y = zero) ∧ (∀ y, edge2 y → p.2.2.2.2 y = zero)

theorem zB_eq (c : Dev nD) (t : Fin cfg0.N) (p : St F) (e : Edges p) : zB m c t p = zAt m c t := by
  funext n
  have c1 : Clean scM0_0.view ((Memref.isWhole_whole cc0_scratch0).unread p.2.2.2.1) [] edge1 := fun y h =>
    (congrFun ((Memref.isWhole_whole cc0_scratch0).read_unread p.2.2.2.1) y).trans (e.1 y h)
  have c2 : Clean scM0_1.view ((Memref.isWhole_whole cc0_scratch1).unread p.2.2.2.2) [] edge2 := fun y h =>
    (congrFun ((Memref.isWhole_whole cc0_scratch1).read_unread p.2.2.2.2) y).trans (e.2 y h)
  have g : Good (inpAt m c t) (oldRd0 p) (covRd scM0_0.view) [] := fun n =>
    ⟨sees1 scM0_0.view _ (inpAt m c t) [] n c1, sees1_in scM0_0.view _ (inpAt m c t) [] n⟩
  exact z_of_sees _ _ _ _ (sees2 scM0_1.view _ (inpAt m c t) _ _ [] [] g n c2)
    (sees2_in scM0_1.view _ (inpAt m c t) _ _ [] [] g n)

theorem edges_A (c : Dev nD) (t : Fin cfg0.N) (h : t.val = 0) : Edges (stA m c t h) := by
  constructor
  · intro y hy
    dsimp only [stA]
    unfold scrA0
    rw [runA_list1, read_list1_edge _ _ _ _ _ _ hy]
    exact clean1 _ _ y hy
  · intro y hy
    dsimp only [stA]
    unfold scrA1
    rw [runA_list2, listA2, read_list2_edge _ _ _ _ _ _ _ _ _ hy]
    exact clean2 _ _ y hy

theorem edges_B (c : Dev nD) (t : Fin cfg0.N) (h : t.val ≠ 0) (p : St F) (e : Edges p) : Edges (stB m c t h p) := by
  constructor
  · intro y hy
    dsimp only [stB]
    unfold scrB0
    rw [runB_list1, read_list1_edge _ _ _ _ _ _ hy]
    exact (congrFun ((Memref.isWhole_whole cc0_scratch0).read_unread p.2.2.2.1) y).trans (e.1 y hy)
  · intro y hy
    dsimp only [stB]
    unfold scrB1
    rw [runB_list2, listB2, read_list2_edge _ _ _ _ _ _ _ _ _ hy]
    exact (congrFun ((Memref.isWhole_whole cc0_scratch1).read_unread p.2.2.2.2) y).trans (e.2 y hy)

theorem edges_all (c : Dev nD) : ∀ (n : ℕ) (hn : n < cfg0.N), Edges (outsAt m c n hn)
  | 0, hn => edges_A m c ⟨0, hn⟩ rfl
  | n + 1, hn => edges_B m c ⟨n + 1, hn⟩ (Nat.succ_ne_zero n) _ (edges_all c n (Nat.lt_of_succ_lt hn))

/-! ## The outputs -/

theorem read_listq (I : Inp F) (v : View sig .tc .vmem S8x64x512 .f32) (f : v.ty.Contents (Elt F)) (Z : ℕ → FVec F S64x512 .f32)
    (y : S8x64x512.Idx) : ∀ n, (y 0).val < n → n ≤ 8 →
      v.read (Elt F) (v.writes (Elt F) f (I.listq Z n)) y = k0_pay169 (Z (y 0).val) I.emb I.e2 I.embt (ix3 0 (y 1) (y 2))
  | 0, h, _ => absurd h (Nat.not_lt_zero _)
  | n + 1, h, hn => by
    have hv : (Fin.ofNat 8 n).val = n := Nat.mod_eq_of_lt (by omega)
    unfold Inp.listq
    by_cases c : (y 0).val = n
    · refine (View.read_writes_cons_unit_of_mem v f _ _ _ y (ix3 0 (y 1) (y 2)) rfl fun a => ?_).trans (by rw [c]; rfl)
      match a with
      | ⟨0, _⟩ => show (y 0).val = (Fin.ofNat 8 n).val + 0; omega
      | ⟨1, _⟩ => show (y 1).val = 0 + (y 1).val; omega
      | ⟨2, _⟩ => show (y 2).val = 0 + (y 2).val; omega
    · refine (View.read_writes_cons_unit_of_not_mem v f _ _ _ y rfl 0 (by
        show (y 0).val < (Fin.ofNat 8 n).val ∨ (Fin.ofNat 8 n).val + 1 ≤ (y 0).val
        omega)).trans (read_listq I v f Z y n (by omega) (by omega))

/-- The codes a point leaves. -/
theorem codes_at (c : Dev nD) (t : Fin cfg0.N) (y : S8x64x512.Idx) :
    (outsAt m c t.val t.isLt).1 y
      = k0_pay169 (zAt m c t (y 0).val) (inpAt m c t).emb (inpAt m c t).e2 (inpAt m c t).embt (ix3 0 (y 1) (y 2)) := by
  by_cases h : t.val = 0
  · rw [outsAt_A m c t h]
    dsimp only [stA]
    unfold outA9
    rw [runA_listq, zA_eq]
    exact read_listq _ _ _ _ y 8 (y 0).isLt le_rfl
  · rw [outsAt_B m c t h]
    dsimp only [stB]
    unfold outB9
    rw [runB_listq, zB_eq m c t _ (edges_all m c _ _)]
    exact read_listq _ _ _ _ y 8 (y 0).isLt le_rfl

theorem read_whole {s : Shape} (v : View sig .tc .vmem s .f32) (f : v.ty.Contents (Elt F)) (off : Fin s.rank → ℕ)
    (inb : ∀ a, off a + s.size a ≤ s.size a) (w : Vec F s .f32) :
    v.read (Elt F) (v.writes (Elt F) f [⟨Rect.unit (s := s) off s.size inb, w⟩]) = w := by
  funext y
  refine View.read_writes_cons_unit_of_mem v f inb w [] y y rfl fun a => ?_
  have := inb a
  omega

/-- The counts the first point leaves. -/
theorem cnt_first (c : Dev nD) (t : Fin cfg0.N) (h : t.val = 0) :
    (outsAt m c t.val t.isLt).2.1 = (inpAt m c t).cnt (zAt m c t) 8 := by
  rw [outsAt_A m c t h]
  dsimp only [stA]
  unfold outA10
  rw [runA_cnt, zA_eq]
  exact read_whole _ _ _ _ _

/-- A later point adds its counts. -/
theorem cnt_later (c : Dev nD) (t : Fin cfg0.N) (h : t.val ≠ 0) :
    (outsAt m c t.val t.isLt).2.1 = k0_pay1 ((inpAt m c t).cnt (zAt m c t) 8)
      (outsAt m c (t.val - 1) (Nat.lt_of_le_of_lt (Nat.sub_le _ _) t.isLt)).2.1 := by
  rw [outsAt_B m c t h]
  dsimp only [stB]
  unfold outB10
  rw [runB_cnt, zB_eq m c t _ (edges_all m c _ _), whole_load]
  exact read_whole _ _ _ _ _

/-- The squared error the first point leaves. -/
theorem sse_first (c : Dev nD) (t : Fin cfg0.N) (h : t.val = 0) :
    (outsAt m c t.val t.isLt).2.2.1 = (inpAt m c t).sse (zAt m c t) 8 := by
  rw [outsAt_A m c t h]
  dsimp only [stA]
  unfold outA11
  rw [runA_sse, zA_eq]
  exact read_whole _ _ _ _ _

/-- A later point adds its squared error. -/
theorem sse_later (c : Dev nD) (t : Fin cfg0.N) (h : t.val ≠ 0) :
    (outsAt m c t.val t.isLt).2.2.1 = k0_pay2 ((inpAt m c t).sse (zAt m c t) 8)
      (outsAt m c (t.val - 1) (Nat.lt_of_le_of_lt (Nat.sub_le _ _) t.isLt)).2.2.1 := by
  rw [outsAt_B m c t h]
  dsimp only [stB]
  unfold outB11
  rw [runB_sse, zB_eq m c t _ (edges_all m c _ _), whole_load]
  exact read_whole _ _ _ _ _

end Cert.KernelIdeal.Own

end
-- ==== Proof.Own.Spec.lean ====
/- The encoder as mathematics on extended reals: padded rows, the leaky rectifier and the four layers. -/
module

public import Idealize.ShloMosaic.Lib.Pointwise
public import Idealize.ShloMosaic.PureOps.Ideal.Laws

@[expose] public section

noncomputable section

namespace Cert.Spec

open Idealize.ShloMosaic

/-- The leaky rectifier on one number. -/
def lk (v : EReal) : EReal := if 0 < v then v else Ideal.ofBits .f32 0x3C23D70A#32 * v

/-- A row with `p` zeros before it and zeros after it. -/
def pd {L : ℕ} (p : ℕ) (f : Fin L → EReal) (i : ℕ) : EReal := if h : p ≤ i ∧ i - p < L then f ⟨i - p, h.2⟩ else 0

/-- A padded row depends on the distance to its start alone. -/
theorem pd_shift {L : ℕ} (p q : ℕ) (f : Fin L → EReal) (i j : ℕ) (h : i + q = j + p) : pd p f i = pd q f j := by
  unfold pd
  by_cases hc : p ≤ i ∧ i - p < L
  · have hd : q ≤ j ∧ j - q < L := by omega
    rw [dif_pos hc, dif_pos hd]; congr 1; ext; simp only; omega
  · have hd : ¬ (q ≤ j ∧ j - q < L) := by omega
    rw [dif_neg hc, dif_neg hd]

/-- First layer: 16 taps, stride 2. -/
def c1 (x : Fin 4096 → EReal) (w : Fin 64 → Fin 16 → EReal) (o : Fin 64) (t : Fin 2048) : EReal :=
  lk (∑ k : Fin 16, pd 7 x (k.val + 2 * t.val) * w o k)

/-- Second layer: 8 taps over 64 channels, stride 2. -/
def c2 (h : Fin 64 → Fin 2048 → EReal) (w : Fin 128 → Fin 64 → Fin 8 → EReal) (c : Fin 128) (t : Fin 1024) : EReal :=
  lk (∑ k : Fin 8, ∑ o : Fin 64, pd 3 (h o) (k.val + 2 * t.val) * w c o k)

/-- Third layer: 4 taps over 128 channels, stride 2. -/
def c3 (h : Fin 128 → Fin 1024 → EReal) (w : Fin 128 → Fin 128 → Fin 4 → EReal) (c : Fin 128) (t : Fin 512) : EReal :=
  lk (∑ k : Fin 4, ∑ o : Fin 128, pd 1 (h o) (k.val + 2 * t.val) * w c o k)

/-- Latents: one tap over 128 channels and a bias. -/
def c4 (h : Fin 128 → Fin 512 → EReal) (w : Fin 64 → Fin 128 → EReal) (b : Fin 64 → EReal) (d : Fin 64) (u : Fin 512) : EReal :=
  (∑ c : Fin 128, h c u * w d c) + b d

/-- The weights of the encoder. -/
structure Wts where
  w1 : Fin 64 → Fin 16 → EReal
  w2 : Fin 128 → Fin 64 → Fin 8 → EReal
  w3 : Fin 128 → Fin 128 → Fin 4 → EReal
  pw : Fin 64 → Fin 128 → EReal
  pb : Fin 64 → EReal

/-- The second hidden row of a signal. -/
def Wts.hid (W : Wts) (x : Fin 4096 → EReal) : Fin 128 → Fin 1024 → EReal := c2 (c1 x W.w1) W.w2

/-- The latents of a signal. -/
def Wts.lat (W : Wts) (x : Fin 4096 → EReal) : Fin 64 → Fin 512 → EReal := c4 (c3 (W.hid x) W.w3) W.pw W.pb

end Cert.Spec
-- ==== Proof.Own.KerConv.lean ====
/- The kernel's latents of an image are the encoder's: the two scratch arrays hold the hidden rows by phase, and the blocks the
   layers load from them are the padded rows at every tap. -/
module

public import proofs.«01_k».proof.Proof.Own.Points
public import proofs.«01_k».proof.Proof.Own.Spec
public import Idealize.ShloMosaic.Lib.Pipeline.ValueKit

@[expose] public section

set_option maxRecDepth 16384

noncomputable section

namespace Cert.KernelIdeal.Own

open Cert.KernelIdeal Cert.KernelIdeal.Gen Cert.Spec Idealize.ShloMosaic Idealize.ShloMosaic.TcCoe

/-! ## The payloads at an index -/

theorem pay73_at (X : FVec Ideal S16x2048 .f32) (w : Vec Ideal S64x16 .f32) (o : Fin 64) (v : Fin 2048) :
    k0_pay73 X w (ix2 o v) = lk (∑ k : Fin 16, X (ix2 k v) * w (ix2 o k)) := by
  simp only [fun k : Fin 16 => mul_comm (X (ix2 k v)) (w (ix2 o k))]
  pointwise [k0_pay73]
  rfl

section
variable (a : Vec Ideal S1x192x512 .f32) (b : Vec Ideal S1x256x512 .f32) (c d : Vec Ideal S1x64x512 .f32) (e : Vec Ideal S1x192x512 .f32)
  (w : Vec Ideal S128x512 .f32) (g : Fin 64 → ℕ → EReal)

/-- The even outputs of the second layer, when the loaded blocks are a row by phases. -/
theorem pay162_even (o : Fin 128) (u : Fin 512)
    (ha : ∀ r : Fin 192, a (ix3 0 r u) = g ⟨r.val % 64, by omega⟩ (4 * u.val + 1 + r.val / 64))
    (hb : ∀ r : Fin 256, b (ix3 0 r u) = g ⟨r.val % 64, by omega⟩ (4 * u.val + 4 + r.val / 64))
    (hc : ∀ r : Fin 64, c (ix3 0 r u) = g r (4 * u.val + 8)) :
    k0_pay162 a b c d b e w (ix2 o ⟨u.val, by omega⟩)
      = lk (∑ ρ : Fin 512, g ⟨ρ.val % 64, by omega⟩ (4 * u.val + 1 + ρ.val / 64) * w (ix2 o ρ)) := by
  have key : ∀ ρ : Fin 512, g ⟨ρ.val % 64, by omega⟩ (4 * u.val + 1 + ρ.val / 64) * w (ix2 o ρ)
      = w (ix2 o ρ) * (if h : ρ.val < 192 then a (ix3 0 ⟨ρ.val, h⟩ u)
          else if h' : ρ.val - 192 < 256 then b (ix3 0 ⟨ρ.val - 192, h'⟩ u) else c (ix3 0 ⟨ρ.val - 192 - 256, by omega⟩ u)) := by
    intro ρ
    rw [mul_comm]
    congr 1
    by_cases h : ρ.val < 192
    · rw [dif_pos h, ha]
    · rw [dif_neg h]
      by_cases h' : ρ.val - 192 < 256
      · rw [dif_pos h', hb]
        congr 1
        · ext; simp only; omega
        · simp only; omega
      · rw [dif_neg h', hc]
        congr 1
        · ext; simp only; omega
        · omega
  simp only [key]
  pointwise [k0_pay162]
  rfl

/-- The odd outputs of the second layer. -/
theorem pay162_odd (o : Fin 128) (u : Fin 512)
    (hd : ∀ r : Fin 64, d (ix3 0 r u) = g r (4 * u.val + 3))
    (hb : ∀ r : Fin 256, b (ix3 0 r u) = g ⟨r.val % 64, by omega⟩ (4 * u.val + 4 + r.val / 64))
    (he : ∀ r : Fin 192, e (ix3 0 r u) = g ⟨r.val % 64, by omega⟩ (4 * u.val + 8 + r.val / 64)) :
    k0_pay162 a b c d b e w (ix2 o ⟨512 + u.val, by omega⟩)
      = lk (∑ ρ : Fin 512, g ⟨ρ.val % 64, by omega⟩ (4 * u.val + 3 + ρ.val / 64) * w (ix2 o ρ)) := by
  have key : ∀ ρ : Fin 512, g ⟨ρ.val % 64, by omega⟩ (4 * u.val + 3 + ρ.val / 64) * w (ix2 o ρ)
      = w (ix2 o ρ) * (if h : ρ.val < 64 then d (ix3 0 ⟨ρ.val, h⟩ u)
          else if h' : ρ.val - 64 < 256 then b (ix3 0 ⟨ρ.val - 64, h'⟩ u) else e (ix3 0 ⟨ρ.val - 64 - 256, by omega⟩ u)) := by
    intro ρ
    rw [mul_comm]
    congr 1
    by_cases h : ρ.val < 64
    · rw [dif_pos h, hd]
      congr 1
      · ext; simp only; omega
      · omega
    · rw [dif_neg h]
      by_cases h' : ρ.val - 64 < 256
      · rw [dif_pos h', hb]
        congr 1
        · ext; simp only; omega
        · simp only; omega
      · rw [dif_neg h', he]
        congr 1
        · ext; simp only; omega
        · simp only; omega
  simp only [key]
  pointwise [k0_pay162]
  rfl
end

/-- The third layer and the latents, when the loaded blocks are the taps of a row. -/
theorem pay166_at (a b c d : Vec Ideal S1x128x512 .f32) (w : Vec Ideal S128x512 .f32) (p : Vec Ideal S64x128 .f32) (q : Vec Ideal S64x1 .f32)
    (g : Fin 128 → ℕ → EReal) (o : Fin 64) (u : Fin 512)
    (ha : ∀ r : Fin 128, a (ix3 0 r u) = g r (2 * u.val)) (hb : ∀ r : Fin 128, b (ix3 0 r u) = g r (2 * u.val + 1))
    (hc : ∀ r : Fin 128, c (ix3 0 r u) = g r (2 * u.val + 2)) (hd : ∀ r : Fin 128, d (ix3 0 r u) = g r (2 * u.val + 3)) :
    k0_pay166 a b c d w p q (ix2 o u)
      = (∑ x : Fin 128, lk (∑ ρ : Fin 512, g ⟨ρ.val % 128, by omega⟩ (2 * u.val + ρ.val / 128) * w (ix2 x ρ)) * p (ix2 o x)) + q (ix2 o 0) := by
  have key : ∀ (x : Fin 128) (ρ : Fin 512), g ⟨ρ.val % 128, by omega⟩ (2 * u.val + ρ.val / 128) * w (ix2 x ρ)
      = w (ix2 x ρ) * (if h : ρ.val < 128 then a (ix3 0 ⟨ρ.val, h⟩ u)
          else if h' : ρ.val - 128 < 128 then b (ix3 0 ⟨ρ.val - 128, h'⟩ u)
          else if h'' : ρ.val - 128 - 128 < 128 then c (ix3 0 ⟨ρ.val - 128 - 128, h''⟩ u)
          else d (ix3 0 ⟨ρ.val - 128 - 128 - 128, by omega⟩ u)) := by
    intro x ρ
    rw [mul_comm]
    congr 1
    by_cases h : ρ.val < 128
    · rw [dif_pos h, ha]
      congr 1
      · ext; simp only; omega
      · omega
    · rw [dif_neg h]
      by_cases h' : ρ.val - 128 < 128
      · rw [dif_pos h', hb]
        congr 1
        · ext; simp only; omega
        · omega
      · rw [dif_neg h']
        by_cases h'' : ρ.val - 128 - 128 < 128
        · rw [dif_pos h'', hc]
          congr 1
          · ext; simp only; omega
          · omega
        · rw [dif_neg h'', hd]
          congr 1
          · ext; simp only; omega
          · omega
  simp only [key, mul_comm _ (p _)]
  pointwise [k0_pay166]
  rfl

/-! ## What a point loads -/

/-- The blocks of a point are eight padded signals by phases and the weights laid out by taps. -/
structure Fits (I : Inp Ideal) (xs : Fin 8 → Fin 4096 → EReal) (W : Wts) : Prop where
  x : ∀ (i : Fin 8) (p : Fin 24) (u : Fin 512), I.cut i p (ix2 0 u) = pd 7 (xs i) (8 * u.val + p.val)
  w1 : ∀ (o : Fin 64) (k : Fin 16), I.w1 (ix2 o k) = W.w1 o k
  w2 : ∀ (c : Fin 128) (ρ : Fin 512), I.w2 (ix2 c ρ) = W.w2 c ⟨ρ.val % 64, by omega⟩ ⟨ρ.val / 64, by omega⟩
  w3 : ∀ (c : Fin 128) (ρ : Fin 512), I.w3 (ix2 c ρ) = W.w3 c ⟨ρ.val % 128, by omega⟩ ⟨ρ.val / 128, by omega⟩
  pw : ∀ (d : Fin 64) (c : Fin 128), I.pw (ix2 d c) = W.pw d c
  pb : ∀ (d : Fin 64), I.pb (ix2 d 0) = W.pb d

theorem cut_at (x0 : Vec Ideal S8x8x516 .f32) (x1 : Vec Ideal S64x16 .f32) (x2 x3 : Vec Ideal S128x512 .f32) (x4 : Vec Ideal S64x128 .f32)
    (x5 : Vec Ideal S64x1 .f32) (x6 : Vec Ideal S1024x64 .f32) (x7 : Vec Ideal S64x1024 .f32) (x8 : Vec Ideal S1024x1 .f32)
    (i : Fin 8) (p : Fin 24) (u : Fin 512) :
    (inpOf x0 x1 x2 x3 x4 x5 x6 x7 x8).cut i p (ix2 0 u) = x0 (ix3 i ⟨p.val % 8, by omega⟩ ⟨p.val / 8 + u.val, by omega⟩) := by
  pointwise [inpOf, Inp.cut]

set_option maxHeartbeats 4000000 in
theorem x1_row (I : Inp Ideal) (i : Fin 8) (k : Fin 16) (v : Fin 2048) : I.x1 i (ix2 k v) = I.row i k (ix2 0 v) := by
  obtain ⟨k, hk⟩ := k
  interval_cases k
  all_goals pointwise [Inp.x1]

variable {I : Inp Ideal} {xs : Fin 8 → Fin 4096 → EReal} {W : Wts} (f : Fits I xs W)
include f

theorem x1_at (i : Fin 8) (k : Fin 16) (v : Fin 2048) :
    I.x1 i (ix2 k v) = pd 7 (xs i) (k.val + 2 * (4 * (v.val % 512) + v.val / 512)) := by
  rw [x1_row]
  pointwise [Inp.row]
  by_cases h : v.val < 512
  · rw [dif_pos h, f.x]; congr 1; simp only; omega
  · rw [dif_neg h]
    by_cases h' : v.val - 512 < 512
    · rw [dif_pos h', f.x]; congr 1; simp only; omega
    · rw [dif_neg h']
      by_cases h'' : v.val - 512 - 512 < 512
      · rw [dif_pos h'', f.x]; congr 1; simp only; omega
      · rw [dif_neg h'', f.x]; congr 1; simp only; omega

/-- The first hidden row by phases. -/
theorem h1_at (i : Fin 8) (o : Fin 64) (v : Fin 2048) :
    k0_pay73 (I.x1 i) I.w1 (ix2 o v) = c1 (xs i) W.w1 o ⟨4 * (v.val % 512) + v.val / 512, by omega⟩ := by
  rw [pay73_at]
  unfold c1
  simp only [x1_at f, f.w1]

omit f in
theorem zero_eq : (zero (F := Ideal) : EReal) = 0 := by
  show Ideal.ofBits .f32 0x00000000#32 = 0
  simp [Ideal.ofBits, Ideal.ieee]

/-- The first scratch: row `64r + o` is phase `r` of channel `o`, one column late. -/
theorem s1_at (i : Fin 8) (y1 : Fin 256) (y2 : Fin 514) :
    I.s1 (ix3 i y1 y2) = pd 4 (c1 (xs i) W.w1 ⟨y1.val % 64, by omega⟩) (4 * y2.val + y1.val / 64) := by
  unfold pd
  by_cases h : 1 ≤ y2.val ∧ y2.val ≤ 512
  · have h' : 4 ≤ 4 * y2.val + y1.val / 64 ∧ 4 * y2.val + y1.val / 64 - 4 < 2048 := by omega
    rw [dif_pos h']
    refine (dif_pos h).trans ?_
    refine (h1_at f i _ _).trans ?_
    congr 1
    ext
    simp only [ix3_0, ix3_1, ix3_2]
    omega
  · have h' : ¬ (4 ≤ 4 * y2.val + y1.val / 64 ∧ 4 * y2.val + y1.val / 64 - 4 < 2048) := by omega
    rw [dif_neg h']
    exact (dif_neg h).trans zero_eq

omit f in
theorem box64_at (X : Vec Ideal S8x256x514 .f32) (i : Fin 8) (r o : ℕ) (h1 : r + 64 ≤ 256) (h2 : o + 512 ≤ 514) (a : Fin 64) (b : Fin 512) :
    gat X (box64 i r o h1 h2).toLoadRect (ix3 0 a b) = X (ix3 i ⟨r + a.val, by omega⟩ ⟨o + b.val, by omega⟩) := by
  refine congrArg X (funext fun q => Fin.ext ?_)
  fin_cases q
  · show i.val + 1 * 0 = i.val; omega
  · show r + 1 * a.val = r + a.val; omega
  · show o + 1 * b.val = o + b.val; omega

omit f in
theorem box128_at (X : Vec Ideal S8x256x514 .f32) (i : Fin 8) (r o : ℕ) (h1 : r + 128 ≤ 256) (h2 : o + 512 ≤ 514) (a : Fin 128) (b : Fin 512) :
    gat X (box128 i r o h1 h2).toLoadRect (ix3 0 a b) = X (ix3 i ⟨r + a.val, by omega⟩ ⟨o + b.val, by omega⟩) := by
  refine congrArg X (funext fun q => Fin.ext ?_)
  fin_cases q
  · show i.val + 1 * 0 = i.val; omega
  · show r + 1 * a.val = r + a.val; omega
  · show o + 1 * b.val = o + b.val; omega

omit f in
theorem box192_at (X : Vec Ideal S8x256x514 .f32) (i : Fin 8) (r o : ℕ) (h1 : r + 192 ≤ 256) (h2 : o + 512 ≤ 514) (a : Fin 192) (b : Fin 512) :
    gat X (box192 i r o h1 h2).toLoadRect (ix3 0 a b) = X (ix3 i ⟨r + a.val, by omega⟩ ⟨o + b.val, by omega⟩) := by
  refine congrArg X (funext fun q => Fin.ext ?_)
  fin_cases q
  · show i.val + 1 * 0 = i.val; omega
  · show r + 1 * a.val = r + a.val; omega
  · show o + 1 * b.val = o + b.val; omega

omit f in
theorem box256_at (X : Vec Ideal S8x256x514 .f32) (i : Fin 8) (r o : ℕ) (h1 : r + 256 ≤ 256) (h2 : o + 512 ≤ 514) (a : Fin 256) (b : Fin 512) :
    gat X (box256 i r o h1 h2).toLoadRect (ix3 0 a b) = X (ix3 i ⟨r + a.val, by omega⟩ ⟨o + b.val, by omega⟩) := by
  refine congrArg X (funext fun q => Fin.ext ?_)
  fin_cases q
  · show i.val + 1 * 0 = i.val; omega
  · show r + 1 * a.val = r + a.val; omega
  · show o + 1 * b.val = o + b.val; omega

omit f in
/-- Equal channels at equal places. -/
theorem pd_congr {n L : ℕ} (p : ℕ) (g : Fin n → Fin L → EReal) {a b : Fin n} {i j : ℕ} (h : a.val = b.val) (h' : i = j) :
    pd p (g a) i = pd p (g b) j := by
  rw [Fin.ext h, h']

/-- The even positions of the second hidden row. -/
theorem H2_even (i : Fin 8) (c : Fin 128) (u : Fin 512) :
    I.H2 i (ix2 c ⟨u.val, by omega⟩) = W.hid (xs i) c ⟨2 * u.val, by omega⟩ := by
  unfold Inp.H2 Inp.h2
  refine (pay162_even _ _ _ _ _ _ (fun o j => pd 4 (c1 (xs i) W.w1 o) j) c u (fun r => ?_) (fun r => ?_) (fun r => ?_)).trans ?_
  · rw [box192_at, s1_at f]; exact pd_congr 4 _ (by simp only; omega) (by simp only; omega)
  · rw [box256_at, s1_at f]; exact pd_congr 4 _ (by simp only; omega) (by simp only; omega)
  · rw [box64_at, s1_at f]; exact pd_congr 4 _ (by simp only; omega) (by simp only; omega)
  · unfold Wts.hid c2
    refine congrArg lk ?_
    rw [← Fin.sum_mul_add_fin 8 64]
    refine Finset.sum_congr rfl fun k _ => Finset.sum_congr rfl fun o _ => ?_
    rw [f.w2]
    refine congr (congrArg HMul.hMul ((pd_shift 4 3 _ _ (k.val + 2 * (2 * u.val)) (by simp only; omega)).trans
      (pd_congr 3 _ (by simp only; omega) rfl))) ?_
    congr 1
    · ext; simp only; omega
    · ext; simp only; omega

/-- The odd positions of the second hidden row. -/
theorem H2_odd (i : Fin 8) (c : Fin 128) (u : Fin 512) :
    I.H2 i (ix2 c ⟨512 + u.val, by omega⟩) = W.hid (xs i) c ⟨2 * u.val + 1, by omega⟩ := by
  unfold Inp.H2 Inp.h2
  refine (pay162_odd _ _ _ _ _ _ (fun o j => pd 4 (c1 (xs i) W.w1 o) j) c u (fun r => ?_) (fun r => ?_) (fun r => ?_)).trans ?_
  · rw [box64_at, s1_at f]; exact pd_congr 4 _ (by simp only; omega) (by simp only; omega)
  · rw [box256_at, s1_at f]; exact pd_congr 4 _ (by simp only; omega) (by simp only; omega)
  · rw [box192_at, s1_at f]; exact pd_congr 4 _ (by simp only; omega) (by simp only; omega)
  · unfold Wts.hid c2
    refine congrArg lk ?_
    rw [← Fin.sum_mul_add_fin 8 64]
    refine Finset.sum_congr rfl fun k _ => Finset.sum_congr rfl fun o _ => ?_
    rw [f.w2]
    refine congr (congrArg HMul.hMul ((pd_shift 4 3 _ _ (k.val + 2 * (2 * u.val + 1)) (by simp only; omega)).trans
      (pd_congr 3 _ (by simp only; omega) rfl))) ?_
    congr 1
    · ext; simp only; omega
    · ext; simp only; omega

/-- The second scratch, upper half: the even positions. -/
theorem s2_even (i : Fin 8) (c : Fin 128) (y2 : Fin 514) (j : ℕ) (hj : j = 2 * y2.val + 1) :
    I.s2 (ix3 i ⟨c.val, by omega⟩ y2) = pd 1 (W.hid (xs i) c) j := by
  subst hj
  unfold pd
  refine (dif_pos (show c.val < 128 from c.isLt)).trans ?_
  by_cases h : y2.val < 512
  · rw [dif_pos (show 1 ≤ 2 * y2.val + 1 ∧ 2 * y2.val + 1 - 1 < 1024 by omega)]
    refine (dif_pos h).trans ?_
    refine (H2_even f i c ⟨y2.val, h⟩).trans ?_
    congr 1
  · rw [dif_neg (show ¬ (1 ≤ 2 * y2.val + 1 ∧ 2 * y2.val + 1 - 1 < 1024) by omega)]
    exact (dif_neg h).trans zero_eq

/-- The second scratch, lower half: the odd positions, one column late. -/
theorem s2_odd (i : Fin 8) (c : Fin 128) (y2 : Fin 514) (j : ℕ) (hj : j = 2 * y2.val) :
    I.s2 (ix3 i ⟨128 + c.val, by omega⟩ y2) = pd 1 (W.hid (xs i) c) j := by
  subst hj
  unfold pd
  refine (dif_neg (show ¬ 128 + c.val < 128 by omega)).trans ?_
  by_cases h : 1 ≤ y2.val ∧ y2.val ≤ 512
  · rw [dif_pos (show 1 ≤ 2 * y2.val ∧ 2 * y2.val - 1 < 1024 by omega)]
    refine (dif_pos h).trans ?_
    refine Eq.trans ?_ ((H2_odd f i c ⟨y2.val - 1, by omega⟩).trans ?_)
    · show I.H2 i _ = I.H2 i _
      congr 2
      ext; simp only [ix3_1]; omega
    · congr 1
      ext; simp only; omega
  · rw [dif_neg (show ¬ (1 ≤ 2 * y2.val ∧ 2 * y2.val - 1 < 1024) by omega)]
    exact (dif_neg h).trans zero_eq

/-- The latents of image `i`. -/
theorem Z_at (i : Fin 8) (d : Fin 64) (u : Fin 512) : I.Z i (ix2 d u) = W.lat (xs i) d u := by
  unfold Inp.Z Inp.z
  refine (pay166_at _ _ _ _ _ _ _ (fun c j => pd 1 (W.hid (xs i) c) j) d u (fun r => ?_) (fun r => ?_) (fun r => ?_) (fun r => ?_)).trans ?_
  · rw [box128_at]; exact s2_odd f i r _ _ (by simp only; omega)
  · rw [box128_at]
    refine Eq.trans ?_ (s2_even f i r ⟨0 + u.val, by omega⟩ _ (by simp only; omega))
    congr 2
    ext; simp only; omega
  · rw [box128_at]; exact s2_odd f i r _ _ (by simp only; omega)
  · rw [box128_at]
    refine Eq.trans ?_ (s2_even f i r ⟨1 + u.val, by omega⟩ _ (by simp only; omega))
    congr 2
    ext; simp only; omega
  · unfold Wts.lat c4
    rw [f.pb]
    refine congrArg (· + W.pb d) (Finset.sum_congr rfl fun x _ => ?_)
    rw [f.pw]
    refine congrArg (· * W.pw d x) ?_
    unfold c3
    refine congrArg lk ?_
    rw [← Fin.sum_mul_add_fin 4 128]
    refine Finset.sum_congr rfl fun k _ => Finset.sum_congr rfl fun o _ => ?_
    rw [f.w3]
    refine congr (congrArg HMul.hMul (pd_congr 1 _ (by simp only; omega) (by simp only; omega))) ?_
    congr 1
    · ext; simp only; omega
    · ext; simp only; omega

end Cert.KernelIdeal.Own
-- ==== Proof.Own.KerHost.lean ====
/- What the kernel reads at a point, in terms of its arguments: the signal padded and split by phase, the weights tap by tap,
   the codebook, its transpose and the squared lengths of the codes. -/
module

public import proofs.«01_k».proof.Proof.Own.KerConv
public import Idealize.ShloMosaic.Lib.Pipeline.ValueKit

@[expose] public section

set_option maxRecDepth 16384

noncomputable section

namespace Cert.KernelIdeal.Own

open Cert.KernelIdeal Cert.KernelIdeal.Gen Cert.Spec Idealize.ShloMosaic Idealize.ShloMosaic.TcCoe Idealize.ShloMosaic.Tactic

/-! ## The host's preparation -/

/-- The signal, padded and split by phase. -/
def preX (x : FVec Ideal S64x1x4096 .f32) : FVec Ideal S64x8x516 .f32 :=
  transpose S64x8x516 [0, 2, 1] (shapeCast S64x516x8 (pad S64x4128 ![0, 7] ![0, 25] ![0, 0]
    (shapeCast S64x4096 x shapeCasts_S64x1x4096_S64x4096) (sitofp .f32 (constantI S_ 32 0#32)) pads_S64x4096_S64x4128_000_7250 h_S_)
    shapeCasts_S64x4128_S64x516x8) transposes_S64x516x8_S64x8x516_0_2_1
/-- The second layer's weights, tap by tap. -/
def preW2 (w : FVec Ideal S128x64x8 .f32) : FVec Ideal S128x512 .f32 :=
  shapeCast S128x512 (transpose S128x8x64 [0, 2, 1] w transposes_S128x64x8_S128x8x64_0_2_1) shapeCasts_S128x8x64_S128x512
/-- The third layer's weights, tap by tap. -/
def preW3 (w : FVec Ideal S128x128x4 .f32) : FVec Ideal S128x512 .f32 :=
  shapeCast S128x512 (transpose S128x4x128 [0, 2, 1] w transposes_S128x128x4_S128x4x128_0_2_1) shapeCasts_S128x4x128_S128x512
/-- The squared lengths of the codes. -/
def preE (e : FVec Ideal S1024x64 .f32) : FVec Ideal S1024x1 .f32 :=
  shapeCast S1024x1 (Host.reduceAdd (mulf e e) (constant S_ .f32 0x00000000#32) reducesTo_S1024x64_S1024_d1 h_S_) shapeCasts_S1024_S1024x1

section
variable (m : (ℓ : Loc nD τ sig) → Buf (Elt Ideal) ℓ) (c : Dev nD)

theorem V3 : V m c main_v3 = preX (m ((c : Thread nD τ).loc main_arg0)) := by sl_kernel_rfl
theorem V4 : V m c main_v4 = shapeCast S64x16 (m ((c : Thread nD τ).loc main_arg1) : FVec Ideal S64x1x16 .f32) shapeCasts_S64x1x16_S64x16 := by sl_kernel_rfl
theorem V6 : V m c main_v6 = preW2 (m ((c : Thread nD τ).loc main_arg2)) := by sl_kernel_rfl
theorem V8 : V m c main_v8 = preW3 (m ((c : Thread nD τ).loc main_arg3)) := by sl_kernel_rfl
theorem V9 : V m c main_v9 = shapeCast S64x128 (m ((c : Thread nD τ).loc main_arg4) : FVec Ideal S64x128x1 .f32) shapeCasts_S64x128x1_S64x128 := by sl_kernel_rfl
theorem V10 : V m c main_v10 = shapeCast S64x1 (m ((c : Thread nD τ).loc main_arg5) : FVec Ideal S64 .f32) shapeCasts_S64_S64x1 := by sl_kernel_rfl
theorem V11 : V m c main_v11 = transpose S64x1024 [1, 0] (m ((c : Thread nD τ).loc main_arg6) : FVec Ideal S1024x64 .f32) transposes_S1024x64_S64x1024_1_0 := by sl_kernel_rfl
theorem V14 : V m c main_v14 = preE (m ((c : Thread nD τ).loc main_arg6)) := by sl_kernel_rfl

/-! ## The blocks of a point -/

theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0, 0]
    ∧ win0_10.index t = ![0, 0] ∧ win0_11.index t = ![0, 0] :=
  (by decide +kernel : ∀ t : Fin grid0.N, _)

/-- Image `i` of point `t`. -/
def img (t : Fin cfg0.N) (i : Fin 8) : Fin 64 := ⟨8 * t.val + i.val, by have := t.isLt; have : cfg0.N = 8 := N_0; omega⟩

theorem blk0 (t : Fin cfg0.N) (i a : Fin 8) (b : Fin 516) : (iblk m c 0 t : FVec Ideal S8x8x516 .f32) (ix3 i a b)
    = (V m c main_v3 : FVec Ideal S64x8x516 .f32) (ix3 (img t i) a b) := by
  generalize hV : V m c = v
  unfold iblk img
  rw [hV]
  blk_point [idx t]
theorem blk1 (t : Fin cfg0.N) : (iblk m c 1 t : FVec Ideal S64x16 .f32) = (V m c main_v4 : FVec Ideal S64x16 .f32) := by
  generalize hV : V m c = v
  unfold iblk
  rw [hV]
  blk_ext! [idx t]
theorem blk2 (t : Fin cfg0.N) : (iblk m c 2 t : FVec Ideal S128x512 .f32) = (V m c main_v6 : FVec Ideal S128x512 .f32) := by
  generalize hV : V m c = v
  unfold iblk
  rw [hV]
  blk_ext! [idx t]
theorem blk3 (t : Fin cfg0.N) : (iblk m c 3 t : FVec Ideal S128x512 .f32) = (V m c main_v8 : FVec Ideal S128x512 .f32) := by
  generalize hV : V m c = v
  unfold iblk
  rw [hV]
  blk_ext! [idx t]
theorem blk4 (t : Fin cfg0.N) : (iblk m c 4 t : FVec Ideal S64x128 .f32) = (V m c main_v9 : FVec Ideal S64x128 .f32) := by
  generalize hV : V m c = v
  unfold iblk
  rw [hV]
  blk_ext! [idx t]
theorem blk5 (t : Fin cfg0.N) : (iblk m c 5 t : FVec Ideal S64x1 .f32) = (V m c main_v10 : FVec Ideal S64x1 .f32) := by
  generalize hV : V m c = v
  unfold iblk
  rw [hV]
  blk_ext! [idx t]
theorem blk6 (t : Fin cfg0.N) : (iblk m c 6 t : FVec Ideal S1024x64 .f32) = (V m c main_arg6 : FVec Ideal S1024x64 .f32) := by
  generalize hV : V m c = v
  unfold iblk
  rw [hV]
  blk_ext! [idx t]
theorem blk7 (t : Fin cfg0.N) : (iblk m c 7 t : FVec Ideal S64x1024 .f32) = (V m c main_v11 : FVec Ideal S64x1024 .f32) := by
  generalize hV : V m c = v
  unfold iblk
  rw [hV]
  blk_ext! [idx t]
theorem blk8 (t : Fin cfg0.N) : (iblk m c 8 t : FVec Ideal S1024x1 .f32) = (V m c main_v14 : FVec Ideal S1024x1 .f32) := by
  generalize hV : V m c = v
  unfold iblk
  rw [hV]
  blk_ext! [idx t]

/-! ## The padded signal, phase by phase -/

theorem preX_at (x : FVec Ideal S64x1x4096 .f32) (n : Fin 64) (j : Fin 8) (u : Fin 516) :
    preX x (ix3 n j u) = pd 7 (fun s => x (ix3 n 0 s)) (8 * u.val + j.val) := by
  have e : 8 * u.val + j.val = u.val * 8 + j.val := by omega
  rw [e]
  pointwise [preX, pd]
  rw [show (FloatOps.sitofp FTy.f32 0#32 : Ideal .f32) = (0 : EReal) by
    show (((0#32 : BitVec 32).toInt : ℝ) : EReal) = 0
    simp]

/-- The weights of the encoder, from the arguments. -/
def wtsOf (m : (ℓ : Loc nD τ sig) → Buf (Elt Ideal) ℓ) (c : Dev nD) : Wts where
  w1 o k := (m ((c : Thread nD τ).loc main_arg1) : FVec Ideal S64x1x16 .f32) (ix3 o 0 k)
  w2 a o k := (m ((c : Thread nD τ).loc main_arg2) : FVec Ideal S128x64x8 .f32) (ix3 a o k)
  w3 a o k := (m ((c : Thread nD τ).loc main_arg3) : FVec Ideal S128x128x4 .f32) (ix3 a o k)
  pw d a := (m ((c : Thread nD τ).loc main_arg4) : FVec Ideal S64x128x1 .f32) (ix3 d a 0)
  pb d := (m ((c : Thread nD τ).loc main_arg5) : FVec Ideal S64 .f32) (ix1 d)

/-- Image `n` of the signal. -/
def sigOf (m : (ℓ : Loc nD τ sig) → Buf (Elt Ideal) ℓ) (c : Dev nD) (n : Fin 64) (s : Fin 4096) : EReal :=
  (m ((c : Thread nD τ).loc main_arg0) : FVec Ideal S64x1x4096 .f32) (ix3 n 0 s)

/-- Code `k`. -/
def codeOf (m : (ℓ : Loc nD τ sig) → Buf (Elt Ideal) ℓ) (c : Dev nD) (k : Fin 1024) (d : Fin 64) : EReal :=
  (m ((c : Thread nD τ).loc main_arg6) : FVec Ideal S1024x64 .f32) (ix2 k d)

theorem fits (t : Fin cfg0.N) : Fits (inpAt m c t) (fun i => sigOf m c (img t i)) (wtsOf m c) := by
  rw [inpAt_eq]
  refine ⟨fun i p u => ?_, fun o k => ?_, fun a ρ => ?_, fun a ρ => ?_, fun d a => ?_, fun d => ?_⟩
  · rw [cut_at, blk0, V3, preX_at]
    unfold sigOf
    congr 1
    simp only; omega
  · show (iblk m c 1 t : FVec Ideal S64x16 .f32) (ix2 o k) = _
    rw [blk1, V4]
    pointwise [wtsOf]
  · show (iblk m c 2 t : FVec Ideal S128x512 .f32) (ix2 a ρ) = _
    rw [blk2, V6]
    pointwise [preW2, wtsOf]
  · show (iblk m c 3 t : FVec Ideal S128x512 .f32) (ix2 a ρ) = _
    rw [blk3, V8]
    pointwise [preW3, wtsOf]
  · show (iblk m c 4 t : FVec Ideal S64x128 .f32) (ix2 d a) = _
    rw [blk4, V9]
    pointwise [wtsOf]
  · show (iblk m c 5 t : FVec Ideal S64x1 .f32) (ix2 d 0) = _
    rw [blk5, V10]
    pointwise [wtsOf]

theorem emb_at (t : Fin cfg0.N) (k : Fin 1024) (d : Fin 64) : (inpAt m c t).emb (ix2 k d) = codeOf m c k d := by
  rw [inpAt_eq]
  show (iblk m c 6 t : FVec Ideal S1024x64 .f32) (ix2 k d) = _
  rw [blk6, V_main_arg6]; rfl

theorem embt_at (t : Fin cfg0.N) (k : Fin 1024) (d : Fin 64) : (inpAt m c t).embt (ix2 d k) = codeOf m c k d := by
  rw [inpAt_eq]
  show (iblk m c 7 t : FVec Ideal S64x1024 .f32) (ix2 d k) = _
  rw [blk7, V11]
  pointwise [codeOf]

theorem e2_at (t : Fin cfg0.N) (k : Fin 1024) : (inpAt m c t).e2 (ix2 k 0) = ∑ d : Fin 64, codeOf m c k d * codeOf m c k d := by
  rw [inpAt_eq]
  show (iblk m c 8 t : FVec Ideal S1024x1 .f32) (ix2 k 0) = _
  rw [blk8, V14]
  pointwise [preE, codeOf]

/-- The latents of an image at a point. -/
theorem Zimg (t : Fin cfg0.N) (i : Fin 8) (d : Fin 64) (u : Fin 512) :
    (inpAt m c t).Z i (ix2 d u) = (wtsOf m c).lat (sigOf m c (img t i)) d u :=
  Z_at (fits m c t) i d u
end

end Cert.KernelIdeal.Own
-- ==== Proof.Own.First.lean ====
/- The nearest code of a row of distances: the least index at which the distance is smallest, as the kernel finds it (a minimum,
   then the least index that attains it) and as the reference does (one fold over pairs of a distance and an index). -/
module

public import proofs.«01_k».proof.Proof.Own.Spec
public import Idealize.ShloMosaic.Lib.Pipeline.ValueKit

@[expose] public section

noncomputable section

namespace Cert.Spec

open Idealize.ShloMosaic

/-- The least index at which `d` is smallest. -/
def IsFirst (d : Fin 1024 → EReal) (k : Fin 1024) : Prop := (∀ j, d k ≤ d j) ∧ ∀ j < k, d k < d j

theorem IsFirst.unique {d : Fin 1024 → EReal} {k l : Fin 1024} (hk : IsFirst d k) (hl : IsFirst d l) : k = l := by
  rcases lt_trichotomy k l with h | h | h
  · exact absurd (hl.2 k h) (not_lt.2 (hk.1 l))
  · exact h
  · exact absurd (hk.2 l h) (not_lt.2 (hl.1 k))

theorem exists_first (d : Fin 1024 → EReal) : ∃ k, IsFirst d k := by
  obtain ⟨a, -, ha⟩ := Finset.exists_min_image Finset.univ d Finset.univ_nonempty
  obtain ⟨k, hk, hmin⟩ := Finset.exists_min_image (Finset.univ.filter fun j => d j = d a) id ⟨a, by simp⟩
  have hk' : d k = d a := (Finset.mem_filter.1 hk).2
  refine ⟨k, fun j => hk' ▸ ha j (Finset.mem_univ _), fun j hj => ?_⟩
  refine lt_of_le_of_ne (hk' ▸ ha j (Finset.mem_univ _)) fun e => ?_
  exact absurd (hmin j (Finset.mem_filter.2 ⟨Finset.mem_univ _, e.symm.trans hk'⟩)) (not_le.2 hj)

/-- The index of the nearest code. -/
def first (d : Fin 1024 → EReal) : Fin 1024 := (exists_first d).choose
theorem first_spec (d : Fin 1024 → EReal) : IsFirst d (first d) := (exists_first d).choose_spec

/-- One at the nearest code, zero elsewhere. -/
def hot (d : Fin 1024 → EReal) (k : Fin 1024) : EReal := if k = first d then 1 else 0

/-- The distance of code `k` from a latent. -/
def dst (z : Fin 64 → EReal) (e : Fin 1024 → Fin 64 → EReal) (k : Fin 1024) : EReal :=
  (∑ d : Fin 64, z d * z d) + (∑ d : Fin 64, e k d * e k d) - Ideal.ofBits .f32 0x40000000#32 * ∑ d : Fin 64, z d * e k d

/-- The code chosen for a latent. -/
def pick (z : Fin 64 → EReal) (e : Fin 1024 → Fin 64 → EReal) (d : Fin 64) : EReal := ∑ k : Fin 1024, hot (dst z e) k * e k d

theorem add_sub_self (q : EReal) (x : ℝ) : (x : EReal) + (q - (x : EReal)) = q := by
  induction q using EReal.rec with
  | bot => simp
  | top => simp
  | coe q => rw [← EReal.coe_sub, ← EReal.coe_add]; congr 1; ring

/-! ## The minimum, then the least index that attains it -/

theorem fold_min (d : Fin 1024 → EReal) : Finset.fold min (⊤ : EReal) d Finset.univ = d (first d) := by
  apply le_antisymm
  · exact (Finset.fold_min_le _).2 (Or.inr ⟨first d, Finset.mem_univ _, le_rfl⟩)
  · exact Finset.le_fold_min _ |>.2 ⟨le_top, fun j _ => (first_spec d).1 j⟩

theorem minsi_toInt (a b : BitVec 32) : (IntOp.minsi a b).toInt = min a.toInt b.toInt := by
  unfold IntOp.minsi
  split <;> rename_i h <;> simp only [BitVec.slt, decide_eq_true_eq] at h <;> omega

theorem fold_minsi (f : Fin 1024 → BitVec 32) (s : Finset (Fin 1024)) (b : BitVec 32) :
    (Finset.fold IntOp.minsi b f s).toInt = Finset.fold min b.toInt (fun k => (f k).toInt) s := by
  induction s using Finset.induction_on with
  | empty => simp
  | insert a s h ih => rw [Finset.fold_insert h, Finset.fold_insert h, minsi_toInt, ih]

theorem fold_index (d : Fin 1024 → EReal) (v : EReal) (hv : v = d (first d)) :
    Finset.fold IntOp.minsi 2147483647#32 (fun x : Fin 1024 => if d x = v then BitVec.ofNat 32 x.val else 1073741824#32) Finset.univ
      = BitVec.ofNat 32 (first d).val := by
  apply BitVec.eq_of_toInt_eq
  rw [fold_minsi]
  have hi : ∀ k : Fin 1024, (BitVec.ofNat 32 k.val).toInt = k.val := fun k => by
    rw [BitVec.toInt_eq_toNat_of_lt (by rw [BitVec.toNat_ofNat]; omega), BitVec.toNat_ofNat]; omega
  rw [hi]
  apply le_antisymm
  · refine (Finset.fold_min_le _).2 (Or.inr ⟨first d, Finset.mem_univ _, ?_⟩)
    rw [if_pos hv.symm, hi]
  · refine (Finset.le_fold_min _).2 ⟨?_, fun j _ => ?_⟩
    · have : (2147483647#32 : BitVec 32).toInt = 2147483647 := by decide
      rw [this]; omega
    · split
      · rename_i h
        rw [hi]
        by_contra hlt
        have : j < first d := by rw [Fin.lt_def]; omega
        exact absurd ((first_spec d).2 j this) (by rw [h, hv]; exact lt_irrefl _)
      · have : (1073741824#32 : BitVec 32).toInt = 1073741824 := by decide
        rw [this]; omega

/-! ## A left fold that keeps the smaller pair, the lower index first -/

/-- The pair `p` is no larger than `q`: a smaller value, or the same value at an index no larger. -/
def PLe (p q : EReal × BitVec 32) : Prop := p.1 < q.1 ∨ p.1 = q.1 ∧ p.2.toInt ≤ q.2.toInt

theorem PLe.refl (p : EReal × BitVec 32) : PLe p p := Or.inr ⟨rfl, le_rfl⟩
theorem PLe.trans {p q r : EReal × BitVec 32} (h : PLe p q) (k : PLe q r) : PLe p r := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

theorem foldl_least (f : EReal × BitVec 32 → EReal × BitVec 32 → EReal × BitVec 32)
    (hf : ∀ a b, PLe (f a b) a ∧ PLe (f a b) b ∧ (f a b = a ∨ f a b = b)) (L : List (EReal × BitVec 32)) (a : EReal × BitVec 32) :
    PLe (L.foldl f a) a ∧ (∀ b ∈ L, PLe (L.foldl f a) b) ∧ (L.foldl f a = a ∨ L.foldl f a ∈ L) := by
  induction L generalizing a with
  | nil => exact ⟨PLe.refl a, by simp, Or.inl rfl⟩
  | cons b L ih =>
    obtain ⟨h1, h2, h3⟩ := ih (f a b)
    obtain ⟨k1, k2, k3⟩ := hf a b
    simp only [List.foldl_cons]
    refine ⟨h1.trans k1, ?_, ?_⟩
    · intro c hc
      rcases List.mem_cons.1 hc with rfl | hc
      · exact h1.trans k2
      · exact h2 c hc
    · rcases h3 with h3 | h3
      · rcases k3 with k3 | k3
        · exact Or.inl (h3.trans k3)
        · exact Or.inr (List.mem_cons.2 (Or.inl (h3.trans k3)))
      · exact Or.inr (List.mem_cons.2 (Or.inr h3))

theorem foldl_first (f : EReal × BitVec 32 → EReal × BitVec 32 → EReal × BitVec 32)
    (hf : ∀ a b, PLe (f a b) a ∧ PLe (f a b) b ∧ (f a b = a ∨ f a b = b)) (L : List (EReal × BitVec 32)) (d : Fin 1024 → EReal)
    (hL : ∀ p, p ∈ L ↔ ∃ k : Fin 1024, p = (d k, BitVec.ofNat 32 k.val)) :
    (L.foldl f (⊤, 0#32)).2 = BitVec.ofNat 32 (first d).val := by
  obtain ⟨h1, h2, h3⟩ := foldl_least f hf L (⊤, 0#32)
  have hi : ∀ k : Fin 1024, (BitVec.ofNat 32 k.val).toInt = k.val := fun k => by
    rw [BitVec.toInt_eq_toNat_of_lt (by rw [BitVec.toNat_ofNat]; omega), BitVec.toNat_ofNat]; omega
  have hk := h2 _ ((hL _).2 ⟨first d, rfl⟩)
  have hs := first_spec d
  have h0 : (0#32 : BitVec 32).toInt = 0 := by decide
  apply BitVec.eq_of_toInt_eq
  rw [hi]
  rcases h3 with h3 | h3
  · rw [h3] at hk ⊢
    rcases hk with hk | ⟨hk, -⟩
    · exact absurd hk (not_lt.2 le_top)
    · have hk : d (first d) = ⊤ := hk.symm
      have : first d = 0 := by
        by_contra hne
        have := hs.2 0 (Fin.pos_of_ne_zero hne)
        rw [hk] at this
        exact absurd this (not_lt.2 le_top)
      rw [this]; exact h0
  · obtain ⟨j, hj⟩ := (hL _).1 h3
    rw [hj] at hk ⊢
    show (BitVec.ofNat 32 j.val).toInt = _
    rw [hi]
    rcases hk with hk | ⟨hk, hk'⟩
    · exact absurd hk (not_lt.2 (hs.1 j))
    · simp only [hi] at hk'
      by_contra hne
      have : j < first d := by rw [Fin.lt_def]; omega
      exact absurd (hs.2 j this) (by rw [show d j = d (first d) from hk]; exact lt_irrefl _)

end Cert.Spec
-- ==== Proof.Own.KerHot.lean ====
/- The kernel's quantizer at an index: the one-hot column of the nearest code, the chosen code, and the counts and the squared
   error of a point's eight images. -/
module

public import proofs.«01_k».proof.Proof.Own.KerHost
public import proofs.«01_k».proof.Proof.Own.First

@[expose] public section

set_option maxRecDepth 16384

noncomputable section

namespace Cert.KernelIdeal.Own

open Cert.KernelIdeal Cert.KernelIdeal.Gen Cert.Spec Idealize.ShloMosaic Idealize.ShloMosaic.TcCoe Idealize.ShloMosaic.Tactic

theorem top_bits : Ideal.ofBits .f32 0x7F800000#32 = (⊤ : EReal) := by
  simp [Ideal.ofBits, Ideal.ieee]

/-- A comparison of words, as a number. -/
theorem eq_word (a b : BitVec 32) : (FloatOps.sitofp .f32 (BitVec.setWidth 32 (IntOp.cmpi .eq a b)) : Ideal .f32)
    = if a = b then (1 : EReal) else 0 := by
  show (((BitVec.setWidth 32 (IntOp.cmpi .eq a b)).toInt : ℝ) : EReal) = _
  by_cases h : a = b
  · subst h
    simp [IntOp.cmpi]
  · have g : (a == b) = false := by simpa using h
    simp [IntOp.cmpi, h, g]

section
variable (z : FVec Ideal S64x512 .f32) (e : Vec Ideal S1024x64 .f32) (e2 : Vec Ideal S1024x1 .f32) (et : Vec Ideal S64x1024 .f32)
  (Z : Fin 512 → Fin 64 → EReal) (E : Fin 1024 → Fin 64 → EReal)

/-- What the quantizer needs of its operands: the latents `Z`, the codebook `E`, its squared lengths and its transpose. -/
structure Quant : Prop where
  z : ∀ d u, z (ix2 d u) = Z u d
  e : ∀ k d, e (ix2 k d) = E k d
  e2 : ∀ k, e2 (ix2 k 0) = ∑ d : Fin 64, E k d * E k d
  et : ∀ k d, et (ix2 d k) = E k d

variable {z e e2 et Z E} (h : Quant z e e2 et Z E)
include h

theorem hot_at (k : Fin 1024) (u : Fin 512) : k0_pay167 z e e2 (ix2 k u) = hot (dst (Z u) E) k := by
  have hd : ∀ x : Fin 1024, ∑ d : Fin 64, z (ix2 d u) * z (ix2 d u) + e2 (ix2 x 0)
      - Ideal.ofBits .f32 1073741824#32 * ∑ d : Fin 64, e (ix2 x d) * z (ix2 d u) = dst (Z u) E x := fun x => by
    simp only [h.z, h.e, h.e2, dst, fun d => mul_comm (E x d) (Z u d)]
  pointwise [k0_pay167]
  simp only [hd]
  rw [fold_index (dst (Z u) E) _ (by rw [show (2139095040#32 : BitVec 32) = 0x7F800000#32 from rfl, top_bits, fold_min]), eq_word]
  unfold hot
  refine if_congr ⟨fun e => Fin.ext ?_, fun e => e ▸ rfl⟩ rfl rfl
  have := congrArg BitVec.toNat e
  rw [BitVec.toNat_ofNat, BitVec.toNat_ofNat] at this
  omega

theorem pick_at (d : Fin 64) (u : Fin 512) : k0_pay168 z e e2 et (ix2 d u) = pick (Z u) E d := by
  have g : ∀ o : FVec Ideal S1024x512 .f32, k0_pay167 z e e2 = o → k0_pay168 z e e2 et (ix2 d u)
      = ∑ k : Fin 1024, et (ix2 d k) * o (ix2 k u) := fun o ho => by
    unfold k0_pay168
    rw [ho]
    pointwise []
  rw [g _ rfl]
  exact Finset.sum_congr rfl fun k _ => by rw [hot_at h, h.et, mul_comm]

theorem code_at (d : Fin 64) (u : Fin 512) : k0_pay169 z e e2 et (ix3 0 d u) = pick (Z u) E d := by
  have g : ∀ q : FVec Ideal S64x512 .f32, k0_pay168 z e e2 et = q → k0_pay169 z e e2 et (ix3 0 d u) = q (ix2 d u) := fun q hq => by
    unfold k0_pay169
    rw [hq]
    pointwise []
  rw [g _ rfl, pick_at h]

theorem count_at (a : FVec Ideal S1024x1 .f32) (k : Fin 1024) :
    k0_pay170 a z e e2 (ix2 k 0) = a (ix2 k 0) + ∑ u : Fin 512, hot (dst (Z u) E) k := by
  have g : ∀ o : FVec Ideal S1024x512 .f32, k0_pay167 z e e2 = o → k0_pay170 a z e e2 (ix2 k 0)
      = a (ix2 k 0) + ∑ u : Fin 512, o (ix2 k u) := fun o ho => by
    unfold k0_pay170
    rw [ho]
    pointwise []
  rw [g _ rfl]
  exact congrArg _ (Finset.sum_congr rfl fun u _ => hot_at h k u)

theorem error_at (a : FVec Ideal S1x1 .f32) : k0_pay171 a z e e2 et (ix2 0 0)
    = a (ix2 0 0) + ∑ d : Fin 64, ∑ u : Fin 512, (pick (Z u) E d - Z u d) * (pick (Z u) E d - Z u d) := by
  have g : ∀ q : FVec Ideal S64x512 .f32, k0_pay168 z e e2 et = q → k0_pay171 a z e e2 et (ix2 0 0)
      = a (ix2 0 0) + ∑ d : Fin 64, ∑ u : Fin 512, (q (ix2 d u) - z (ix2 d u)) * (q (ix2 d u) - z (ix2 d u)) := fun q hq => by
    unfold k0_pay171
    rw [hq]
    pointwise []
  rw [g _ rfl]
  refine congrArg _ (Finset.sum_congr rfl fun d _ => Finset.sum_congr rfl fun u _ => ?_)
  rw [pick_at h, h.z]

end

/-! ## A point's eight images -/

section
variable (m : (ℓ : Loc nD τ sig) → Buf (Elt Ideal) ℓ) (c : Dev nD)

/-- The latent of image `n` at position `u`. -/
def latOf (n : Fin 64) (u : Fin 512) (d : Fin 64) : EReal := (wtsOf m c).lat (sigOf m c n) d u

theorem quant (t : Fin cfg0.N) (n : ℕ) : Quant (zAt m c t n) (inpAt m c t).emb (inpAt m c t).e2 (inpAt m c t).embt
    (latOf m c (img t (Fin.ofNat 8 n))) (codeOf m c) :=
  ⟨fun d u => Zimg m c t _ d u, emb_at m c t, e2_at m c t, embt_at m c t⟩

/-- The count of code `k` in image `n`. -/
def tallyOf (k : Fin 1024) (n : Fin 64) : EReal := ∑ u : Fin 512, hot (dst (latOf m c n u) (codeOf m c)) k
/-- The squared error of image `n`. -/
def errOf (n : Fin 64) : EReal := ∑ d : Fin 64, ∑ u : Fin 512,
  (pick (latOf m c n u) (codeOf m c) d - latOf m c n u d) * (pick (latOf m c n u) (codeOf m c) d - latOf m c n u d)

theorem cnt_at (t : Fin cfg0.N) (k : Fin 1024) :
    (inpAt m c t).cnt (zAt m c t) 8 (ix2 k 0) = ∑ i : Fin 8, tallyOf m c k (img t i) := by
  have h : ∀ n a, k0_pay170 a (zAt m c t n) (inpAt m c t).emb (inpAt m c t).e2 (ix2 k 0)
      = a (ix2 k 0) + tallyOf m c k (img t (Fin.ofNat 8 n)) := fun n a => count_at (quant m c t n) a k
  have z0 : (k0_pay7 (F := Ideal)) (ix2 k 0) = (0 : EReal) := by pointwise [k0_pay7]
  simp only [Inp.cnt, h, z0, zero_add]
  rw [Fin.sum_univ_eight]
  rfl

theorem sse_at (t : Fin cfg0.N) : (inpAt m c t).sse (zAt m c t) 8 (ix2 0 0) = ∑ i : Fin 8, errOf m c (img t i) := by
  have h : ∀ n a, k0_pay171 a (zAt m c t n) (inpAt m c t).emb (inpAt m c t).e2 (inpAt m c t).embt (ix2 0 0)
      = a (ix2 0 0) + errOf m c (img t (Fin.ofNat 8 n)) := fun n a => error_at (quant m c t n) a
  have z0 : (k0_pay8 (F := Ideal)) (ix2 0 0) = (0 : EReal) := by pointwise [k0_pay8]
  simp only [Inp.sse, h, z0, zero_add]
  rw [Fin.sum_univ_eight]
  rfl

end

end Cert.KernelIdeal.Own
-- ==== Proof.Own.KerValue.lean ====
/- The kernel's three results: the chosen codes, how often each code was chosen, and the sum of the squared errors. -/
module

public import proofs.«01_k».proof.Proof.Own.KerHot
public import Idealize.ShloMosaic.Lib.Pipeline.Value

@[expose] public section

set_option maxRecDepth 16384

noncomputable section

namespace Cert.KernelIdeal.Own

open Cert.KernelIdeal Cert.KernelIdeal.Gen Cert.Spec Idealize.ShloMosaic Idealize.ShloMosaic.TcCoe Idealize.ShloMosaic.Tactic Idealize.SL.Sem

variable (m : (ℓ : Loc nD τ sig) → Buf (Elt Ideal) ℓ) (c : Dev nD)

/-! ## The chosen codes -/

theorem inj9 : ∀ t t' : Fin cfg0.N, win0_9.index t = win0_9.index t' → t = t' :=
  (by decide +kernel : ∀ t t' : Fin grid0.N, win0_9.index t = win0_9.index t' → t = t')
theorem flush9 : ∀ t : Fin cfg0.N, (cfg0.win 9).flush t = true := (by decide +kernel : ∀ t : Fin grid0.N, _)

theorem blocks9 (t : Fin cfg0.N) : ((cfg0.win 9).blk t).view.read (Elt Ideal) ((dats m 0 c).arrAt 9 cfg0.N) = (dats m 0 c).flushed 9 t :=
  (dats m 0 c).read_blk_arrAt_eq_flushed 9 (fun t t' _ _ hne => (cfg0.win 9).disjoint_blk fun h => hne (inj9 t t' h)) cfg0.N t t.isLt (flush9 t)

theorem flushed9 (t : Fin cfg0.N) : (dats m 0 c).flushed 9 t = (cfg0.win 9).cut (grid0.coords t) (outsAt m c t.val t.isLt).1 := by
  show (cfg0.win 9).cut (grid0.coords t) ((dats m 0 c).after 9 t) = _
  rw [after_9]

theorem read9 (X : FVec Ideal S64x64x512 .f32) (t : Fin cfg0.N) (i : Fin 8) (d : Fin 64) (u : Fin 512) :
    (((cfg0.win 9).blk t).view.read (Elt Ideal) X : FVec Ideal S8x64x512 .f32) (ix3 i d u) = X (ix3 (img t i) d u) := by
  unfold img
  blk_point [idx t]

theorem cut9 (X : FVec Ideal S8x64x512 .f32) (t : Fin cfg0.N) (i : Fin 8) (d : Fin 64) (u : Fin 512) :
    ((cfg0.win 9).cut (grid0.coords t) X : FVec Ideal S8x64x512 .f32) (ix3 i d u) = X (ix3 i d u) := by
  blk_point [idx t]

theorem point9 (t : Fin cfg0.N) (i : Fin 8) (d : Fin 64) (u : Fin 512) :
    (outsAt m c t.val t.isLt).1 (ix3 i d u) = pick (latOf m c (img t i) u) (codeOf m c) d := by
  rw [codes_at]
  have e : Fin.ofNat 8 i.val = i := Fin.ext (Nat.mod_eq_of_lt i.isLt)
  have h := code_at (quant m c t i.val) d u
  rw [e] at h
  exact h

theorem codes (n : Fin 64) (d : Fin 64) (u : Fin 512) :
    ((dats m 0 c).arrAt 9 cfg0.N : FVec Ideal S64x64x512 .f32) (ix3 n d u) = pick (latOf m c n u) (codeOf m c) d := by
  have hN : cfg0.N = 8 := N_0
  have key : ∀ (t : Fin cfg0.N) (i : Fin 8), ((dats m 0 c).arrAt 9 cfg0.N : FVec Ideal S64x64x512 .f32) (ix3 (img t i) d u)
      = pick (latOf m c (img t i) u) (codeOf m c) d := fun t i => by
    have h := congrFun ((blocks9 m c t).trans (flushed9 m c t)) (ix3 i d u)
    exact (read9 _ t i d u).symm.trans (h.trans ((cut9 _ t i d u).trans (point9 m c t i d u)))
  have h := key ⟨n.val / 8, by omega⟩ ⟨n.val % 8, by omega⟩
  have e : img ⟨n.val / 8, by omega⟩ ⟨n.val % 8, by omega⟩ = n := Fin.ext (by simp only [img]; omega)
  rwa [e] at h

/-! ## The accumulated results -/

/-- A sum over the points and their images is a sum over all images. -/
theorem sum_img (f : Fin 64 → EReal) : ∑ t : Fin cfg0.N, ∑ i : Fin 8, f (img t i) = ∑ n : Fin 64, f n := by
  refine Fin.sum_mul_add_congr (fun p k hl => ?_) (by have : cfg0.N = 8 := N_0; omega)
  exact congrArg f (Fin.ext (by simp only [img]; omega))

theorem add_cnt (a b : FVec Ideal S1024x1 .f32) (k : Fin 1024) : k0_pay1 a b (ix2 k 0) = b (ix2 k 0) + a (ix2 k 0) := by
  pointwise [k0_pay1]

theorem cnt_last (k : Fin 1024) : (outsAt m c t0_7.val t0_7.isLt).2.1 (ix2 k 0) = ∑ n : Fin 64, tallyOf m c k n := by
  have hN : cfg0.N = 8 := N_0
  rw [Pipeline.eq_sum_fin_of_reset_step_apply_last (fun n h => (outsAt m c n h).2.1) 8 (fun _ => 0)
    (fun p j => ∑ i : Fin 8, tallyOf m c (j 0) (img p i))
    (fun t h j => by
      have h0 : t.val = 0 := by have := t.isLt; omega
      obtain ⟨k, rfl⟩ : ∃ k : Fin 1024, j = ix2 k 0 := ⟨j 0, by idx_vars j; rw [Subsingleton.elim j1 0]⟩
      show (outsAt m c t.val t.isLt).2.1 (ix2 k 0) = _
      rw [cnt_first m c t h0, cnt_at, zero_add]; rfl)
    (fun t h j => by
      have h0 : t.val ≠ 0 := by intro h'; exact h (by rw [h'])
      obtain ⟨k, rfl⟩ : ∃ k : Fin 1024, j = ix2 k 0 := ⟨j 0, by idx_vars j; rw [Subsingleton.elim j1 0]⟩
      show (outsAt m c t.val t.isLt).2.1 (ix2 k 0) = _
      rw [cnt_later m c t h0, add_cnt, cnt_at]; rfl)
    (le_of_eq N_0) t0_7 rfl (ix2 k 0)]
  rw [zero_add]
  exact sum_img (tallyOf m c k)

theorem add_sse (a b : FVec Ideal S1x1 .f32) : k0_pay2 a b (ix2 0 0) = b (ix2 0 0) + a (ix2 0 0) := by
  pointwise [k0_pay2]

theorem sse_last : (outsAt m c t0_7.val t0_7.isLt).2.2.1 (ix2 0 0) = ∑ n : Fin 64, errOf m c n := by
  have hN : cfg0.N = 8 := N_0
  have h1 : ∀ j : S1x1.Idx, j = ix2 0 0 := fun j => by idx_vars j; rw [Subsingleton.elim j0 0, Subsingleton.elim j1 0]
  rw [Pipeline.eq_sum_fin_of_reset_step_apply_last (fun n h => (outsAt m c n h).2.2.1) 8 (fun _ => 0)
    (fun p j => ∑ i : Fin 8, errOf m c (img p i))
    (fun t h j => by
      have h0 : t.val = 0 := by have := t.isLt; omega
      rw [h1 j]
      show (outsAt m c t.val t.isLt).2.2.1 (ix2 0 0) = _
      rw [sse_first m c t h0, sse_at, zero_add])
    (fun t h j => by
      have h0 : t.val ≠ 0 := by intro h'; exact h (by rw [h'])
      rw [h1 j]
      show (outsAt m c t.val t.isLt).2.2.1 (ix2 0 0) = _
      rw [sse_later m c t h0, add_sse, sse_at])
    (le_of_eq N_0) t0_7 rfl (ix2 0 0)]
  rw [zero_add]
  exact sum_img (errOf m c)

/-- The counts. -/
theorem counts : (dats m 0 c).arrAt 10 cfg0.N = fun j : S1024x1.Idx => ∑ n : Fin 64, tallyOf m c (j 0) n := by
  refine (dats m 0 c).arrAt_eq_of_after_last 10 t0_7 (by decide +kernel) _ fun j => ?_
  blk_simp
  rw [after_10]
  obtain ⟨k, rfl⟩ : ∃ k : Fin 1024, j = ix2 k 0 := ⟨j 0, by idx_vars j; rw [Subsingleton.elim j1 0]⟩
  refine (cnt_last m c k).trans ?_
  blk_point [idx t0_7]

/-- The squared error. -/
theorem errors : (dats m 0 c).arrAt 11 cfg0.N = fun j : S1x1.Idx => ∑ n : Fin 64, errOf m c n := by
  refine (dats m 0 c).arrAt_eq_of_after_last 11 t0_7 (by decide +kernel) _ fun j => ?_
  blk_simp
  rw [after_11]
  have h1 : ∀ j : S1x1.Idx, j = ix2 0 0 := fun j => by idx_vars j; rw [Subsingleton.elim j0 0, Subsingleton.elim j1 0]
  rw [h1 j]
  exact sse_last m c

/-! ## The run, with the results named -/

variable (ρ : Dev nD → PrngReg)

theorem run_named : θ_run defs (onTc (τ := τ) (main (F := Ideal))) ⟨m, fun _ => 0, ρ⟩ fun r => ∀ c : Dev nD,
      r.2.mem ((c : Thread nD τ).loc main_v15_0) = (dats m 0 c).arrAt 9 cfg0.N
      ∧ r.2.mem ((c : Thread nD τ).loc main_v15_1) = (dats m 0 c).arrAt 10 cfg0.N
      ∧ r.2.mem ((c : Thread nD τ).loc main_v15_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c)))⟩)
    (run_main m ρ)

end Cert.KernelIdeal.Own
-- ==== Proof.Own.RefLayers.lean ====
/- The reference of the encoder, layer by layer: each layer a function of arrays, and what the host line leaves is those functions of the arguments. -/
module

public import proofs.«01_k».proof.Proof.Own.RefRun
public import Idealize.ShloMosaic.Lib.Pointwise
public import Idealize.ShloMosaic.Lib.Pipeline.ValueKit

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.StableHlo
open Idealize.ShloMosaic.Tactic

/-- Terms added one after the other, from the first. -/
def addUp {s : Shape} (f : ℕ → FVec Ideal s .f32) : ℕ → FVec Ideal s .f32
  | 0 => f 0
  | n + 1 => addf (addUp f n) (f (n + 1))

/-- The padding value: the integer zero, converted. -/
def padv : FVec Ideal S_ .f32 := sitofp .f32 (constantI S_ 32 0#32)

/-- The leaky rectifier. -/
def leaky {s : Shape} (h : (S_).BroadcastsInDim s ![]) (x : FVec Ideal s .f32) : FVec Ideal s .f32 :=
  select (cmpf .ogt x (broadcastInDim s ![] h (constant S_ .f32 0x00000000#32))) x
    (mulf (broadcastInDim s ![] h (constant S_ .f32 0x3C23D70A#32)) x)

theorem ev1a : ∀ k : Fin 16, S64x1x16.Slices ![0, 0, k.val] S64x1x1 := by decide
theorem ev1b : ∀ k : Fin 16, S64x1x4110.SlicesBy ![0, 0, k.val] ![1, 1, 2] S64x1x2048 := by decide
theorem ev2a : ∀ k : Fin 8, S128x64x8.Slices ![0, 0, k.val] S128x64x1 := by decide
theorem ev2b : ∀ k : Fin 8, S64x64x2054.SlicesBy ![0, 0, k.val] ![1, 1, 2] S64x64x1024 := by decide
theorem ev3a : ∀ k : Fin 4, S128x128x4.Slices ![0, 0, k.val] S128x128x1 := by decide
theorem ev3b : ∀ k : Fin 4, S64x128x1026.SlicesBy ![0, 0, k.val] ![1, 1, 2] S64x128x512 := by decide

/-- Tap `k` of the first convolution. -/
def tap1 (x : FVec Ideal S64x1x4096 .f32) (w : FVec Ideal S64x1x16 .f32) (k : Fin 16) : FVec Ideal S64x64x2048 .f32 :=
  transpose S64x64x2048 [0, 2, 1] (Host.dotGeneral dot_S64x1x2048_S64x1_S64x2048x64_1_1_02_0_n_n none
    (Host.slice S64x1x2048 ![0, 0, k.val] ![1, 1, 2]
      (pad S64x1x4110 ![0, 0, 7] ![0, 0, 7] ![0, 0, 0] x padv pads_S64x1x4096_S64x1x4110_000_000_770 h_S_) (ev1b k))
    (shapeCast S64x1 (extractStridedSlice S64x1x1 ![0, 0, k.val] w (ev1a k)) shapeCasts_S64x1x1_S64x1)) transposes_S64x2048x64_S64x64x2048_0_2_1

/-- Tap `k` of the second convolution. -/
def tap2 (x : FVec Ideal S64x64x2048 .f32) (w : FVec Ideal S128x64x8 .f32) (k : Fin 8) : FVec Ideal S64x128x1024 .f32 :=
  transpose S64x128x1024 [0, 2, 1] (Host.dotGeneral dot_S64x64x1024_S128x64_S64x1024x128_1_1_02_0_n_n none
    (Host.slice S64x64x1024 ![0, 0, k.val] ![1, 1, 2]
      (pad S64x64x2054 ![0, 0, 3] ![0, 0, 3] ![0, 0, 0] x padv pads_S64x64x2048_S64x64x2054_000_000_330 h_S_) (ev2b k))
    (shapeCast S128x64 (extractStridedSlice S128x64x1 ![0, 0, k.val] w (ev2a k)) shapeCasts_S128x64x1_S128x64)) transposes_S64x1024x128_S64x128x1024_0_2_1

/-- Tap `k` of the third convolution. -/
def tap3 (x : FVec Ideal S64x128x1024 .f32) (w : FVec Ideal S128x128x4 .f32) (k : Fin 4) : FVec Ideal S64x128x512 .f32 :=
  transpose S64x128x512 [0, 2, 1] (Host.dotGeneral dot_S64x128x512_S128x128_S64x512x128_1_1_02_0_n_n none
    (Host.slice S64x128x512 ![0, 0, k.val] ![1, 1, 2]
      (pad S64x128x1026 ![0, 0, 1] ![0, 0, 1] ![0, 0, 0] x padv pads_S64x128x1024_S64x128x1026_000_000_110 h_S_) (ev3b k))
    (shapeCast S128x128 (extractStridedSlice S128x128x1 ![0, 0, k.val] w (ev3a k)) shapeCasts_S128x128x1_S128x128)) transposes_S64x512x128_S64x128x512_0_2_1

/-- The first layer. -/
def lay1 (x : FVec Ideal S64x1x4096 .f32) (w : FVec Ideal S64x1x16 .f32) : FVec Ideal S64x64x2048 .f32 :=
  leaky bcast_S_S64x64x2048 (addUp (fun k => tap1 x w (Fin.ofNat 16 k)) 15)

/-- The second layer. -/
def lay2 (x : FVec Ideal S64x64x2048 .f32) (w : FVec Ideal S128x64x8 .f32) : FVec Ideal S64x128x1024 .f32 :=
  leaky bcast_S_S64x128x1024 (addUp (fun k => tap2 x w (Fin.ofNat 8 k)) 7)

/-- The third layer. -/
def lay3 (x : FVec Ideal S64x128x1024 .f32) (w : FVec Ideal S128x128x4 .f32) : FVec Ideal S64x128x512 .f32 :=
  leaky bcast_S_S64x128x512 (addUp (fun k => tap3 x w (Fin.ofNat 4 k)) 3)

/-- The latents, a row per code place. -/
def lay4 (x : FVec Ideal S64x128x512 .f32) (w : FVec Ideal S64x128x1 .f32) (b : FVec Ideal S64 .f32) : FVec Ideal S64x512x64 .f32 :=
  transpose S64x512x64 [0, 2, 1]
    (addf (transpose S64x64x512 [0, 2, 1] (Host.dotGeneral dot_S64x128x512_S64x128_S64x512x64_1_1_02_0_n_n none
        (pad S64x128x512 ![0, 0, 0] ![0, 0, 0] ![0, 0, 0] x padv pads_S64x128x512_S64x128x512_000_000_000 h_S_)
        (shapeCast S64x128 w shapeCasts_S64x128x1_S64x128)) transposes_S64x512x64_S64x64x512_0_2_1)
      (broadcastInDim S64x64x512 ![0, 1, 2] bcast_S1x64x1_S64x64x512_0_1_2 (broadcastInDim S1x64x1 ![1] bcast_S64_S1x64x1_1 b)))
    transposes_S64x64x512_S64x512x64_0_2_1

/-- The squared distances of the rows to the codes, as the reference writes them. -/
def dists (z : FVec Ideal S64x512x64 .f32) (e : FVec Ideal S1024x64 .f32) : FVec Ideal S32768x1024 .f32 :=
  subf (addf
      (broadcastInDim S32768x1024 ![0, 1] bcast_S32768x1_S32768x1024_0_1 (broadcastInDim S32768x1 ![0] bcast_S32768_S32768x1_0 (Host.reduceAdd
        (mulf (shapeCast S32768x64 z shapeCasts_S64x512x64_S32768x64) (shapeCast S32768x64 z shapeCasts_S64x512x64_S32768x64))
        (constant S_ .f32 0x00000000#32) reducesTo_S32768x64_S32768_d1 h_S_)))
      (broadcastInDim S32768x1024 ![0, 1] bcast_S1x1024_S32768x1024_0_1 (broadcastInDim S1x1024 ![1] bcast_S1024_S1x1024_1 (Host.reduceAdd (mulf e e)
        (constant S_ .f32 0x00000000#32) reducesTo_S1024x64_S1024_d1 h_S_))))
    (mulf (broadcastInDim S32768x1024 ![] bcast_S_S32768x1024 (constant S_ .f32 0x40000000#32))
      (Host.dotGeneral dot_S32768x64_S64x1024_S32768x1024_1_0_0_1_n_n none
        (shapeCast S32768x64 z shapeCasts_S64x512x64_S32768x64) (transpose S64x1024 [1, 0] e transposes_S1024x64_S64x1024_1_0)))

/-- The nearest code of each row. -/
def nearest (d : FVec Ideal S32768x1024 .f32) : IVec S32768 32 := fun j =>
  (Host.argReduce reducer_argmin_f32_i32 d (iotaInDim S32768x1024 32 1) (constant S_ .f32 0x7F800000#32) (constantI S_ 32 0#32)
    reducesTo_S32768x1024_S32768_d1 h_S_ j).2

/-- The one-hot rows of the codes. -/
def oneHot (k : IVec S32768 32) : FVec Ideal S32768x1024 .f32 :=
  uitofp .f32 (cmpi .eq
    (broadcastInDim S32768x1024 ![0, 1] bcast_S32768x1_S32768x1024_0_1 (broadcastInDim S32768x1 ![0] bcast_S32768_S32768x1_0 k))
    (broadcastInDim S32768x1024 ![0, 1] bcast_S1x1024_S32768x1024_0_1 (iotaInDim S1x1024 32 1)))

/-- The chosen codes. -/
def chosen (o : FVec Ideal S32768x1024 .f32) (e : FVec Ideal S1024x64 .f32) : FVec Ideal S64x512x64 .f32 :=
  shapeCast S64x512x64 (Host.dotGeneral dot_S32768x1024_S1024x64_S32768x64_1_0_0_1_n_n none o e) shapeCasts_S32768x64_S64x512x64

/-- The encoded result from latents and chosen codes. -/
def encd (z q : FVec Ideal S64x512x64 .f32) : FVec Ideal S64x64x512 .f32 :=
  transpose S64x64x512 [0, 2, 1] (addf z (subf q z)) transposes_S64x512x64_S64x64x512_0_2_1

/-- How often each code was chosen. -/
def tally (o : FVec Ideal S32768x1024 .f32) : FVec Ideal S1024x1 .f32 :=
  shapeCast S1024x1 (Host.reduceAdd o (constant S_ .f32 0x00000000#32) reducesTo_S32768x1024_S1024_d0 h_S_) shapeCasts_S1024_S1024x1

/-- The sum of the squared errors. -/
def sqErr (z q : FVec Ideal S64x512x64 .f32) : FVec Ideal S1x1 .f32 :=
  shapeCast S1x1 (Host.reduceAdd (mulf (subf q z) (subf q z)) (constant S_ .f32 0x00000000#32) reducesTo_S64x512x64_S_d0_1_2 h_S_)
    shapeCasts_S_S1x1

section
variable (x : FVec Ideal S64x1x4096 .f32) (w1 : FVec Ideal S64x1x16 .f32) (w2 : FVec Ideal S128x64x8 .f32)
  (w3 : FVec Ideal S128x128x4 .f32) (pw : FVec Ideal S64x128x1 .f32) (pb : FVec Ideal S64 .f32)

/-- The latents of the reference. -/
def latents : FVec Ideal S64x512x64 .f32 := lay4 (lay3 (lay2 (lay1 x w1) w2) w3) pw pb

end

end Cert.ReferenceIdeal.Own
-- ==== Proof.Own.RefRead.lean ====
/- What the reference's host line leaves, in its layers: the line is cut after the latents, so that each half is read alone. -/
module

public import proofs.«01_k».proof.Proof.Own.RefLayers
public import Idealize.ShloMosaic.Lib.Pipeline.ValueKit

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.StableHlo
open Idealize.ShloMosaic.Tactic

/-- The operations up to the latents. -/
def front : Line := w0.1 ++ (w1.1 ++ (w2.1 ++ w3.1.take 22))

/-- The operations after the latents. -/
def back : Line := w3.1.drop 22

theorem ops_cut : ops = front ++ back := by
  unfold ops front back
  simp only [List.append_assoc, List.take_append_drop]

variable (V : Valuation τ sig (Elt Ideal))

/-- The front leaves the latents. -/
theorem front_190 : after front V (Proc.devRef .tc main_v190)
    = latents (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  sl_kernel_rfl

/-- The front leaves the codes as they were. -/
theorem front_arg6 : after front V (Proc.devRef .tc main_arg6) = V (Proc.devRef .tc main_arg6) := by
  sl_kernel_rfl

theorem back_205 : after back V (Proc.devRef .tc main_v205)
    = dists (V (Proc.devRef .tc main_v190)) (V (Proc.devRef .tc main_arg6)) := by
  sl_kernel_rfl

theorem back_206 : after back V (Proc.devRef .tc main_v206) = nearest (after back V (Proc.devRef .tc main_v205)) := by
  sl_kernel_rfl

theorem back_h0 : after back V (Proc.devRef .tc main_call8_v0)
    = broadcastInDim S32768x1 ![0] bcast_S32768_S32768x1_0 (after back V (Proc.devRef .tc main_v206)) := by
  sl_kernel_rfl

theorem back_h2 : after back V (Proc.devRef .tc main_call8_v2)
    = broadcastInDim S32768x1024 ![0, 1] bcast_S32768x1_S32768x1024_0_1 (after back V (Proc.devRef .tc main_call8_v0)) := by
  sl_kernel_rfl

theorem back_h3 : after back V (Proc.devRef .tc main_call8_v3)
    = broadcastInDim S32768x1024 ![0, 1] bcast_S1x1024_S32768x1024_0_1 (iotaInDim S1x1024 32 1) := by
  sl_kernel_rfl

theorem back_h4 : after back V (Proc.devRef .tc main_call8_v4)
    = (cmpi .eq (after back V (Proc.devRef .tc main_call8_v2) : IVec S32768x1024 32)
        (after back V (Proc.devRef .tc main_call8_v3) : IVec S32768x1024 32) : IVec S32768x1024 1) := by
  sl_kernel_rfl

theorem back_h5 : after back V (Proc.devRef .tc main_v207)
    = (uitofp .f32 (after back V (Proc.devRef .tc main_call8_v4) : IVec S32768x1024 1) : FVec Ideal S32768x1024 .f32) := by
  sl_kernel_rfl

theorem back_207 : after back V (Proc.devRef .tc main_v207) = oneHot (after back V (Proc.devRef .tc main_v206)) := by
  rw [back_h5, back_h4, back_h3, back_h2, back_h0]; rfl

theorem back_209 : after back V (Proc.devRef .tc main_v209)
    = chosen (after back V (Proc.devRef .tc main_v207)) (V (Proc.devRef .tc main_arg6)) := by
  sl_kernel_rfl

theorem back_215 : after back V (Proc.devRef .tc main_v215)
    = encd (V (Proc.devRef .tc main_v190)) (after back V (Proc.devRef .tc main_v209)) := by
  sl_kernel_rfl

theorem back_217 : after back V (Proc.devRef .tc main_v217) = tally (after back V (Proc.devRef .tc main_v207)) := by
  sl_kernel_rfl

theorem back_218 : after back V (Proc.devRef .tc main_v218)
    = sqErr (V (Proc.devRef .tc main_v190)) (after back V (Proc.devRef .tc main_v209)) := by
  sl_kernel_rfl

/-- The latents, wherever the line began. -/
def latentsOf : FVec Ideal S64x512x64 .f32 :=
  latents (V (Proc.devRef .tc main_arg0)) (V (Proc.devRef .tc main_arg1)) (V (Proc.devRef .tc main_arg2))
    (V (Proc.devRef .tc main_arg3)) (V (Proc.devRef .tc main_arg4)) (V (Proc.devRef .tc main_arg5))

/-- The codes, wherever the line began. -/
def codesOf : FVec Ideal S1024x64 .f32 := V (Proc.devRef .tc main_arg6)

/-- The one-hot rows from latents and codes. -/
def hots (z : FVec Ideal S64x512x64 .f32) (e : FVec Ideal S1024x64 .f32) : FVec Ideal S32768x1024 .f32 :=
  oneHot (nearest (dists z e))

theorem hots_back : after back (after front V) (Proc.devRef .tc main_v207) = hots (latentsOf V) (codesOf V) := by
  rw [back_207, back_206, back_205, front_190, front_arg6]; rfl

/-- The result `encoded`. -/
theorem read215 : after ops V (Proc.devRef .tc main_v215)
    = encd (latentsOf V) (chosen (hots (latentsOf V) (codesOf V)) (codesOf V)) := by
  rw [ops_cut, after_append, back_215, back_209, hots_back, front_190, front_arg6]; rfl

/-- The code counts. -/
theorem read217 : after ops V (Proc.devRef .tc main_v217) = tally (hots (latentsOf V) (codesOf V)) := by
  rw [ops_cut, after_append, back_217, hots_back]

/-- The squared error. -/
theorem read218 : after ops V (Proc.devRef .tc main_v218)
    = sqErr (latentsOf V) (chosen (hots (latentsOf V) (codesOf V)) (codesOf V)) := by
  rw [ops_cut, after_append, back_218, back_209, hots_back, front_190, front_arg6]; rfl

end Cert.ReferenceIdeal.Own
-- ==== Proof.Own.RefConv.lean ====
/- The reference's latents are the encoder's. -/
module

public import proofs.«01_k».proof.Proof.Own.RefLayers
public import proofs.«01_k».proof.Proof.Own.Spec
public import Idealize.ShloMosaic.Lib.Pipeline.ValueKit

@[expose] public section

set_option maxRecDepth 16384

noncomputable section

namespace Cert.ReferenceIdeal.Own

open Cert.ReferenceIdeal Cert.ReferenceIdeal.Gen Cert.Spec Idealize.ShloMosaic Idealize.ShloMosaic.TcCoe Idealize.SL.Sem

theorem zero_conv : (FloatOps.sitofp FTy.f32 (0#32) : Ideal .f32) = 0 := by
  simp [FloatOps.sitofp]

theorem tap1_at (x : FVec Ideal S64x1x4096 .f32) (w : FVec Ideal S64x1x16 .f32) (k : Fin 16) (n : Fin 64) (o : Fin 64) (t : Fin 2048) :
    tap1 x w k (ix3 n o t) = pd 7 (fun t => x (ix3 n 0 t)) (k.val + 2 * t.val) * w (ix3 o 0 k) := by
  pointwise [tap1, padv]
  rw [Fin.sum_univ_one, zero_conv]; rfl

theorem tap2_at (x : FVec Ideal S64x64x2048 .f32) (w : FVec Ideal S128x64x8 .f32) (k : Fin 8) (n : Fin 64) (o : Fin 128) (t : Fin 1024) :
    tap2 x w k (ix3 n o t) = ∑ c : Fin 64, pd 3 (fun t => x (ix3 n c t)) (k.val + 2 * t.val) * w (ix3 o c k) := by
  pointwise [tap2, padv]
  rw [zero_conv]; rfl

theorem tap3_at (x : FVec Ideal S64x128x1024 .f32) (w : FVec Ideal S128x128x4 .f32) (k : Fin 4) (n : Fin 64) (o : Fin 128) (t : Fin 512) :
    tap3 x w k (ix3 n o t) = ∑ c : Fin 128, pd 1 (fun t => x (ix3 n c t)) (k.val + 2 * t.val) * w (ix3 o c k) := by
  pointwise [tap3, padv]
  rw [zero_conv]; rfl

theorem leaky_at {s : Shape} (h : (S_).BroadcastsInDim s ![]) (x : FVec Ideal s .f32) (j : s.Idx) : leaky h x j = lk (x j) := by
  pointwise [leaky]
  rfl

/-- Terms added one after the other are their sum. -/
theorem addUp_at {s : Shape} (f : ℕ → FVec Ideal s .f32) (n : ℕ) (j : s.Idx) : addUp f n j = ∑ k : Fin (n + 1), f k.val j := by
  induction n with
  | zero => exact (Fin.sum_univ_one (fun k : Fin 1 => f k.val j)).symm
  | succ n ih => rw [Fin.sum_univ_castSucc]; exact congrArg (· + f (n + 1) j) ih

theorem lay1_at (x : FVec Ideal S64x1x4096 .f32) (w : FVec Ideal S64x1x16 .f32) (n : Fin 64) (o : Fin 64) (t : Fin 2048) :
    lay1 x w (ix3 n o t) = c1 (fun t => x (ix3 n 0 t)) (fun o k => w (ix3 o 0 k)) o t := by
  unfold lay1 c1
  rw [leaky_at, addUp_at]
  refine congrArg lk (Finset.sum_congr rfl fun k _ => ?_)
  rw [tap1_at, show Fin.ofNat 16 k.val = k from Fin.ext (Nat.mod_eq_of_lt k.isLt)]

theorem lay2_at (x : FVec Ideal S64x64x2048 .f32) (w : FVec Ideal S128x64x8 .f32) (n : Fin 64) (o : Fin 128) (t : Fin 1024) :
    lay2 x w (ix3 n o t) = c2 (fun o t => x (ix3 n o t)) (fun c o k => w (ix3 c o k)) o t := by
  unfold lay2 c2
  rw [leaky_at, addUp_at]
  refine congrArg lk (Finset.sum_congr rfl fun k _ => ?_)
  rw [tap2_at, show Fin.ofNat 8 k.val = k from Fin.ext (Nat.mod_eq_of_lt k.isLt)]

theorem lay3_at (x : FVec Ideal S64x128x1024 .f32) (w : FVec Ideal S128x128x4 .f32) (n : Fin 64) (o : Fin 128) (t : Fin 512) :
    lay3 x w (ix3 n o t) = c3 (fun o t => x (ix3 n o t)) (fun c o k => w (ix3 c o k)) o t := by
  unfold lay3 c3
  rw [leaky_at, addUp_at]
  refine congrArg lk (Finset.sum_congr rfl fun k _ => ?_)
  rw [tap3_at, show Fin.ofNat 4 k.val = k from Fin.ext (Nat.mod_eq_of_lt k.isLt)]

theorem lay4_at (x : FVec Ideal S64x128x512 .f32) (w : FVec Ideal S64x128x1 .f32) (b : FVec Ideal S64 .f32) (n : Fin 64) (u : Fin 512) (d : Fin 64) :
    lay4 x w b (ix3 n u d) = c4 (fun c t => x (ix3 n c t)) (fun d c => w (ix3 d c 0)) (fun d => b (ix1 d)) d u := by
  pointwise [lay4, padv, c4]

/-- The weights, read off the arrays. -/
def wts (w1 : FVec Ideal S64x1x16 .f32) (w2 : FVec Ideal S128x64x8 .f32) (w3 : FVec Ideal S128x128x4 .f32)
    (pw : FVec Ideal S64x128x1 .f32) (pb : FVec Ideal S64 .f32) : Wts where
  w1 := fun o k => w1 (ix3 o 0 k)
  w2 := fun c o k => w2 (ix3 c o k)
  w3 := fun c o k => w3 (ix3 c o k)
  pw := fun d c => pw (ix3 d c 0)
  pb := fun d => pb (ix1 d)

/-- The reference's latents at an index. -/
theorem latents_at (x : FVec Ideal S64x1x4096 .f32) (w1 : FVec Ideal S64x1x16 .f32) (w2 : FVec Ideal S128x64x8 .f32)
    (w3 : FVec Ideal S128x128x4 .f32) (pw : FVec Ideal S64x128x1 .f32) (pb : FVec Ideal S64 .f32) (n : Fin 64) (u : Fin 512) (d : Fin 64) :
    latents x w1 w2 w3 pw pb (ix3 n u d) = (wts w1 w2 w3 pw pb).lat (fun t => x (ix3 n 0 t)) d u := by
  unfold latents
  rw [lay4_at]
  simp only [lay3_at, lay2_at, lay1_at]
  rfl

end Cert.ReferenceIdeal.Own
-- ==== Proof.Own.RefHot.lean ====
/- The reference's quantizer at an index: the distances of a row, the one-hot row of the nearest code, the chosen code, the
   encoded result, the counts and the squared error. -/
module

public import proofs.«01_k».proof.Proof.Own.RefConv
public import proofs.«01_k».proof.Proof.Own.First

@[expose] public section

set_option maxRecDepth 16384

noncomputable section

namespace Cert.ReferenceIdeal.Own

open Cert.ReferenceIdeal Cert.ReferenceIdeal.Gen Cert.Spec Idealize.ShloMosaic Idealize.ShloMosaic.TcCoe Idealize.ShloMosaic.Tactic

/-! ## The nearest code of a row -/

theorem red_least (a b : EReal × BitVec 32) : PLe (reducer_argmin_f32_i32 (F := Ideal) a b) a
    ∧ PLe (reducer_argmin_f32_i32 (F := Ideal) a b) b
    ∧ (reducer_argmin_f32_i32 (F := Ideal) a b = a ∨ reducer_argmin_f32_i32 (F := Ideal) a b = b) := by
  obtain ⟨x, i⟩ := a
  obtain ⟨y, j⟩ := b
  rcases lt_trichotomy x y with h | h | h
  · have : reducer_argmin_f32_i32 (F := Ideal) (x, i) (y, j) = (x, i) := by
      simp [reducer_argmin_f32_i32, Ideal.cmpf_def, Ideal.cmp, h, h.ne, IntOp.ori, IntOp.andi, Scalar.select]
    rw [this]
    exact ⟨PLe.refl _, Or.inl h, Or.inl rfl⟩
  · subst h
    by_cases hij : i.slt j = true
    · have : reducer_argmin_f32_i32 (F := Ideal) (x, i) (x, j) = (x, i) := by
        simp [reducer_argmin_f32_i32, Ideal.cmpf_def, Ideal.cmp, IntOp.ori, IntOp.andi, IntOp.cmpi, Scalar.select, hij]
      rw [this]
      refine ⟨PLe.refl _, Or.inr ⟨rfl, ?_⟩, Or.inl rfl⟩
      simp only [BitVec.slt, decide_eq_true_eq] at hij
      exact hij.le
    · have : reducer_argmin_f32_i32 (F := Ideal) (x, i) (x, j) = (x, j) := by
        simp [reducer_argmin_f32_i32, Ideal.cmpf_def, Ideal.cmp, IntOp.ori, IntOp.andi, IntOp.cmpi, Scalar.select, hij]
      rw [this]
      refine ⟨Or.inr ⟨rfl, ?_⟩, PLe.refl _, Or.inr rfl⟩
      simp only [BitVec.slt, decide_eq_true_eq, not_lt] at hij
      exact hij
  · have : reducer_argmin_f32_i32 (F := Ideal) (x, i) (y, j) = (y, j) := by
      simp [reducer_argmin_f32_i32, Ideal.cmpf_def, Ideal.cmp, h, h.ne', h.not_gt, IntOp.ori, IntOp.andi, IntOp.cmpi, Scalar.select]
    rw [this]
    exact ⟨Or.inl h, PLe.refl _, Or.inr rfl⟩

theorem top_bits : Ideal.ofBits .f32 0x7F800000#32 = (⊤ : EReal) := by
  simp [Ideal.ofBits, Ideal.ieee]

/-- The pairs a reduction folds over at `j`. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

theorem arg_fold {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t)
    (hu : 0 < u.numel) (j : t.Idx) (a : Ideal .f32 × BitVec 32) (ha : (ix (Shape.Idx.first hu), iy (Shape.Idx.first hu)) = a) :
    Host.argReduce f x y ix iy h hu j = (Host.argReduceFiber x y h j).foldl f a := by
  rw [Ideal.argReduce_eq_reduce2, Host.reduce2_eq_foldl_fiber, ha]

theorem drop_iff (h : S32768x1024.ReducesTo [1] S32768) (i : S32768x1024.Idx) (r : Fin 32768) : h.drop i = ix1 r ↔ i 0 = r := by
  have e : (h.drop i 0 : Nat) = i 0 := h.drop_apply_val_of_eq i 0 0
  constructor
  · intro g
    rw [g] at e
    exact Fin.ext e.symm
  · intro g
    funext a
    rw [Subsingleton.elim a 0]
    exact Fin.ext (e.trans (congrArg Fin.val g))

theorem init_bits : ((constant S_ .f32 0x7F800000#32 : FVec Ideal S_ .f32) (Shape.Idx.first h_S_), (constantI S_ 32 0#32 : IVec S_ 32) (Shape.Idx.first h_S_))
    = ((⊤ : EReal), 0#32) := by
  refine Prod.ext ?_ ?_
  · exact top_bits
  · rfl

theorem fiber_of (d : FVec Ideal S32768x1024 .f32) (r : Fin 32768) (p : EReal × BitVec 32) :
    p ∈ Host.argReduceFiber d (iotaInDim S32768x1024 32 1) reducesTo_S32768x1024_S32768_d1 (ix1 r)
      ↔ ∃ k : Fin 1024, p = (d (ix2 r k), BitVec.ofNat 32 k.val) := by
  refine (mem_fiber _ _ _ _ _).trans ?_
  constructor
  · rintro ⟨i, hi, rfl⟩
    have hi := (drop_iff _ i r).1 hi
    refine ⟨i 1, Prod.ext (congrArg d (funext fun a => ?_)) rfl⟩
    fin_cases a
    · exact hi
    · rfl
  · rintro ⟨k, rfl⟩
    exact ⟨ix2 r k, (drop_iff _ _ r).2 rfl, rfl⟩

theorem nearest_def (d : FVec Ideal S32768x1024 .f32) : nearest d = fun j : S32768.Idx =>
    (Host.argReduce (reducer_argmin_f32_i32 (F := Ideal)) d (iotaInDim S32768x1024 32 1) (constant S_ .f32 0x7F800000#32)
      (constantI S_ 32 0#32) reducesTo_S32768x1024_S32768_d1 h_S_ j).2 := rfl

theorem nearest_at (d : FVec Ideal S32768x1024 .f32) (r : Fin 32768) :
    nearest d (ix1 r) = BitVec.ofNat 32 (first fun k => d (ix2 r k)).val := by
  have e := arg_fold (reducer_argmin_f32_i32 (F := Ideal)) d (iotaInDim S32768x1024 32 1)
    (constant S_ .f32 0x7F800000#32) (constantI S_ 32 0#32) reducesTo_S32768x1024_S32768_d1 h_S_ (ix1 r) _ init_bits
  have g := foldl_first (reducer_argmin_f32_i32 (F := Ideal)) red_least _ (fun k => d (ix2 r k)) (fiber_of d r)
  have k := congrArg Prod.snd e
  rw [g] at k
  rw [nearest_def]
  exact k

/-- A one-hot row at an index. -/
theorem oneHot_at (o : IVec S32768 32) (k : Fin 1024) (r : Fin 32768) :
    oneHot o (ix2 r k) = if o (ix1 r) = BitVec.ofNat 32 k.val then 1 else 0 := by
  pointwise [oneHot]
  generalize o (ix1 r) = a
  generalize BitVec.ofNat 32 k.val = b
  show (((IntOp.cmpi .eq a b).toNat : ℝ) : EReal) = _
  by_cases h : a = b
  · subst h
    simp [IntOp.cmpi]
  · simp [IntOp.cmpi, h]

theorem hot_at (d : FVec Ideal S32768x1024 .f32) (k : Fin 1024) (r : Fin 32768) :
    oneHot (nearest d) (ix2 r k) = hot (fun k => d (ix2 r k)) k := by
  rw [oneHot_at, nearest_at]
  unfold hot
  generalize (first fun k => d (ix2 r k)) = j
  refine if_congr ⟨fun e => Fin.ext ?_, fun e => e ▸ rfl⟩ rfl rfl
  have := congrArg BitVec.toNat e
  rw [BitVec.toNat_ofNat, BitVec.toNat_ofNat] at this
  omega

/-! ## The quantizer at an index -/

section
variable (z : FVec Ideal S64x512x64 .f32) (e : FVec Ideal S1024x64 .f32)

/-- The latent of image `n` at position `u`. -/
def at3 (n : Fin 64) (u : Fin 512) (d : Fin 64) : EReal := z (ix3 n u d)
/-- Code `k`. -/
def at2 (k : Fin 1024) (d : Fin 64) : EReal := e (ix2 k d)

theorem dists_at (n : Fin 64) (u : Fin 512) (k : Fin 1024) :
    dists z e (ix2 ⟨n.val * 512 + u.val, by omega⟩ k) = dst (at3 z n u) (at2 e) k := by
  pointwise [dists]
  rfl

theorem hots_at (n : Fin 64) (u : Fin 512) (k : Fin 1024) :
    oneHot (nearest (dists z e)) (ix2 ⟨n.val * 512 + u.val, by omega⟩ k) = hot (dst (at3 z n u) (at2 e)) k := by
  rw [hot_at]
  exact congrArg (hot · k) (funext fun k => dists_at z e n u k)

theorem chosen_at (n : Fin 64) (u : Fin 512) (d : Fin 64) :
    chosen (oneHot (nearest (dists z e))) e (ix3 n u d) = pick (at3 z n u) (at2 e) d := by
  have h : ∀ o : FVec Ideal S32768x1024 .f32, chosen o e (ix3 n u d)
      = ∑ k : Fin 1024, o (ix2 ⟨n.val * 512 + u.val, by omega⟩ k) * e (ix2 k d) := fun o => by pointwise [chosen]
  rw [h]
  exact Finset.sum_congr rfl fun k _ => by rw [hots_at]; rfl

theorem tally_at (k : Fin 1024) : tally (oneHot (nearest (dists z e))) (ix2 k 0)
    = ∑ n : Fin 64, ∑ u : Fin 512, hot (dst (at3 z n u) (at2 e)) k := by
  have h : ∀ o : FVec Ideal S32768x1024 .f32, tally o (ix2 k 0) = ∑ x : Fin 32768, o (ix2 x k) := fun o => by pointwise [tally]
  rw [h, ← Fin.sum_mul_add_fin 64 512]
  exact Finset.sum_congr rfl fun n _ => Finset.sum_congr rfl fun u _ => hots_at z e n u k

theorem sqErr_at : sqErr z (chosen (oneHot (nearest (dists z e))) e) (ix2 0 0)
    = ∑ n : Fin 64, ∑ u : Fin 512, ∑ d : Fin 64, (pick (at3 z n u) (at2 e) d - at3 z n u d) * (pick (at3 z n u) (at2 e) d - at3 z n u d) := by
  have h : ∀ q : FVec Ideal S64x512x64 .f32, sqErr z q (ix2 0 0)
      = ∑ n : Fin 64, ∑ u : Fin 512, ∑ d : Fin 64, (q (ix3 n u d) - z (ix3 n u d)) * (q (ix3 n u d) - z (ix3 n u d)) := fun q => by
    pointwise [sqErr]
  rw [h]
  exact Finset.sum_congr rfl fun n _ => Finset.sum_congr rfl fun u _ => Finset.sum_congr rfl fun d _ => by rw [chosen_at]; rfl

/-- The encoded result: at a real latent, the chosen code itself. -/
theorem encd_at (n : Fin 64) (u : Fin 512) (d : Fin 64) (x : ℝ) (hx : z (ix3 n u d) = (x : EReal)) :
    encd z (chosen (oneHot (nearest (dists z e))) e) (ix3 n d u) = pick (at3 z n u) (at2 e) d := by
  have h : ∀ q : FVec Ideal S64x512x64 .f32, encd z q (ix3 n d u) = z (ix3 n u d) + (q (ix3 n u d) - z (ix3 n u d)) := fun q => by
    pointwise [encd]
  rw [h, chosen_at, hx]
  exact add_sub_self _ x

end

end Cert.ReferenceIdeal.Own
-- ==== Proof.Own.Finite.lean ====
/- The latents of finite data and finite weights are finite. -/
module

public import proofs.«01_k».proof.Proof.Own.Spec
public import Idealize.ShloMosaic.Lib.Pipeline.ValueKit

@[expose] public section

noncomputable section

namespace Cert.Spec

open Idealize.ShloMosaic

/-- A finite number. -/
def Fin1 (v : EReal) : Prop := ∃ x : ℝ, v = (x : EReal)

theorem Fin1.zero : Fin1 0 := ⟨0, rfl⟩
theorem Fin1.add {a b : EReal} (ha : Fin1 a) (hb : Fin1 b) : Fin1 (a + b) := by
  obtain ⟨x, rfl⟩ := ha; obtain ⟨y, rfl⟩ := hb
  exact ⟨x + y, (EReal.coe_add x y).symm⟩
theorem Fin1.mul {a b : EReal} (ha : Fin1 a) (hb : Fin1 b) : Fin1 (a * b) := by
  obtain ⟨x, rfl⟩ := ha; obtain ⟨y, rfl⟩ := hb
  exact ⟨x * y, (EReal.coe_mul x y).symm⟩
theorem Fin1.sum {ι : Type} (s : Finset ι) (f : ι → EReal) (h : ∀ i, Fin1 (f i)) : Fin1 (∑ i ∈ s, f i) := by
  classical
  induction s using Finset.induction_on with
  | empty => rw [Finset.sum_empty]; exact Fin1.zero
  | insert a s ha ih => rw [Finset.sum_insert ha]; exact (h a).add ih

/-- A number whose size is below infinity is finite. -/
theorem Fin1.of_lt {v : EReal} (h : max v (-v) < ⊤) : Fin1 v := by
  induction v using EReal.rec with
  | bot => simp at h
  | top => simp at h
  | coe x => exact ⟨x, rfl⟩

theorem Fin1.slope : Fin1 (Ideal.ofBits .f32 0x3C23D70A#32) := by
  simp only [Ideal.ofBits, Ideal.ieee]
  norm_num
  exact ⟨_, rfl⟩

theorem Fin1.lk {v : EReal} (h : Fin1 v) : Fin1 (lk v) := by
  unfold Cert.Spec.lk
  split
  · exact h
  · exact Fin1.slope.mul h

theorem Fin1.pd {L : ℕ} (p : ℕ) (f : Fin L → EReal) (i : ℕ) (h : ∀ k, Fin1 (f k)) : Fin1 (pd p f i) := by
  unfold Cert.Spec.pd
  split
  · exact h _
  · exact Fin1.zero

/-- Finite weights. -/
structure Wts.Fins (W : Wts) : Prop where
  w1 : ∀ o k, Fin1 (W.w1 o k)
  w2 : ∀ c o k, Fin1 (W.w2 c o k)
  w3 : ∀ c o k, Fin1 (W.w3 c o k)
  pw : ∀ d c, Fin1 (W.pw d c)
  pb : ∀ d, Fin1 (W.pb d)

theorem Wts.Fins.lat {W : Wts} (h : W.Fins) (x : Fin 4096 → EReal) (hx : ∀ s, Fin1 (x s)) (d : Fin 64) (u : Fin 512) :
    Fin1 (W.lat x d u) := by
  have h1 : ∀ o t, Fin1 (c1 x W.w1 o t) := fun o t =>
    Fin1.lk (Fin1.sum _ _ fun k => (Fin1.pd _ _ _ hx).mul (h.w1 o k))
  have h2 : ∀ c t, Fin1 (c2 (c1 x W.w1) W.w2 c t) := fun c t =>
    Fin1.lk (Fin1.sum _ _ fun k => Fin1.sum _ _ fun o => (Fin1.pd _ _ _ (h1 o)).mul (h.w2 c o k))
  have h3 : ∀ c t, Fin1 (c3 (c2 (c1 x W.w1) W.w2) W.w3 c t) := fun c t =>
    Fin1.lk (Fin1.sum _ _ fun k => Fin1.sum _ _ fun o => (Fin1.pd _ _ _ (h2 o)).mul (h.w3 c o k))
  exact (Fin1.sum _ _ fun c => (h3 c u).mul (h.pw d c)).add (h.pb d)

end Cert.Spec
-- ==== Proof.Own.Pre.lean ====
/- What the precondition says: every element of the signal and of the encoder's weights is finite. -/
module

public import proofs.«01_k».proof.Pre_finite_latents
public import proofs.«01_k».proof.Proof.Own.Finite
public import Idealize.ShloMosaic.Lib.ReduceAll

@[expose] public section

set_option maxRecDepth 16384

noncomputable section

namespace Cert.Pre_finite_latents

open Cert.Spec Idealize.ShloMosaic

instance facts : Facts where
  bcast_S_S64x1x4096 := by decide
  reducesTo_S64x1x4096_S_d0_1_2 := by decide
  h_S_ := by decide
  bcast_S_S64x1x16 := by decide
  reducesTo_S64x1x16_S_d0_1_2 := by decide
  bcast_S_S128x64x8 := by decide
  reducesTo_S128x64x8_S_d0_1_2 := by decide
  bcast_S_S128x128x4 := by decide
  reducesTo_S128x128x4_S_d0_1_2 := by decide
  bcast_S_S64x128x1 := by decide
  reducesTo_S64x128x1_S_d0_1_2 := by decide
  bcast_S_S64 := by decide
  reducesTo_S64_S_d0 := by decide

theorem inf_bits : Ideal.ofBits .f32 0x7F800000#32 = (⊤ : EReal) := by
  simp [Ideal.ofBits, Ideal.ieee]

theorem and_one (a b : BitVec 1) : a &&& b = 1#1 → a = 1#1 ∧ b = 1#1 := by revert a b; decide

instance : Subsingleton S_.Idx := ⟨fun a b => funext fun i => i.elim0⟩

/-- One conjunct of the precondition, element by element. -/
theorem all_fin {s : Shape} {axes : List (Fin s.rank)} (X : FVec Ideal s .f32) (hb : S_.BroadcastsInDim s ![]) (hr : s.ReducesTo axes S_)
    (h0 : 0 < S_.numel) (j : S_.Idx)
    (h : Host.reduce IntOp.andi (cmpf .olt (Host.absf X) (broadcastInDim s ![] hb (constant S_ .f32 0x7F800000#32))) (constantI S_ 1 1#1) hr h0 j = 1#1)
    (i : s.Idx) : Fin1 (X i) := by
  have g := Host.reduce_andi_all _ _ hr h0 j h i
  refine Fin1.of_lt ?_
  have e : (cmpf .olt (Host.absf X) (broadcastInDim s ![] hb (constant S_ .f32 0x7F800000#32))) i
      = Ideal.cmp .olt (max (X i) (-X i)) (Ideal.ofBits .f32 0x7F800000#32) := rfl
  rw [e, inf_bits] at g
  by_contra hn
  simp [Ideal.cmp, hn] at g

theorem read {x : FVec Ideal S64x1x4096 .f32} {w1 : FVec Ideal S64x1x16 .f32} {w2 : FVec Ideal S128x64x8 .f32} {w3 : FVec Ideal S128x128x4 .f32}
    {pw : FVec Ideal S64x128x1 .f32} {pb : FVec Ideal S64 .f32} {e : FVec Ideal S1024x64 .f32}
    (h : fn (F := Ideal) x w1 w2 w3 pw pb e = fun _ => 1#1) :
    (∀ i, Fin1 (x i)) ∧ (∀ i, Fin1 (w1 i)) ∧ (∀ i, Fin1 (w2 i)) ∧ (∀ i, Fin1 (w3 i)) ∧ (∀ i, Fin1 (pw i)) ∧ (∀ i, Fin1 (pb i)) := by
  have h := congrFun h (fun a => a.elim0)
  obtain ⟨h, a5⟩ := and_one _ _ h
  obtain ⟨h, a4⟩ := and_one _ _ h
  obtain ⟨h, a3⟩ := and_one _ _ h
  obtain ⟨h, a2⟩ := and_one _ _ h
  obtain ⟨a0, a1⟩ := and_one _ _ h
  exact ⟨all_fin x _ _ _ _ a0, all_fin w1 _ _ _ _ a1, all_fin w2 _ _ _ _ a2, all_fin w3 _ _ _ _ a3, all_fin pw _ _ _ _ a4, all_fin pb _ _ _ _ a5⟩

end Cert.Pre_finite_latents
-- ==== Proof.Own.KernelValue.lean ====
/- The encoder and the quantizer: what the kernel leaves is what the reference computes from the same arguments. -/
module

public import proofs.«01_k».proof.Defs
public import proofs.«01_k».proof.Proof.Own.KerValue
public import proofs.«01_k».proof.Proof.Own.RefRun
public import proofs.«01_k».proof.Proof.Own.RefRead
public import proofs.«01_k».proof.Proof.Own.RefHot
public import proofs.«01_k».proof.Proof.Own.RefConv
public import proofs.«01_k».proof.Proof.Own.Pre

@[expose] public section

set_option maxRecDepth 16384

noncomputable section

namespace Cert.Own

open Idealize.ShloMosaic Idealize.ShloMosaic.TcCoe Idealize.SL.Sem Idealize.ShloMosaic.StableHlo Idealize.ShloMosaic.Tactic Cert.Spec
open Cert.KernelIdeal.Own (latOf codeOf sigOf wtsOf tallyOf errOf)
open Cert.ReferenceIdeal.Own (latentsOf codesOf hots at3 at2 latents latents_at encd chosen tally sqErr encd_at tally_at sqErr_at)

variable (m : (ℓ : Loc Cert.KernelIdeal.nD Cert.KernelIdeal.τ Cert.KernelIdeal.sig) → Buf (Elt Ideal) ℓ) (c : Dev Cert.KernelIdeal.nD)

/-- The latents the reference computes from the kernel's arguments. -/
def lats : FVec Ideal Cert.ReferenceIdeal.S64x512x64 .f32 :=
  latents (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))

/-- The kernel's codes. -/
def cods : FVec Ideal Cert.ReferenceIdeal.S1024x64 .f32 := m ((c.tc : Thread _ _).loc Cert.KernelIdeal.main_arg6)

/-- Row `(n, u)` of the reference's latents is the kernel's. -/
theorem lats_at (n : Fin 64) (u : Fin 512) : at3 (lats m c) n u = latOf m c n u :=
  funext fun d => latents_at _ _ _ _ _ _ n u d

theorem cods_at : at2 (cods m c) = codeOf m c := rfl

/-- The code counts are the reference's. -/
theorem counts_eq : tally (hots (lats m c) (cods m c)) = (Cert.KernelIdeal.Own.dats m 0 c).arrAt 10 Cert.KernelIdeal.cfg0.N := by
  rw [Cert.KernelIdeal.Own.counts]
  funext j
  obtain ⟨k, rfl⟩ : ∃ k : Fin 1024, j = ix2 k 0 := ⟨j 0, by idx_vars j; rw [Subsingleton.elim j1 0]⟩
  refine (tally_at _ _ k).trans (Finset.sum_congr rfl fun n _ => ?_)
  simp only [lats_at, cods_at]
  rfl

/-- The squared error is the reference's. -/
theorem errors_eq : sqErr (lats m c) (chosen (hots (lats m c) (cods m c)) (cods m c))
    = (Cert.KernelIdeal.Own.dats m 0 c).arrAt 11 Cert.KernelIdeal.cfg0.N := by
  rw [Cert.KernelIdeal.Own.errors]
  funext j
  obtain rfl : j = ix2 0 0 := by idx_vars j; rw [Subsingleton.elim j0 0, Subsingleton.elim j1 0]
  refine (sqErr_at _ _).trans (Finset.sum_congr rfl fun n _ => ?_)
  simp only [lats_at, cods_at]
  exact Finset.sum_comm

/-- Under the precondition the latents are finite. -/
theorem lats_fin (h : Cert.Pre_KernelIdeal_finite_latents m) (n : Fin 64) (u : Fin 512) (d : Fin 64) : Fin1 (latOf m c n u d) := by
  obtain ⟨h0, h1, h2, h3, h4, h5⟩ := Cert.Pre_finite_latents.read (h c)
  exact Wts.Fins.lat ⟨fun o k => h1 _, fun a o k => h2 _, fun a o k => h3 _, fun d a => h4 _, fun d => h5 _⟩ _ (fun s => h0 _) d u

/-- The encoded array is the reference's. -/
theorem encoded_eq (h : Cert.Pre_KernelIdeal_finite_latents m) :
    encd (lats m c) (chosen (hots (lats m c) (cods m c)) (cods m c)) = (Cert.KernelIdeal.Own.dats m 0 c).arrAt 9 Cert.KernelIdeal.cfg0.N := by
  funext j
  idx_vars j
  obtain ⟨x, hx⟩ := lats_fin m c h j0 j2 j1
  refine (encd_at _ _ j0 j2 j1 x ((congrFun (lats_at m c j0 j2) j1).trans hx)).trans ?_
  rw [lats_at, cods_at]
  exact (Cert.KernelIdeal.Own.codes m c j0 j1 j2).symm

/-- The encoder and the quantizer: on finite data and weights the kernel's three results are the reference's. -/
theorem kernel_value : Cert.algebraic_KernelIdeal_ReferenceIdeal_pre_finite_latents := by
  intro m g m' g' hp hagree
  refine ⟨fun c => (Cert.KernelIdeal.Own.dats m 0 c).arrAt 9 Cert.KernelIdeal.cfg0.N,
    fun c => (Cert.KernelIdeal.Own.dats m 0 c).arrAt 10 Cert.KernelIdeal.cfg0.N,
    fun c => (Cert.KernelIdeal.Own.dats m 0 c).arrAt 11 Cert.KernelIdeal.cfg0.N, Cert.KernelIdeal.Own.run_named m g,
    θ_run_mono (Cert.ReferenceIdeal.Own.run_ops m' g') fun r h c => ?_⟩
  obtain ⟨e0, e1, e2, e3, e4, e5, e6⟩ := hagree c
  have hz : latentsOf (launchContents m' c) = lats m c := by
    show latents _ _ _ _ _ _ = latents _ _ _ _ _ _
    exact e0 ▸ e1 ▸ e2 ▸ e3 ▸ e4 ▸ e5 ▸ rfl
  have he : codesOf (launchContents m' c) = cods m c := e6
  refine ⟨?_, ?_, ?_, ?_⟩
  · rw [h c, Cert.ReferenceIdeal.Own.read215, hz, he]
    exact encoded_eq m c hp
  · rw [h c, Cert.ReferenceIdeal.Own.read217, hz, he]
    exact counts_eq m c
  · rw [h c, Cert.ReferenceIdeal.Own.read218, hz, he]
    exact errors_eq m c
  · have k : ∀ a ∈ Cert.ReferenceIdeal.Own.args, r.2.mem ((c.tc : Thread Cert.ReferenceIdeal.nD Cert.ReferenceIdeal.τ).loc a)
        = m' ((c.tc : Thread Cert.ReferenceIdeal.nD Cert.ReferenceIdeal.τ).loc a) :=
      fun a ha => (h c a).trans (Cert.ReferenceIdeal.Own.arg_kept _ ha)
    exact ⟨k _ (by simp [Cert.ReferenceIdeal.Own.args]), k _ (by simp [Cert.ReferenceIdeal.Own.args]),
      k _ (by simp [Cert.ReferenceIdeal.Own.args]), k _ (by simp [Cert.ReferenceIdeal.Own.args]),
      k _ (by simp [Cert.ReferenceIdeal.Own.args]), k _ (by simp [Cert.ReferenceIdeal.Own.args]),
      k _ (by simp [Cert.ReferenceIdeal.Own.args])⟩

end Cert.Own
-- ==== Proof.Own.DecModel.lean ====
/- The decoder's body told once for a general image: four scratch arrays of padded rows, each filled from the one before. -/
module

public import proofs.«01_k».proof.Proof.Gen.DecIdeal.Frame

@[expose] public section

set_option maxRecDepth 16384

noncomputable section

namespace Cert.DecIdeal.Own

open Cert.DecIdeal Cert.DecIdeal.Gen
open Idealize.ShloMosaic Idealize.ShloMosaic.TcCoe Idealize.ShloMosaic.Tactic

variable {F : FTy → Type} [FloatOps F]

/-- A scratch array of `h` padded rows for each of eight images, and the rows of one image without the padding. -/
abbrev Sc (h : ℕ) : Shape := ⟨3, ![8, h, 514]⟩
abbrev Sl (h : ℕ) : Shape := ⟨3, ![1, h, 512]⟩

/-- The stores into a scratch array, the newest first, and how it is read after some stores. -/
abbrev Pcs (F : FTy → Type) (h : ℕ) : Type := List (View.Piece (Elt F) (Sc h) .f32)
abbrev Rd (F : FTy → Type) (h : ℕ) : Type := Pcs F h → (r : LoadRect (Sc h)) → r.shape.Idx → Elt F .f32

theorem inb_s (h : ℕ) (i : Fin 8) (o : ℕ) (h2 : o + 512 ≤ 514) :
    ∀ a, (![i.val, 0, o] : Fin 3 → ℕ) a + (![1, h, 512] : Fin 3 → ℕ) a ≤ (Sc h).size a := by
  have := i.isLt
  intro a; fin_cases a <;> simp <;> omega

/-- All rows of an image, 512 columns from `o` on. -/
abbrev box (h : ℕ) (i : Fin 8) (o : ℕ) (h2 : o + 512 ≤ 514) : Rect (Sc h) :=
  Rect.unit (s := Sc h) ![i.val, 0, o] (Sl h).size (inb_s h i o h2)

/-- The stores of the first `n` images. -/
def lst {h : ℕ} (w : ℕ → Vec F (Sl h) .f32) (L : Pcs F h) : ℕ → Pcs F h
  | 0 => L
  | n + 1 => ⟨box h (Fin.ofNat 8 n) 1 (by omega), w n⟩ :: lst w L n

/-- How the four scratch arrays are read: `E` the boxes that touch an edge column, `J` the other one; and the stores before the first image. -/
structure Rds (F : FTy → Type) where
  E0 : Rd F 64
  J0 : Rd F 64
  E1 : Rd F 128
  J1 : Rd F 128
  E2 : Rd F 256
  J2 : Rd F 256
  E3 : Rd F 256
  J3 : Rd F 256
  L0 : Pcs F 64
  L1 : Pcs F 128
  L2 : Pcs F 256
  L3 : Pcs F 256

theorem inb_i (i : Fin 8) : ∀ a, (![i.val, 0, 0] : Fin 3 → ℕ) a + S1x64x512.size a ≤ S8x64x512.size a := by
  have := i.isLt
  intro a; fin_cases a <;> simp [S8x64x512, S1x64x512] <;> omega
theorem inb_o (i : Fin 8) : ∀ a, (![i.val, 0, 0] : Fin 3 → ℕ) a + S1x8x512.size a ≤ S8x8x512.size a := by
  have := i.isLt
  intro a; fin_cases a <;> simp [S8x8x512, S1x8x512] <;> omega

/-- What the body loads from its inputs. -/
structure Inp (F : FTy → Type) where
  x : (r : LoadRect S8x64x512) → r.shape.Idx → Elt F .f32
  w0 : Vec F S128x192 .f32
  b0 : Vec F S128x1 .f32
  w1 : Vec F S256x384 .f32
  w2 : Vec F S256x768 .f32
  w3 : Vec F S8x768 .f32

namespace Inp

variable (I : Inp F) (R : Rds F)

/-- What image `n` stores into the four scratch arrays and into the result. -/
def p0 (n : ℕ) : Vec F (Sl 64) .f32 :=
  k0_pay11 (I.x (Rect.unit (s := S8x64x512) ![(Fin.ofNat 8 n).val, 0, 0] S1x64x512.size (inb_i _)).toLoadRect)
def p1 (n : ℕ) : Vec F (Sl 128) .f32 :=
  k0_pay12 (R.E0 (lst I.p0 R.L0 (n + 1)) (box 64 (Fin.ofNat 8 n) 0 (by omega)).toLoadRect)
    (R.J0 (lst I.p0 R.L0 (n + 1)) (box 64 (Fin.ofNat 8 n) 1 (by omega)).toLoadRect)
    (R.E0 (lst I.p0 R.L0 (n + 1)) (box 64 (Fin.ofNat 8 n) 2 (by omega)).toLoadRect) I.w0 I.b0
def p2 (n : ℕ) : Vec F (Sl 256) .f32 :=
  k0_pay14 (k0_pay13 (R.E1 (lst (I.p1 R) R.L1 (n + 1)) (box 128 (Fin.ofNat 8 n) 0 (by omega)).toLoadRect))
    (R.J1 (lst (I.p1 R) R.L1 (n + 1)) (box 128 (Fin.ofNat 8 n) 1 (by omega)).toLoadRect)
    (R.E1 (lst (I.p1 R) R.L1 (n + 1)) (box 128 (Fin.ofNat 8 n) 2 (by omega)).toLoadRect) I.w1
def p3 (n : ℕ) : Vec F (Sl 256) .f32 :=
  k0_pay16 (k0_pay15 (R.E2 (lst (I.p2 R) R.L2 (n + 1)) (box 256 (Fin.ofNat 8 n) 0 (by omega)).toLoadRect)
    (R.J2 (lst (I.p2 R) R.L2 (n + 1)) (box 256 (Fin.ofNat 8 n) 1 (by omega)).toLoadRect)
    (R.E2 (lst (I.p2 R) R.L2 (n + 1)) (box 256 (Fin.ofNat 8 n) 2 (by omega)).toLoadRect) I.w2)
def p4 (n : ℕ) : Vec F S1x8x512 .f32 :=
  k0_pay17 (R.E3 (lst (I.p3 R) R.L3 (n + 1)) (box 256 (Fin.ofNat 8 n) 0 (by omega)).toLoadRect)
    (R.J3 (lst (I.p3 R) R.L3 (n + 1)) (box 256 (Fin.ofNat 8 n) 1 (by omega)).toLoadRect)
    (R.E3 (lst (I.p3 R) R.L3 (n + 1)) (box 256 (Fin.ofNat 8 n) 2 (by omega)).toLoadRect) I.w3

end Inp

/-- The stores of the first `n` images into the result. -/
def lsto (w : ℕ → Vec F S1x8x512 .f32) : ℕ → List (View.Piece (Elt F) S8x8x512 .f32)
  | 0 => []
  | n + 1 => ⟨Rect.unit (s := S8x8x512) ![(Fin.ofNat 8 n).val, 0, 0] S1x8x512.size (inb_o _), w n⟩ :: lsto w n

/-- The zero edge columns the first point stores. -/
def edges0 : Pcs F 64 := [⟨Rect.unit (s := S8x64x514) ![0, 0, 513] S8x64x1.size inb_S8x64x514_S8x64x1_0_0_513, k0_pay3⟩,
  ⟨Rect.unit (s := S8x64x514) ![0, 0, 0] S8x64x1.size inb_S8x64x514_S8x64x1_0_0_0, k0_pay2⟩]
def edges1 : Pcs F 128 := [⟨Rect.unit (s := S8x128x514) ![0, 0, 513] S8x128x1.size inb_S8x128x514_S8x128x1_0_0_513, k0_pay5⟩,
  ⟨Rect.unit (s := S8x128x514) ![0, 0, 0] S8x128x1.size inb_S8x128x514_S8x128x1_0_0_0, k0_pay4⟩]
def edges2 : Pcs F 256 := [⟨Rect.unit (s := S8x256x514) ![0, 0, 513] S8x256x1.size inb_S8x256x514_S8x256x1_0_0_513, k0_pay7⟩,
  ⟨Rect.unit (s := S8x256x514) ![0, 0, 0] S8x256x1.size inb_S8x256x514_S8x256x1_0_0_0, k0_pay6⟩]
def edges3 : Pcs F 256 := [⟨Rect.unit (s := S8x256x514) ![0, 0, 513] S8x256x1.size inb_S8x256x514_S8x256x1_0_0_513, k0_pay10⟩,
  ⟨Rect.unit (s := S8x256x514) ![0, 0, 0] S8x256x1.size inb_S8x256x514_S8x256x1_0_0_0, k0_pay9 k0_pay8⟩]

/-- A scratch array read where the stores cover it, and one read over older contents. -/
def covRd {h : ℕ} (v : View sig .tc .vmem (Sc h) .f32) : Rd F h := fun L r => v.readCov L r
def overRd {h : ℕ} (v : View sig .tc .vmem (Sc h) .f32) (f : v.ty.Contents (Elt F)) : Rd F h :=
  fun L r => View.readAt (Elt F) v r (v.writes (Elt F) f L)

/-- The readers of the first point. -/
def rdA : Rds F := ⟨covRd scM0_0.view, covRd scM0_0.view, covRd scM0_1.view, covRd scM0_1.view,
  covRd scM0_2.view, covRd scM0_2.view, covRd scM0_3.view, covRd scM0_3.view, edges0, edges1, edges2, edges3⟩

/-- The readers of a later point, over what the point before left. -/
def rdB (s0 : Vec F S8x64x514 .f32) (s1 : Vec F S8x128x514 .f32) (s2 s3 : Vec F S8x256x514 .f32) : Rds F :=
  ⟨overRd scM0_0.view ((Memref.isWhole_whole cc0_scratch0).unread s0), covRd scM0_0.view,
   overRd scM0_1.view ((Memref.isWhole_whole cc0_scratch1).unread s1), covRd scM0_1.view,
   overRd scM0_2.view ((Memref.isWhole_whole cc0_scratch2).unread s2), covRd scM0_2.view,
   overRd scM0_3.view ((Memref.isWhole_whole cc0_scratch3).unread s3), covRd scM0_3.view, [], [], [], []⟩

variable (m : (ℓ : Loc nD τ sig) → Buf (Elt F) ℓ)

/-- What point `t` loads. -/
def inpAt (c : Dev nD) (t : Fin cfg0.N) : Inp F where
  x := fun r => View.readAt (Elt F) (ms0_0 t).view r ((hs0_0 t).unread (iblk m c 0 t))
  w0 := View.readAt (Elt F) (ms0_1 t).view (Rect.unit (s := S128x192) ![0, 0] S128x192.size inb_S128x192_S128x192_0_0).toLoadRect ((hs0_1 t).unread (iblk m c 1 t))
  b0 := View.readAt (Elt F) (ms0_2 t).view (Rect.unit (s := S128x1) ![0, 0] S128x1.size inb_S128x1_S128x1_0_0).toLoadRect ((hs0_2 t).unread (iblk m c 2 t))
  w1 := View.readAt (Elt F) (ms0_3 t).view (Rect.unit (s := S256x384) ![0, 0] S256x384.size inb_S256x384_S256x384_0_0).toLoadRect ((hs0_3 t).unread (iblk m c 3 t))
  w2 := View.readAt (Elt F) (ms0_4 t).view (Rect.unit (s := S256x768) ![0, 0] S256x768.size inb_S256x768_S256x768_0_0).toLoadRect ((hs0_4 t).unread (iblk m c 4 t))
  w3 := View.readAt (Elt F) (ms0_5 t).view (Rect.unit (s := S8x768) ![0, 0] S8x768.size inb_S8x768_S8x768_0_0).toLoadRect ((hs0_5 t).unread (iblk m c 5 t))

/-- The stores of the body at the first point and at a later one. -/
abbrev RA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t)
abbrev RB (c : Dev nD) (t : Fin cfg0.N) (h0 : ¬ t.val % 8 = 0) (s0 : Vec F S8x64x514 .f32) (s1 : Vec F S8x128x514 .f32) (s2 s3 : Vec F S8x256x514 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) s0 s1 s2 s3

end Cert.DecIdeal.Own

end
-- ==== Proof.Own.DecBridge.lean ====
/- The printed body's stores are those of the general image. -/
module

public import proofs.«01_k».proof.Proof.Own.DecModel

@[expose] public section

set_option maxRecDepth 16384

noncomputable section

namespace Cert.DecIdeal.Own

open Cert.DecIdeal Cert.DecIdeal.Gen
open Idealize.ShloMosaic Idealize.ShloMosaic.TcCoe Idealize.ShloMosaic.Tactic

variable {F : FTy → Type} [FloatOps F] (m : (ℓ : Loc nD τ sig) → Buf (Elt F) ℓ)
  (c : Dev nD) (t : Fin cfg0.N)

theorem runA_0 (h : t.val % 8 = 0) : (RA m c t h).2.1 = lst (inpAt m c t).p0 edges0 8 := by
  sl_kernel_rfl
theorem runA_1 (h : t.val % 8 = 0) : (RA m c t h).2.2.1 = lst ((inpAt m c t).p1 rdA) edges1 8 := by
  sl_kernel_rfl
theorem runA_2 (h : t.val % 8 = 0) : (RA m c t h).2.2.2.1 = lst ((inpAt m c t).p2 rdA) edges2 8 := by
  sl_kernel_rfl
theorem runA_3 (h : t.val % 8 = 0) : (RA m c t h).2.2.2.2.1 = lst ((inpAt m c t).p3 rdA) edges3 8 := by
  sl_kernel_rfl
theorem runA_out (h : t.val % 8 = 0) : (RA m c t h).1 = lsto ((inpAt m c t).p4 rdA) 8 := by
  sl_kernel_rfl

variable (s0 : Vec F S8x64x514 .f32) (s1 : Vec F S8x128x514 .f32) (s2 s3 : Vec F S8x256x514 .f32)

theorem runB_0 (h : ¬ t.val % 8 = 0) : (RB m c t h s0 s1 s2 s3).2.1 = lst (inpAt m c t).p0 [] 8 := by
  sl_kernel_rfl
theorem runB_1 (h : ¬ t.val % 8 = 0) : (RB m c t h s0 s1 s2 s3).2.2.1 = lst ((inpAt m c t).p1 (rdB s0 s1 s2 s3)) [] 8 := by
  sl_kernel_rfl
theorem runB_2 (h : ¬ t.val % 8 = 0) : (RB m c t h s0 s1 s2 s3).2.2.2.1 = lst ((inpAt m c t).p2 (rdB s0 s1 s2 s3)) [] 8 := by
  sl_kernel_rfl
theorem runB_3 (h : ¬ t.val % 8 = 0) : (RB m c t h s0 s1 s2 s3).2.2.2.2.1 = lst ((inpAt m c t).p3 (rdB s0 s1 s2 s3)) [] 8 := by
  sl_kernel_rfl
theorem runB_out (h : ¬ t.val % 8 = 0) : (RB m c t h s0 s1 s2 s3).1 = lsto ((inpAt m c t).p4 (rdB s0 s1 s2 s3)) 8 := by
  sl_kernel_rfl

end Cert.DecIdeal.Own

end
-- ==== Proof.Own.DecScratch.lean ====
/- What the four scratch arrays hold: the rows stored, between two zero columns, whichever image is read. -/
module

public import proofs.«01_k».proof.Proof.Own.DecModel
public import Idealize.ShloMosaic.Lib.Pointwise
public import Idealize.ShloMosaic.Lib.WritesUnit

@[expose] public section

set_option maxRecDepth 16384

noncomputable section

namespace Cert.DecIdeal.Own

open Cert.DecIdeal Cert.DecIdeal.Gen
open Idealize.ShloMosaic Idealize.ShloMosaic.TcCoe Idealize.ShloMosaic.Tactic

variable {F : FTy → Type} [FloatOps F]

/-- The zero the edge columns hold. -/
abbrev zero : Elt F .f32 := (Scalar.ofBits .f32 0x00000000#32 : F .f32)

/-- The edge columns. -/
def edge {h : ℕ} (y : (Sc h).Idx) : Prop := (y 2).val = 0 ∨ (y 2).val = 513

/-- The rows `w` of the eight images, each between two zero columns. -/
def full {h : ℕ} (w : ℕ → Vec F (Sl h) .f32) : Vec F (Sc h) .f32 := fun y =>
  if hh : 1 ≤ (y 2).val ∧ (y 2).val ≤ 512 then w (y 0).val (ix3 0 (y 1) ⟨(y 2).val - 1, by omega⟩) else zero

section
variable {h : ℕ} (v : View sig .tc .vmem (Sc h) .f32) (f : v.ty.Contents (Elt F)) (w : ℕ → Vec F (Sl h) .f32) (L : Pcs F h)

theorem read_edge (y : (Sc h).Idx) (e : edge y) : ∀ n,
    v.read (Elt F) (v.writes (Elt F) f (lst w L n)) y = v.read (Elt F) (v.writes (Elt F) f L) y
  | 0 => rfl
  | n + 1 => (View.read_writes_cons_unit_of_not_mem v f _ _ _ y rfl 2 (by
      show (y 2).val < 1 ∨ 1 + 512 ≤ (y 2).val
      unfold edge at e; omega)).trans (read_edge y e n)

theorem read_in (y : (Sc h).Idx) (n : ℕ) (hn : n < 8) (h0 : (y 0).val = n) (e : ¬ edge y) :
    v.read (Elt F) (v.writes (Elt F) f (lst w L (n + 1))) y = full w y := by
  have hz : (y 2).val < 514 := (y 2).isLt
  unfold edge at e
  unfold full
  rw [dif_pos (by omega), h0]
  refine View.read_writes_cons_unit_of_mem v f _ _ _ y (ix3 0 (y 1) ⟨(y 2).val - 1, by omega⟩) rfl fun a => ?_
  match a with
  | ⟨0, _⟩ => show (y 0).val = (Fin.ofNat 8 n).val + 0; rw [h0]; exact (Nat.mod_eq_of_lt hn).symm
  | ⟨1, _⟩ => show (y 1).val = 0 + (y 1).val; omega
  | ⟨2, _⟩ => show (y 2).val = 1 + ((y 2).val - 1); omega

/-- Old contents and first stores that leave the edge columns zero. -/
def Clean : Prop := ∀ y : (Sc h).Idx, edge y → v.read (Elt F) (v.writes (Elt F) f L) y = zero

variable {f L}

theorem read_all (cl : Clean v f L) (y : (Sc h).Idx) (n : ℕ) (hn : n < 8) (h0 : (y 0).val = n) :
    v.read (Elt F) (v.writes (Elt F) f (lst w L (n + 1))) y = full w y := by
  by_cases e : edge y
  · rw [read_edge v f w L y e, cl y e]
    unfold full
    rw [dif_neg]
    unfold edge at e; omega
  · exact read_in v f w L y n hn h0 e

/-- A reader sees image `n`'s rows between zero columns, through the boxes the body reads. -/
def Sees (R : (r : LoadRect (Sc h)) → r.shape.Idx → Elt F .f32) (n : ℕ) (o : ℕ) (ho : o + 512 ≤ 514) : Prop :=
  ∀ (r : Fin h) (u : Fin 512), R (box h (Fin.ofNat 8 n) o ho).toLoadRect (ix3 0 r u)
    = full w (ix3 (Fin.ofNat 8 n) r ⟨u.val + o, by omega⟩)

theorem box_idx (n o : ℕ) (ho : o + 512 ≤ 514) (r : Fin h) (u : Fin 512) :
    (box h (Fin.ofNat 8 n) o ho).toLoadRect.idx (ix3 0 r u) = (ix3 (Fin.ofNat 8 n) r ⟨u.val + o, by omega⟩ : (Sc h).Idx) := by
  funext a
  apply Fin.ext
  match a with
  | ⟨0, _⟩ => show (Fin.ofNat 8 n).val + 1 * 0 = (Fin.ofNat 8 n).val; omega
  | ⟨1, _⟩ => show 0 + 1 * r.val = r.val; omega
  | ⟨2, _⟩ => show o + 1 * u.val = u.val + o; omega

theorem sees_over (cl : Clean v f L) (n : ℕ) (hn : n < 8) (o : ℕ) (ho : o + 512 ≤ 514) :
    Sees w (overRd v f (lst w L (n + 1))) n o ho := by
  intro r u
  show v.read (Elt F) (v.writes (Elt F) f (lst w L (n + 1))) ((box h (Fin.ofNat 8 n) o ho).toLoadRect.idx (ix3 0 r u)) = _
  rw [box_idx, read_all v w cl _ n hn (Nat.mod_eq_of_lt hn)]

theorem sees_cov (cl : Clean v v.junk L) (n : ℕ) (hn : n < 8) (o : ℕ) (ho : o + 512 ≤ 514) :
    Sees w (covRd v (lst w L (n + 1))) n o ho := by
  exact sees_over v w cl n hn o ho

theorem sees_mid (n : ℕ) (hn : n < 8) : Sees w (covRd v (lst w L (n + 1))) n 1 (by omega) := by
  intro r u
  show v.read (Elt F) (v.writes (Elt F) _ (lst w L (n + 1))) ((box h (Fin.ofNat 8 n) 1 (by omega)).toLoadRect.idx (ix3 0 r u)) = _
  rw [box_idx]
  refine read_in v _ w L _ n hn (Nat.mod_eq_of_lt hn) ?_
  show ¬ (u.val + 1 = 0 ∨ u.val + 1 = 513)
  omega

end

/-- Two columns of zeros stored first make the edges zero. -/
theorem clean_edges {h : ℕ} (v : View sig .tc .vmem (Sc h) .f32) (f : v.ty.Contents (Elt F))
    (a b : Vec F ⟨3, ![8, h, 1]⟩ .f32) (ha : ∀ y, a y = zero) (hb : ∀ y, b y = zero) (i1) (i2) :
    Clean v f [⟨Rect.unit (s := Sc h) ![0, 0, 513] ![8, h, 1] i1, a⟩, ⟨Rect.unit (s := Sc h) ![0, 0, 0] ![8, h, 1] i2, b⟩] := by
  intro y e
  by_cases c : (y 2).val = 513
  · refine (View.read_writes_cons_unit_of_mem v f _ _ _ y (ix3 (y 0) (y 1) 0) rfl fun a => ?_).trans (ha _)
    match a with
    | ⟨0, _⟩ => show (y 0).val = 0 + (y 0).val; omega
    | ⟨1, _⟩ => show (y 1).val = 0 + (y 1).val; omega
    | ⟨2, _⟩ => show (y 2).val = 513 + 0; omega
  · refine (View.read_writes_cons_unit_of_not_mem v f _ _ _ y rfl 2 (by
      show (y 2).val < 513 ∨ 513 + 1 ≤ (y 2).val
      have : (y 2).val < 514 := (y 2).isLt
      omega)).trans ?_
    refine (View.read_writes_cons_unit_of_mem v f _ _ _ y (ix3 (y 0) (y 1) 0) rfl fun a => ?_).trans (hb _)
    unfold edge at e
    match a with
    | ⟨0, _⟩ => show (y 0).val = 0 + (y 0).val; omega
    | ⟨1, _⟩ => show (y 1).val = 0 + (y 1).val; omega
    | ⟨2, _⟩ => show (y 2).val = 0 + 0; omega

theorem clean0 (v : View sig .tc .vmem (Sc 64) .f32) (f : v.ty.Contents (Elt F)) : Clean v f edges0 :=
  clean_edges v f k0_pay3 k0_pay2 (fun _ => rfl) (fun _ => rfl) _ _
theorem clean1 (v : View sig .tc .vmem (Sc 128) .f32) (f : v.ty.Contents (Elt F)) : Clean v f edges1 :=
  clean_edges v f k0_pay5 k0_pay4 (fun _ => rfl) (fun _ => rfl) _ _
theorem clean2 (v : View sig .tc .vmem (Sc 256) .f32) (f : v.ty.Contents (Elt F)) : Clean v f edges2 :=
  clean_edges v f k0_pay7 k0_pay6 (fun _ => rfl) (fun _ => rfl) _ _
theorem clean3 (v : View sig .tc .vmem (Sc 256) .f32) (f : v.ty.Contents (Elt F)) : Clean v f edges3 :=
  clean_edges v f k0_pay10 (k0_pay9 k0_pay8) (fun _ => rfl) (fun _ => rfl) _ _

end Cert.DecIdeal.Own

end
-- ==== Proof.Own.DecSpec.lean ====
/- The decoder as mathematics on extended reals: rows spread apart by zeros, transposed convolutions, and how a transposed
   convolution splits by the phase of its output position. -/
module

public import proofs.«01_k».proof.Proof.Own.Spec

@[expose] public section

noncomputable section

namespace Cert.Spec

open Idealize.ShloMosaic

/-- A row with `p` zeros before it and one zero between any two entries. -/
def dil {L : ℕ} (p : ℕ) (f : Fin L → EReal) (i : ℕ) : EReal :=
  if h : p ≤ i ∧ (i - p) % 2 = 0 ∧ (i - p) / 2 < L then f ⟨(i - p) / 2, h.2.2⟩ else 0

theorem dil_even {L : ℕ} (q : ℕ) (f : Fin L → EReal) (i : ℕ) :
    dil (2 * q) f i = if i % 2 = 0 then pd q f (i / 2) else 0 := by
  unfold dil pd
  by_cases h : i % 2 = 0
  · rw [if_pos h]
    by_cases hc : q ≤ i / 2 ∧ i / 2 - q < L
    · have hd : 2 * q ≤ i ∧ (i - 2 * q) % 2 = 0 ∧ (i - 2 * q) / 2 < L := by omega
      rw [dif_pos hc, dif_pos hd]; congr 1; ext; simp only; omega
    · have hd : ¬ (2 * q ≤ i ∧ (i - 2 * q) % 2 = 0 ∧ (i - 2 * q) / 2 < L) := by omega
      rw [dif_neg hc, dif_neg hd]
  · have hd : ¬ (2 * q ≤ i ∧ (i - 2 * q) % 2 = 0 ∧ (i - 2 * q) / 2 < L) := by omega
    rw [if_neg h, dif_neg hd]

/-- One output of a transposed convolution with `K` taps and stride two. -/
def up {C L : ℕ} (K : ℕ) (f : Fin C → Fin L → EReal) (w : Fin C → Fin K → EReal) (t : ℕ) : EReal :=
  ∑ k : Fin K, ∑ c : Fin C, dil (K / 2) (f c) (k.val + t) * w c k

/-- The tap that output phase `r` uses at input place `m`, or zero. -/
def ptap {K : ℕ} (w : Fin K → EReal) (r m : ℕ) : EReal := if h : r ≤ 2 * m ∧ 2 * m - r < K then w ⟨2 * m - r, h.2⟩ else 0

theorem sum_taps {K M q : ℕ} (hK : K = 4 * q) (hM : M = 3 * q) (g : Fin K → EReal) (r : ℕ) (hr : r < 2 * q) :
    (∑ k : Fin K, if (r + k.val) % 2 = 0 then g k else 0) = ∑ m : Fin M, ptap g r m.val := by
  have e1 : ∀ k : Fin K, (if (r + k.val) % 2 = 0 then g k else 0) = ∑ m : Fin M, if 2 * m.val = r + k.val then g k else 0 := by
    intro k
    have hk := k.isLt
    by_cases h : (r + k.val) % 2 = 0
    · rw [if_pos h, Finset.sum_eq_single (⟨(r + k.val) / 2, by omega⟩ : Fin M)]
      · rw [if_pos (by simp only; omega)]
      · intro m _ hm
        rw [if_neg]
        intro hc
        exact hm (Fin.ext (by simp only; omega))
      · intro hn; exact absurd (Finset.mem_univ _) hn
    · rw [if_neg h]
      exact (Finset.sum_eq_zero fun m _ => if_neg (by omega)).symm
  have e2 : ∀ m : Fin M, ptap g r m.val = ∑ k : Fin K, if 2 * m.val = r + k.val then g k else 0 := by
    intro m
    unfold ptap
    by_cases h : r ≤ 2 * m.val ∧ 2 * m.val - r < K
    · rw [dif_pos h, Finset.sum_eq_single (⟨2 * m.val - r, h.2⟩ : Fin K)]
      · rw [if_pos (by simp only; omega)]
      · intro k _ hk
        rw [if_neg]
        intro hc
        exact hk (Fin.ext (by simp only; omega))
      · intro hn; exact absurd (Finset.mem_univ _) hn
    · rw [dif_neg h]
      refine (Finset.sum_eq_zero fun k _ => if_neg ?_).symm
      have := k.isLt
      omega
  simp only [e1, e2]
  exact Finset.sum_comm

/-- At an output position of phase `r`, only every other tap meets an entry of the row. -/
theorem up_phase {C L K M q : ℕ} (hK : K = 4 * q) (hM : M = 3 * q) (f : Fin C → Fin L → EReal) (w : Fin C → Fin K → EReal)
    (r u : ℕ) (hr : r < 2 * q) :
    up K f w (2 * q * u + r) = ∑ m : Fin M, ∑ c : Fin C, pd q (f c) (q * u + m.val) * ptap (w c) r m.val := by
  have a1 : up K f w (2 * q * u + r) = ∑ k : Fin K, if (r + k.val) % 2 = 0
      then ∑ c : Fin C, pd q (f c) (q * u + (r + k.val) / 2) * w c k else 0 := by
    unfold up
    refine Finset.sum_congr rfl fun k _ => ?_
    have e : K / 2 = 2 * q := by omega
    have e' : k.val + (2 * q * u + r) = 2 * (q * u) + (r + k.val) := by rw [Nat.mul_assoc]; omega
    rw [e, e']
    simp only [dil_even]
    by_cases h : (r + k.val) % 2 = 0
    · have h' : (2 * (q * u) + (r + k.val)) % 2 = 0 := by omega
      have h'' : (2 * (q * u) + (r + k.val)) / 2 = q * u + (r + k.val) / 2 := by omega
      simp only [if_pos h, if_pos h', h'']
    · have h' : ¬ (2 * (q * u) + (r + k.val)) % 2 = 0 := by omega
      simp only [if_neg h, if_neg h', zero_mul, Finset.sum_const_zero]
  rw [a1, sum_taps hK hM _ r hr]
  refine Finset.sum_congr rfl fun m _ => ?_
  unfold ptap
  by_cases h : r ≤ 2 * m.val ∧ 2 * m.val - r < K
  · simp only [dif_pos h]
    have e : (r + (2 * m.val - r)) / 2 = m.val := by omega
    rw [e]
  · simp only [dif_neg h, mul_zero, Finset.sum_const_zero]

/-- A sum over rows laid out group by group. -/
theorem sum_groups {M C N : ℕ} (h : N = M * C) (F : ℕ → ℕ → EReal) :
    ∑ R : Fin N, F (R.val / C) (R.val % C) = ∑ m : Fin M, ∑ c : Fin C, F m.val c.val := by
  subst h
  rw [← Fintype.sum_prod_type']
  exact (finProdFinEquiv.symm.sum_comp fun p : Fin M × Fin C => F p.1.val p.2.val)

/-- The weights of the decoder; those of the transposed convolutions as they are given. -/
structure DWts where
  w0 : Fin 128 → Fin 64 → Fin 3 → EReal
  b0 : Fin 128 → EReal
  w1 : Fin 128 → Fin 128 → Fin 4 → EReal
  w2 : Fin 128 → Fin 64 → Fin 8 → EReal
  w3 : Fin 64 → Fin 1 → Fin 16 → EReal

variable (W : DWts) (x : Fin 64 → Fin 512 → EReal)

/-- The plain convolution. -/
def DWts.h0 (o : Fin 128) (t : Fin 512) : EReal := (∑ k : Fin 3, ∑ c : Fin 64, pd 1 (x c) (k.val + t.val) * W.w0 o c k) + W.b0 o
/-- The first and second transposed convolution with their rectifier. -/
def DWts.h1 (o : Fin 128) (t : Fin 1024) : EReal := lk (up 4 (W.h0 x) (fun c k => W.w1 c o k.rev) t.val)
def DWts.h2 (o : Fin 64) (t : Fin 2048) : EReal := lk (up 8 (W.h1 x) (fun c k => W.w2 c o k.rev) t.val)
/-- The last one, before the logistic function. -/
def DWts.h3 (t : Fin 4096) : EReal := up 16 (W.h2 x) (fun c k => W.w3 c 0 k.rev) t.val

end Cert.Spec
-- ==== Proof.Own.DecKer.lean ====
/- The decoder's body computes the decoder: each scratch array holds a row by phases, and the blocks loaded from it are the padded
   row at every place a phase uses. -/
module

public import proofs.«01_k».proof.Proof.Own.DecScratch
public import proofs.«01_k».proof.Proof.Own.DecSpec
public import Idealize.ShloMosaic.Lib.Pipeline.ValueKit

@[expose] public section

set_option maxRecDepth 16384

noncomputable section

namespace Cert.DecIdeal.Own

open Cert.DecIdeal Cert.DecIdeal.Gen Cert.Spec
open Idealize.ShloMosaic Idealize.ShloMosaic.TcCoe Idealize.ShloMosaic.Tactic

/-! ## Sums over the rows of three blocks -/

/-- Three blocks of `h` rows, one below the other, are the padded rows at every place. -/
theorem cat_rows {h C q L : ℕ} (hh : h = q * C) (hC : 0 < C) (f : Fin C → Fin L → EReal) (u : Fin 512) (a b c : Vec Ideal (Sl h) .f32)
    (ha : ∀ r : Fin h, a (ix3 0 r u) = pd q (f ⟨r.val % C, Nat.mod_lt _ hC⟩) (q * u.val + r.val / C))
    (hb : ∀ r : Fin h, b (ix3 0 r u) = pd q (f ⟨r.val % C, Nat.mod_lt _ hC⟩) (q * (u.val + 1) + r.val / C))
    (hc : ∀ r : Fin h, c (ix3 0 r u) = pd q (f ⟨r.val % C, Nat.mod_lt _ hC⟩) (q * (u.val + 2) + r.val / C))
    (ρ : ℕ) (hρ : ρ - h - h < h) :
    (if g : ρ < h then a (ix3 0 ⟨ρ, g⟩ u) else if g' : ρ - h < h then b (ix3 0 ⟨ρ - h, g'⟩ u) else c (ix3 0 ⟨ρ - h - h, hρ⟩ u))
      = pd q (f ⟨ρ % C, Nat.mod_lt _ hC⟩) (q * u.val + ρ / C) := by
  by_cases g : ρ < h
  · rw [dif_pos g, ha]
  · rw [dif_neg g]
    obtain ⟨σ, rfl⟩ : ∃ σ, ρ = σ + q * C := ⟨ρ - h, by omega⟩
    have e1 : σ + q * C - h = σ := by omega
    have e2 : (σ + q * C) % C = σ % C := Nat.add_mul_mod_self_right _ _ _
    have e3 : (σ + q * C) / C = σ / C + q := Nat.add_mul_div_right _ _ hC
    have e4 : q * (u.val + 1) = q * u.val + q := by rw [Nat.mul_succ]
    by_cases g' : σ < h
    · rw [dif_pos (by omega), hb]
      simp only [e1, e2, e3, e4]
      congr 1; omega
    · rw [dif_neg (by omega), hc]
      obtain ⟨τ, rfl⟩ : ∃ τ, σ = τ + q * C := ⟨σ - h, by omega⟩
      have e5 : τ + q * C - h = τ := by omega
      have e6 : (τ + q * C) % C = τ % C := Nat.add_mul_mod_self_right _ _ _
      have e7 : (τ + q * C) / C = τ / C + q := Nat.add_mul_div_right _ _ hC
      have e8 : q * (u.val + 2) = q * u.val + q + q := by rw [Nat.mul_add]; omega
      simp only [e1, e2, e3, e5, e6, e7, e8]
      congr 1; omega

/-- The sum over all rows, with the weights of one phase, is a transposed convolution at an output of that phase. -/
theorem sum_up {C L K M q N : ℕ} (hK : K = 4 * q) (hM : M = 3 * q) (hN : N = M * C) (hC : 0 < C) (f : Fin C → Fin L → EReal)
    (w : Fin C → Fin K → EReal) (r u : ℕ) (hr : r < 2 * q) :
    ∑ R : Fin N, ptap (w ⟨R.val % C, Nat.mod_lt _ hC⟩) r (R.val / C) * pd q (f ⟨R.val % C, Nat.mod_lt _ hC⟩) (q * u + R.val / C)
      = up K f w (2 * q * u + r) := by
  rw [up_phase hK hM f w r u hr]
  have e := sum_groups hN fun m c => if h : c < C then pd q (f ⟨c, h⟩) (q * u + m) * ptap (w ⟨c, h⟩) r m else 0
  simp only [dif_pos (Nat.mod_lt _ hC), Fin.is_lt, dif_pos] at e
  rw [← e]
  exact Finset.sum_congr rfl fun R _ => mul_comm _ _

/-- The same for a plain convolution with three taps. -/
theorem sum_plain {C L N : ℕ} (hN : N = 3 * C) (hC : 0 < C) (f : Fin C → Fin L → EReal) (w : Fin C → Fin 3 → EReal) (u : ℕ)
    (hR : ∀ R : Fin N, R.val / C < 3) :
    ∑ R : Fin N, w ⟨R.val % C, Nat.mod_lt _ hC⟩ ⟨R.val / C, hR R⟩ * pd 1 (f ⟨R.val % C, Nat.mod_lt _ hC⟩) (1 * u + R.val / C)
      = ∑ k : Fin 3, ∑ c : Fin C, pd 1 (f c) (k.val + u) * w c k := by
  have e := sum_groups hN fun m c => if h : c < C ∧ m < 3 then pd 1 (f ⟨c, h.1⟩) (m + u) * w ⟨c, h.1⟩ ⟨m, h.2⟩ else 0
  have e' : ∀ R : Fin N, (R.val % C < C ∧ R.val / C < 3) := fun R => ⟨Nat.mod_lt _ hC, hR R⟩
  have e'' : ∀ (m : Fin 3) (c : Fin C), (c.val < C ∧ m.val < 3) := fun m c => ⟨c.isLt, m.isLt⟩
  simp only [dif_pos (e' _), dif_pos (e'' _ _)] at e
  rw [← e]
  refine Finset.sum_congr rfl fun R _ => ?_
  rw [mul_comm, Nat.one_mul, Nat.add_comm]

/-! ## The payloads at an index -/

theorem pay11_at (a : Vec Ideal S1x64x512 .f32) (r : Fin 64) (u : Fin 512) : k0_pay11 a (ix3 0 r u) = a (ix3 0 r u) := by
  pointwise [k0_pay11]

theorem pay12_at (a b c : Vec Ideal S1x64x512 .f32) (w : Vec Ideal S128x192 .f32) (d : Vec Ideal S128x1 .f32) (x : Fin 128) (u : Fin 512) :
    k0_pay12 a b c w d (ix3 0 x u) = (∑ ρ : Fin 192, w (ix2 x ρ) * (if h : ρ.val < 64 then a (ix3 0 ⟨ρ.val, h⟩ u)
      else if h' : ρ.val - 64 < 64 then b (ix3 0 ⟨ρ.val - 64, h'⟩ u) else c (ix3 0 ⟨ρ.val - 64 - 64, by omega⟩ u))) + d (ix2 x 0) := by
  pointwise [k0_pay12]

theorem pay14_at (a b c : Vec Ideal S1x128x512 .f32) (w : Vec Ideal S256x384 .f32) (x : Fin 256) (u : Fin 512) :
    k0_pay14 (k0_pay13 a) b c w (ix3 0 x u) = lk (∑ ρ : Fin 384, w (ix2 x ρ) * (if h : ρ.val < 128 then a (ix3 0 ⟨ρ.val, h⟩ u)
      else if h' : ρ.val - 128 < 128 then b (ix3 0 ⟨ρ.val - 128, h'⟩ u) else c (ix3 0 ⟨ρ.val - 128 - 128, by omega⟩ u))) := by
  pointwise [k0_pay14, k0_pay13]
  rfl

theorem pay16_at (a b c : Vec Ideal S1x256x512 .f32) (w : Vec Ideal S256x768 .f32) (x : Fin 256) (u : Fin 512) :
    k0_pay16 (k0_pay15 a b c w) (ix3 0 x u) = lk (∑ ρ : Fin 768, w (ix2 x ρ) * (if h : ρ.val < 256 then a (ix3 0 ⟨ρ.val, h⟩ u)
      else if h' : ρ.val - 256 < 256 then b (ix3 0 ⟨ρ.val - 256, h'⟩ u) else c (ix3 0 ⟨ρ.val - 256 - 256, by omega⟩ u))) := by
  pointwise [k0_pay16, k0_pay15]
  rfl

theorem pay17_at (a b c : Vec Ideal S1x256x512 .f32) (w : Vec Ideal S8x768 .f32) (x : Fin 8) (u : Fin 512) :
    k0_pay17 a b c w (ix3 0 x u) = (FloatOps.logistic (∑ ρ : Fin 768, w (ix2 x ρ) * (if h : ρ.val < 256 then a (ix3 0 ⟨ρ.val, h⟩ u)
      else if h' : ρ.val - 256 < 256 then b (ix3 0 ⟨ρ.val - 256, h'⟩ u) else c (ix3 0 ⟨ρ.val - 256 - 256, by omega⟩ u))) : Ideal .f32) := by
  pointwise [k0_pay17]

/-! ## The rows of an image -/

/-- All four scratch arrays are seen as stored, between zero columns. -/
structure Good (I : Inp Ideal) (R : Rds Ideal) (n : ℕ) : Prop where
  a0 : Sees I.p0 (R.E0 (lst I.p0 R.L0 (n + 1))) n 0 (by omega)
  b0 : Sees I.p0 (R.J0 (lst I.p0 R.L0 (n + 1))) n 1 (by omega)
  c0 : Sees I.p0 (R.E0 (lst I.p0 R.L0 (n + 1))) n 2 (by omega)
  a1 : Sees (I.p1 R) (R.E1 (lst (I.p1 R) R.L1 (n + 1))) n 0 (by omega)
  b1 : Sees (I.p1 R) (R.J1 (lst (I.p1 R) R.L1 (n + 1))) n 1 (by omega)
  c1 : Sees (I.p1 R) (R.E1 (lst (I.p1 R) R.L1 (n + 1))) n 2 (by omega)
  a2 : Sees (I.p2 R) (R.E2 (lst (I.p2 R) R.L2 (n + 1))) n 0 (by omega)
  b2 : Sees (I.p2 R) (R.J2 (lst (I.p2 R) R.L2 (n + 1))) n 1 (by omega)
  c2 : Sees (I.p2 R) (R.E2 (lst (I.p2 R) R.L2 (n + 1))) n 2 (by omega)
  a3 : Sees (I.p3 R) (R.E3 (lst (I.p3 R) R.L3 (n + 1))) n 0 (by omega)
  b3 : Sees (I.p3 R) (R.J3 (lst (I.p3 R) R.L3 (n + 1))) n 1 (by omega)
  c3 : Sees (I.p3 R) (R.E3 (lst (I.p3 R) R.L3 (n + 1))) n 2 (by omega)

/-- The loaded weights are those of the decoder, laid out place by place and phase by phase. -/
structure Holds (W : DWts) (I : Inp Ideal) : Prop where
  w0 : ∀ (o : Fin 128) (R : Fin 192), I.w0 (ix2 o R) = W.w0 o ⟨R.val % 64, by omega⟩ ⟨R.val / 64, by omega⟩
  b0 : ∀ o : Fin 128, I.b0 (ix2 o 0) = W.b0 o
  w1 : ∀ (r : Fin 256) (R : Fin 384), I.w1 (ix2 r R)
    = ptap (fun k => W.w1 ⟨R.val % 128, by omega⟩ ⟨r.val % 128, by omega⟩ k.rev) (r.val / 128) (R.val / 128)
  w2 : ∀ (r : Fin 256) (R : Fin 768), I.w2 (ix2 r R)
    = ptap (fun k => W.w2 ⟨R.val % 128, by omega⟩ ⟨r.val % 64, by omega⟩ k.rev) (r.val / 64) (R.val / 128)
  w3 : ∀ (r : Fin 8) (R : Fin 768), I.w3 (ix2 r R) = ptap (fun k => W.w3 ⟨R.val % 64, by omega⟩ 0 k.rev) r.val (R.val / 64)

/-- A scratch array whose rows are a row by phases is that row padded. -/
theorem full_pd {h C q L : ℕ} (hh : h = q * C) (hL : L = q * 512) (hC : 0 < C) (f : Fin C → Fin L → EReal) (w : ℕ → Vec Ideal (Sl h) .f32) (n : ℕ)
    (hn : n < 8) (hw : ∀ (r : Fin h) (u : Fin 512) (b : q * u.val + r.val / C < L),
      w n (ix3 0 r u) = f ⟨r.val % C, Nat.mod_lt _ hC⟩ ⟨q * u.val + r.val / C, b⟩) (r : Fin h) (v : ℕ) (hv : v < 514) :
    full w (ix3 (Fin.ofNat 8 n) r ⟨v, hv⟩) = pd q (f ⟨r.val % C, Nat.mod_lt _ hC⟩) (q * v + r.val / C) := by
  have hd : r.val / C < q := Nat.div_lt_of_lt_mul (by rw [Nat.mul_comm, ← hh]; exact r.isLt)
  have hz : (zero : Elt Ideal .f32) = (0 : EReal) := by simp [zero, Scalar.ofBits, Ideal.ofBits, Ideal.ieee]
  have hw' := hw r
  generalize r.val / C = e at hd hw' ⊢
  show (if hh : 1 ≤ v ∧ v ≤ 512 then w (n % 8) (ix3 0 r ⟨v - 1, by omega⟩) else zero) = _
  unfold pd
  by_cases c : 1 ≤ v ∧ v ≤ 512
  · obtain ⟨s, rfl⟩ : ∃ s, v = s + 1 := ⟨v - 1, by omega⟩
    have e1 : q * (s + 1) = q * s + q := Nat.mul_succ q s
    have e2 : q * (s + 1) ≤ q * 512 := Nat.mul_le_mul_left q c.2
    rw [dif_pos c, dif_pos (by omega)]
    simp only [Nat.add_sub_cancel]
    rw [Nat.mod_eq_of_lt hn, hw' ⟨s, by omega⟩ (by show q * s + e < L; omega)]
    congr 1; ext; show q * s + e = q * (s + 1) + e - q; omega
  · rw [dif_neg c, dif_neg, hz]
    rcases (show v = 0 ∨ v = 513 by omega) with rfl | rfl <;> omega

section
variable (W : DWts) (I : Inp Ideal) (R : Rds Ideal) (H : Holds W I) (n : ℕ) (hn : n < 8) (G : Good I R n)
  (x : Fin 64 → Fin 512 → EReal) (hx : ∀ (r : Fin 64) (u : Fin 512), I.p0 n (ix3 0 r u) = x r u)
include H hn G hx

theorem p1_row (o : Fin 128) (u : Fin 512) : I.p1 R n (ix3 0 o u) = W.h0 x o u := by
  have fl := full_pd (q := 1) (C := 64) rfl rfl (by decide) x I.p0 n hn (fun r u b => by
    rw [hx]; congr 1 <;> (ext; simp only; omega))
  unfold Inp.p1 DWts.h0
  rw [pay12_at, H.b0, ← sum_plain (N := 192) rfl (by decide) x (W.w0 o) u.val (fun R => by omega)]
  refine congrArg (· + W.b0 o) (Finset.sum_congr rfl fun ρ _ => ?_)
  rw [H.w0]
  refine congrArg _ (cat_rows (h := 64) (C := 64) (q := 1) rfl (by decide) x u _ _ _
    (fun r => ?_) (fun r => ?_) (fun r => ?_) ρ.val (by omega))
  · rw [G.a0, fl]; rfl
  · rw [G.b0, fl]
  · rw [G.c0, fl]

theorem p2_row (r : Fin 256) (u : Fin 512) :
    I.p2 R n (ix3 0 r u) = W.h1 x ⟨r.val % 128, by omega⟩ ⟨2 * u.val + r.val / 128, by omega⟩ := by
  have fl := full_pd (q := 1) (C := 128) rfl rfl (by decide) (W.h0 x) (I.p1 R) n hn (fun r u b => by
    rw [p1_row W I R H n hn G x hx]; congr 1 <;> (ext; simp only; omega))
  unfold Inp.p2 DWts.h1
  rw [pay14_at]
  show lk _ = lk (up 4 (W.h0 x) _ (2 * 1 * u.val + r.val / 128))
  rw [← sum_up (q := 1) (M := 3) (N := 384) rfl rfl rfl (by decide) (W.h0 x) _ _ u.val (by omega)]
  refine congrArg lk (Finset.sum_congr rfl fun ρ _ => ?_)
  rw [H.w1]
  refine congrArg _ (cat_rows (h := 128) (C := 128) (q := 1) rfl (by decide) (W.h0 x) u _ _ _
    (fun r => ?_) (fun r => ?_) (fun r => ?_) ρ.val (by omega))
  · rw [G.a1, fl]; rfl
  · rw [G.b1, fl]
  · rw [G.c1, fl]

theorem p3_row (r : Fin 256) (u : Fin 512) :
    I.p3 R n (ix3 0 r u) = W.h2 x ⟨r.val % 64, by omega⟩ ⟨4 * u.val + r.val / 64, by omega⟩ := by
  have fl := full_pd (q := 2) (C := 128) rfl rfl (by decide) (W.h1 x) (I.p2 R) n hn (fun r u b => by
    rw [p2_row W I R H n hn G x hx])
  unfold Inp.p3 DWts.h2
  rw [pay16_at]
  show lk _ = lk (up 8 (W.h1 x) _ (2 * 2 * u.val + r.val / 64))
  rw [← sum_up (q := 2) (M := 6) (N := 768) rfl rfl rfl (by decide) (W.h1 x) _ _ u.val (by omega)]
  refine congrArg lk (Finset.sum_congr rfl fun ρ _ => ?_)
  rw [H.w2]
  refine congrArg _ (cat_rows (h := 256) (C := 128) (q := 2) rfl (by decide) (W.h1 x) u _ _ _
    (fun r => ?_) (fun r => ?_) (fun r => ?_) ρ.val (by omega))
  · rw [G.a2, fl]; rfl
  · rw [G.b2, fl]
  · rw [G.c2, fl]

theorem p4_row (r : Fin 8) (u : Fin 512) :
    I.p4 R n (ix3 0 r u) = (FloatOps.logistic (W.h3 x ⟨8 * u.val + r.val, by omega⟩) : Ideal .f32) := by
  have fl := full_pd (q := 4) (C := 64) rfl rfl (by decide) (W.h2 x) (I.p3 R) n hn (fun r u b => by
    rw [p3_row W I R H n hn G x hx])
  unfold Inp.p4 DWts.h3
  rw [pay17_at]
  refine congrArg (FloatOps.logistic (F := Ideal) (φ := .f32)) ?_
  show _ = up 16 (W.h2 x) _ (2 * 4 * u.val + r.val)
  rw [← sum_up (q := 4) (M := 12) (N := 768) rfl rfl rfl (by decide) (W.h2 x) _ _ u.val (by omega)]
  refine Finset.sum_congr rfl fun ρ _ => ?_
  rw [H.w3]
  refine congrArg _ (cat_rows (h := 256) (C := 64) (q := 4) rfl (by decide) (W.h2 x) u _ _ _
    (fun r => ?_) (fun r => ?_) (fun r => ?_) ρ.val (by omega))
  · rw [G.a3, fl]; rfl
  · rw [G.b3, fl]
  · rw [G.c3, fl]
end

end Cert.DecIdeal.Own

end
-- ==== Proof.Own.DecHost.lean ====
/- The weights the decoder's body loads, from the arguments: laid out tap by tap, the taps of a phase picked out by a table. -/
module

public import proofs.«01_k».proof.Proof.Own.DecScratch
public import proofs.«01_k».proof.Proof.Own.DecSpec
public import Idealize.ShloMosaic.Lib.Pipeline.ValueKit

@[expose] public section

set_option maxRecDepth 16384

noncomputable section

namespace Cert.DecIdeal.Own

open Cert.DecIdeal Cert.DecIdeal.Gen Cert.Spec
open Idealize.ShloMosaic Idealize.ShloMosaic.TcCoe Idealize.ShloMosaic.Tactic

/-- The plain convolution's weights, tap by tap. -/
def pre0 (w : FVec Ideal S128x64x3 .f32) : FVec Ideal S128x192 .f32 :=
  shapeCast S128x192 (transpose S128x3x64 [0, 2, 1] w transposes_S128x64x3_S128x3x64_0_2_1) shapeCasts_S128x3x64_S128x192

/-- The flipped weights with a zero tap after the last. -/
def ext1 (w : FVec Ideal S128x128x4 .f32) : FVec Ideal S128x128x5 .f32 :=
  concatenate S128x128x5 2 [⟨S128x128x4, transpose S128x128x4 [1, 0, 2] (Host.reverse [2] w) transposes_S128x128x4_S128x128x4_1_0_2⟩,
    ⟨S128x128x1, broadcastInDim S128x128x1 ![] bcast_S_S128x128x1 (constant S_ .f32 0x00000000#32)⟩] concatenates_S128x128x4_S128x128x1_S128x128x5_d2
def ext2 (w : FVec Ideal S128x64x8 .f32) : FVec Ideal S64x128x9 .f32 :=
  concatenate S64x128x9 2 [⟨S64x128x8, transpose S64x128x8 [1, 0, 2] (Host.reverse [2] w) transposes_S128x64x8_S64x128x8_1_0_2⟩,
    ⟨S64x128x1, broadcastInDim S64x128x1 ![] bcast_S_S64x128x1 (constant S_ .f32 0x00000000#32)⟩] concatenates_S64x128x8_S64x128x1_S64x128x9_d2
def ext3 (w : FVec Ideal S64x1x16 .f32) : FVec Ideal S64x17 .f32 :=
  concatenate S64x17 1 [⟨S64x16, shapeCast S64x16 (transpose S1x64x16 [1, 0, 2] (Host.reverse [2] w) transposes_S64x1x16_S1x64x16_1_0_2) shapeCasts_S1x64x16_S64x16⟩,
    ⟨S64x1, broadcastInDim S64x1 ![] bcast_S_S64x1 (constant S_ .f32 0x00000000#32)⟩] concatenates_S64x16_S64x1_S64x17_d1

/-- The tables of taps. -/
def tab1 : IVec S2x3x1 32 := broadcastInDim S2x3x1 ![0, 1] bcast_S2x3_S2x3x1_0_1
  (select (constantI S2x3 1 0#1) (addi (fun i => lit0 (S2x3.rowMajor i)) (broadcastInDim S2x3 ![] bcast_S_S2x3 (constantI S_ 32 5#32)))
    (fun i => lit0 (S2x3.rowMajor i)))
def tab2 : IVec S4x6x1 32 := broadcastInDim S4x6x1 ![0, 1] bcast_S4x6_S4x6x1_0_1
  (select (constantI S4x6 1 0#1) (addi (fun i => lit1 (S4x6.rowMajor i)) (broadcastInDim S4x6 ![] bcast_S_S4x6 (constantI S_ 32 9#32)))
    (fun i => lit1 (S4x6.rowMajor i)))
def tab3 : IVec S8x12x1 32 := broadcastInDim S8x12x1 ![0, 1] bcast_S8x12_S8x12x1_0_1
  (select (constantI S8x12 1 0#1) (addi (fun i => lit2 (S8x12.rowMajor i)) (broadcastInDim S8x12 ![] bcast_S_S8x12 (constantI S_ 32 17#32)))
    (fun i => lit2 (S8x12.rowMajor i)))

/-- The weights by phases. -/
def pre1 (w : FVec Ideal S128x128x4 .f32) : FVec Ideal S256x384 .f32 :=
  shapeCast S256x384 (transpose S2x128x3x128 [2, 0, 3, 1]
    (Host.gather gather_S128x128x5_S2x3x1_S128x128x2x3_01_2_n_n_2_2_1281281 (ext1 w) tab1)
    transposes_S128x128x2x3_S2x128x3x128_2_0_3_1) shapeCasts_S2x128x3x128_S256x384
def pre2 (w : FVec Ideal S128x64x8 .f32) : FVec Ideal S256x768 .f32 :=
  shapeCast S256x768 (transpose S4x64x6x128 [2, 0, 3, 1]
    (Host.gather gather_S64x128x9_S4x6x1_S64x128x4x6_01_2_n_n_2_2_641281 (ext2 w) tab2)
    transposes_S64x128x4x6_S4x64x6x128_2_0_3_1) shapeCasts_S4x64x6x128_S256x768
def pre3 (w : FVec Ideal S64x1x16 .f32) : FVec Ideal S8x768 .f32 :=
  shapeCast S8x768 (transpose S8x12x64 [1, 2, 0]
    (Host.gather gather_S64x17_S8x12x1_S64x8x12_0_1_n_n_1_2_641 (ext3 w) tab3)
    transposes_S64x8x12_S8x12x64_1_2_0) shapeCasts_S8x12x64_S8x768

section
variable (m : (ℓ : Loc nD τ sig) → Buf (Elt Ideal) ℓ) (c : Dev nD)

theorem V1 : V m c main_v1 = pre0 (m ((c : Thread nD τ).loc main_arg1)) := by sl_kernel_rfl
theorem V2 : V m c main_v2 = shapeCast S128x1 (m ((c : Thread nD τ).loc main_arg2) : FVec Ideal S128 .f32) shapeCasts_S128_S128x1 := by sl_kernel_rfl
theorem V13 : V m c main_v13 = pre1 (m ((c : Thread nD τ).loc main_arg3)) := by sl_kernel_rfl
theorem V24 : V m c main_v24 = pre2 (m ((c : Thread nD τ).loc main_arg4)) := by sl_kernel_rfl
theorem V36 : V m c main_v36 = pre3 (m ((c : Thread nD τ).loc main_arg5)) := by sl_kernel_rfl
end

/-! ## Read at an index -/

theorem pre0_at (w : FVec Ideal S128x64x3 .f32) (o : Fin 128) (R : Fin 192) :
    pre0 w (ix2 o R) = w (ix3 o ⟨R.val % 64, by omega⟩ ⟨R.val / 64, by omega⟩) := by
  pointwise [pre0]

theorem tab1_at : ∀ (r : Fin 2) (m : Fin 3), (tab1 (ix3 r m 0)).toInt.toNat = if r.val ≤ 2 * m.val ∧ 2 * m.val - r.val < 4 then 2 * m.val - r.val else 4 := by
  decide +kernel
theorem tab2_at : ∀ (r : Fin 4) (m : Fin 6), (tab2 (ix3 r m 0)).toInt.toNat = if r.val ≤ 2 * m.val ∧ 2 * m.val - r.val < 8 then 2 * m.val - r.val else 8 := by
  decide +kernel
theorem tab3_at : ∀ (r : Fin 8) (m : Fin 12), (tab3 (ix3 r m 0)).toInt.toNat = if r.val ≤ 2 * m.val ∧ 2 * m.val - r.val < 16 then 2 * m.val - r.val else 16 := by
  decide +kernel

theorem ext1_at (w : FVec Ideal S128x128x4 .f32) (o c : Fin 128) (k : Fin 5) :
    ext1 w (ix3 o c k) = if h : k.val < 4 then w (ix3 c o (Fin.rev ⟨k.val, h⟩)) else 0 := by
  pointwise [ext1]
  rfl
theorem ext2_at (w : FVec Ideal S128x64x8 .f32) (o : Fin 64) (c : Fin 128) (k : Fin 9) :
    ext2 w (ix3 o c k) = if h : k.val < 8 then w (ix3 c o (Fin.rev ⟨k.val, h⟩)) else 0 := by
  pointwise [ext2]
  rfl
theorem ext3_at (w : FVec Ideal S64x1x16 .f32) (c : Fin 64) (k : Fin 17) :
    ext3 w (ix2 c k) = if h : k.val < 16 then w (ix3 c 0 (Fin.rev ⟨k.val, h⟩)) else 0 := by
  pointwise [ext3]
  rfl

/-! ## Taps picked by a table -/

theorem gat1 {α : Type} (x : S128x128x5.Idx → α) (T : IVec S2x3x1 32) (o c : Fin 128) (r : Fin 2) (m : Fin 3) :
    Host.gather gather_S128x128x5_S2x3x1_S128x128x2x3_01_2_n_n_2_2_1281281 x T (ix4 o c r m)
      = x (ix3 o c ⟨min (T (ix3 r m 0)).toInt.toNat 4, by omega⟩) := by
  unfold Host.gather
  congr 1
  funext a
  refine Fin.ext ?_
  show GatherDims.start _ (ix4 o c r m) T a + GatherDims.batchCoord _ (ix4 o c r m) a + GatherDims.offCoord _ (ix4 o c r m) a = _
  rw [GatherDims.batchCoord_eq_zero _ _ _ List.not_mem_nil]
  unfold GatherDims.start GatherDims.offCoord
  obtain rfl | rfl | rfl : a = (0 : Fin 3) ∨ a = (1 : Fin 3) ∨ a = (2 : Fin 3) := by revert a; decide
  · rw [dif_neg (by decide), dif_pos (by decide)]
    simp only [Nat.zero_add]
    rfl
  · rw [dif_neg (by decide), dif_pos (by decide)]
    simp only [Nat.zero_add]
    rfl
  · rw [dif_pos (by decide), dif_neg (by decide)]
    simp only [Nat.add_zero]
    rw [show GatherDims.siIdx gather_S128x128x5_S2x3x1_S128x128x2x3_01_2_n_n_2_2_1281281 (ix4 o c r m) ⟨List.idxOf (2 : Fin 3) (GatherDims.startIndexMap gather_S128x128x5_S2x3x1_S128x128x2x3_01_2_n_n_2_2_1281281), by decide⟩ = ix3 r m 0 from by
      funext b; refine Fin.ext ?_
      match b with
      | ⟨0, _⟩ => rfl
      | ⟨1, _⟩ => rfl
      | ⟨2, _⟩ => rfl]
    rfl

theorem gat2 {α : Type} (x : S64x128x9.Idx → α) (T : IVec S4x6x1 32) (o : Fin 64) (c : Fin 128) (r : Fin 4) (m : Fin 6) :
    Host.gather gather_S64x128x9_S4x6x1_S64x128x4x6_01_2_n_n_2_2_641281 x T (ix4 o c r m)
      = x (ix3 o c ⟨min (T (ix3 r m 0)).toInt.toNat 8, by omega⟩) := by
  unfold Host.gather
  congr 1
  funext a
  refine Fin.ext ?_
  show GatherDims.start _ (ix4 o c r m) T a + GatherDims.batchCoord _ (ix4 o c r m) a + GatherDims.offCoord _ (ix4 o c r m) a = _
  rw [GatherDims.batchCoord_eq_zero _ _ _ List.not_mem_nil]
  unfold GatherDims.start GatherDims.offCoord
  obtain rfl | rfl | rfl : a = (0 : Fin 3) ∨ a = (1 : Fin 3) ∨ a = (2 : Fin 3) := by revert a; decide
  · rw [dif_neg (by decide), dif_pos (by decide)]
    simp only [Nat.zero_add]
    rfl
  · rw [dif_neg (by decide), dif_pos (by decide)]
    simp only [Nat.zero_add]
    rfl
  · rw [dif_pos (by decide), dif_neg (by decide)]
    simp only [Nat.add_zero]
    rw [show GatherDims.siIdx gather_S64x128x9_S4x6x1_S64x128x4x6_01_2_n_n_2_2_641281 (ix4 o c r m) ⟨List.idxOf (2 : Fin 3) (GatherDims.startIndexMap gather_S64x128x9_S4x6x1_S64x128x4x6_01_2_n_n_2_2_641281), by decide⟩ = ix3 r m 0 from by
      funext b; refine Fin.ext ?_
      match b with
      | ⟨0, _⟩ => rfl
      | ⟨1, _⟩ => rfl
      | ⟨2, _⟩ => rfl]
    rfl

theorem gat3 {α : Type} (x : S64x17.Idx → α) (T : IVec S8x12x1 32) (c : Fin 64) (r : Fin 8) (m : Fin 12) :
    Host.gather gather_S64x17_S8x12x1_S64x8x12_0_1_n_n_1_2_641 x T (ix3 c r m)
      = x (ix2 c ⟨min (T (ix3 r m 0)).toInt.toNat 16, by omega⟩) := by
  unfold Host.gather
  congr 1
  funext a
  refine Fin.ext ?_
  show GatherDims.start _ (ix3 c r m) T a + GatherDims.batchCoord _ (ix3 c r m) a + GatherDims.offCoord _ (ix3 c r m) a = _
  rw [GatherDims.batchCoord_eq_zero _ _ _ List.not_mem_nil]
  unfold GatherDims.start GatherDims.offCoord
  obtain rfl | rfl : a = (0 : Fin 2) ∨ a = (1 : Fin 2) := by revert a; decide
  · rw [dif_neg (by decide), dif_pos (by decide)]
    simp only [Nat.zero_add]
    rfl
  · rw [dif_pos (by decide), dif_neg (by decide)]
    simp only [Nat.add_zero]
    rw [show GatherDims.siIdx gather_S64x17_S8x12x1_S64x8x12_0_1_n_n_1_2_641 (ix3 c r m) ⟨List.idxOf (1 : Fin 2) (GatherDims.startIndexMap gather_S64x17_S8x12x1_S64x8x12_0_1_n_n_1_2_641), by decide⟩ = ix3 r m 0 from by
      funext b; refine Fin.ext ?_
      match b with
      | ⟨0, _⟩ => rfl
      | ⟨1, _⟩ => rfl
      | ⟨2, _⟩ => rfl]
    rfl

/-- The zero after the last tap is picked where a phase has no tap. -/
theorem pick {K : ℕ} (w : Fin K → EReal) (r m v : ℕ) (hv : v = if r ≤ 2 * m ∧ 2 * m - r < K then 2 * m - r else K) :
    (if h : min v K < K then w ⟨min v K, h⟩ else 0) = ptap w r m := by
  unfold ptap
  by_cases c : r ≤ 2 * m ∧ 2 * m - r < K
  · rw [if_pos c] at hv
    rw [dif_pos c, dif_pos (by omega)]
    congr 1; ext; simp only; omega
  · rw [if_neg c] at hv
    rw [dif_neg c, dif_neg (by omega)]

theorem pre1_at (w : FVec Ideal S128x128x4 .f32) (R : Fin 256) (S : Fin 384) :
    pre1 w (ix2 R S) = ptap (fun k => w (ix3 ⟨S.val % 128, by omega⟩ ⟨R.val % 128, by omega⟩ k.rev)) (R.val / 128) (S.val / 128) := by
  pointwise [pre1]
  rw [gat1, ext1_at]
  exact pick (fun k => w (ix3 ⟨S.val % 128, by omega⟩ ⟨R.val % 128, by omega⟩ k.rev)) _ _ _ (tab1_at ⟨R.val / 128, by omega⟩ ⟨S.val / 128, by omega⟩)
theorem pre2_at (w : FVec Ideal S128x64x8 .f32) (R : Fin 256) (S : Fin 768) :
    pre2 w (ix2 R S) = ptap (fun k => w (ix3 ⟨S.val % 128, by omega⟩ ⟨R.val % 64, by omega⟩ k.rev)) (R.val / 64) (S.val / 128) := by
  pointwise [pre2]
  rw [gat2, ext2_at]
  exact pick (fun k => w (ix3 ⟨S.val % 128, by omega⟩ ⟨R.val % 64, by omega⟩ k.rev)) _ _ _ (tab2_at ⟨R.val / 64, by omega⟩ ⟨S.val / 128, by omega⟩)
theorem pre3_at (w : FVec Ideal S64x1x16 .f32) (R : Fin 8) (S : Fin 768) :
    pre3 w (ix2 R S) = ptap (fun k => w (ix3 ⟨S.val % 64, by omega⟩ 0 k.rev)) R.val (S.val / 64) := by
  pointwise [pre3]
  rw [gat3, ext3_at]
  exact pick (fun k => w (ix3 ⟨S.val % 64, by omega⟩ 0 k.rev)) _ _ _ (tab3_at R ⟨S.val / 64, by omega⟩)

/-! ## The blocks of a point -/

theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- Image `i` of point `t`. -/
def img (t : Fin cfg0.N) (i : Fin 8) : Fin 64 := ⟨8 * t.val + i.val, by have := t.isLt; have : cfg0.N = 8 := N_0; omega⟩

section
variable (m : (ℓ : Loc nD τ sig) → Buf (Elt Ideal) ℓ) (c : Dev nD)

theorem blk0 (t : Fin cfg0.N) (i : Fin 8) (a : Fin 64) (b : Fin 512) : (iblk m c 0 t : FVec Ideal S8x64x512 .f32) (ix3 i a b)
    = (V m c main_arg0 : FVec Ideal S64x64x512 .f32) (ix3 (img t i) a b) := by
  generalize hV : V m c = v
  unfold iblk img
  rw [hV]
  blk_point [idx t]
theorem blk1 (t : Fin cfg0.N) : (iblk m c 1 t : FVec Ideal S128x192 .f32) = (V m c main_v1 : FVec Ideal S128x192 .f32) := by
  generalize hV : V m c = v
  unfold iblk
  rw [hV]
  blk_ext! [idx t]
theorem blk2 (t : Fin cfg0.N) : (iblk m c 2 t : FVec Ideal S128x1 .f32) = (V m c main_v2 : FVec Ideal S128x1 .f32) := by
  generalize hV : V m c = v
  unfold iblk
  rw [hV]
  blk_ext! [idx t]
theorem blk3 (t : Fin cfg0.N) : (iblk m c 3 t : FVec Ideal S256x384 .f32) = (V m c main_v13 : FVec Ideal S256x384 .f32) := by
  generalize hV : V m c = v
  unfold iblk
  rw [hV]
  blk_ext! [idx t]
theorem blk4 (t : Fin cfg0.N) : (iblk m c 4 t : FVec Ideal S256x768 .f32) = (V m c main_v24 : FVec Ideal S256x768 .f32) := by
  generalize hV : V m c = v
  unfold iblk
  rw [hV]
  blk_ext! [idx t]
theorem blk5 (t : Fin cfg0.N) : (iblk m c 5 t : FVec Ideal S8x768 .f32) = (V m c main_v36 : FVec Ideal S8x768 .f32) := by
  generalize hV : V m c = v
  unfold iblk
  rw [hV]
  blk_ext! [idx t]
end

end Cert.DecIdeal.Own

end
-- ==== Proof.Own.DecPoints.lean ====
/- Every point of the decoder computes the same function of its blocks: the edge columns stay zero from point to point, so the
   result of a point depends on its inputs alone. -/
module

public import proofs.«01_k».proof.Proof.Own.DecBridge
public import proofs.«01_k».proof.Proof.Own.DecKer
public import proofs.«01_k».proof.Proof.Own.DecHost

@[expose] public section

set_option maxRecDepth 16384

noncomputable section

namespace Cert.DecIdeal.Own

open Cert.DecIdeal Cert.DecIdeal.Gen Cert.Spec
open Idealize.ShloMosaic Idealize.ShloMosaic.TcCoe Idealize.ShloMosaic.Tactic

variable (m : (ℓ : Loc nD τ sig) → Buf (Elt Ideal) ℓ)

/-! ## The edge columns -/

/-- The scratch arrays' edge columns hold zero. -/
def Edges (s0 : Vec Ideal S8x64x514 .f32) (s1 : Vec Ideal S8x128x514 .f32) (s2 s3 : Vec Ideal S8x256x514 .f32) : Prop :=
  (∀ y : (Sc 64).Idx, edge y → s0 y = zero) ∧ (∀ y : (Sc 128).Idx, edge y → s1 y = zero)
    ∧ (∀ y : (Sc 256).Idx, edge y → s2 y = zero) ∧ (∀ y : (Sc 256).Idx, edge y → s3 y = zero)

theorem clean_old {h : ℕ} {mm : Memref sig .tc .vmem (Sc h) .f32} (hw : mm.IsWhole) (s : Vec Ideal (Sc h) .f32)
    (e : ∀ y : (Sc h).Idx, edge y → s y = zero) : Clean mm.view (hw.unread s) [] := fun y hy =>
  (congrFun (hw.read_unread s) y).trans (e y hy)

theorem edge_after {h : ℕ} (v : View sig .tc .vmem (Sc h) .f32) (f : v.ty.Contents (Elt Ideal)) (w : ℕ → Vec Ideal (Sl h) .f32)
    (L : Pcs Ideal h) (cl : Clean v f L) (y : (Sc h).Idx) (hy : edge y) : v.read (Elt Ideal) (v.writes (Elt Ideal) f (lst w L 8)) y = zero :=
  (read_edge v f w L y hy 8).trans (cl y hy)

theorem left_A0 (c : Dev nD) (t : Fin cfg0.N) (h : t.val % 8 = 0) (y : (Sc 64).Idx) (hy : edge y) :
    (outsAt0 m c t.val t.isLt).2.1 y = zero := by
  rw [outsAt0_A m c t h]
  dsimp only
  unfold sout0_A_0
  rw [runA_0 m c t h]
  exact edge_after _ _ _ _ (clean0 _ _) y hy

theorem left_A1 (c : Dev nD) (t : Fin cfg0.N) (h : t.val % 8 = 0) (y : (Sc 128).Idx) (hy : edge y) :
    (outsAt0 m c t.val t.isLt).2.2.1 y = zero := by
  rw [outsAt0_A m c t h]
  dsimp only
  unfold sout0_A_1
  rw [runA_1 m c t h]
  exact edge_after _ _ _ _ (clean1 _ _) y hy

theorem left_A2 (c : Dev nD) (t : Fin cfg0.N) (h : t.val % 8 = 0) (y : (Sc 256).Idx) (hy : edge y) :
    (outsAt0 m c t.val t.isLt).2.2.2.1 y = zero := by
  rw [outsAt0_A m c t h]
  dsimp only
  unfold sout0_A_2
  rw [runA_2 m c t h]
  exact edge_after _ _ _ _ (clean2 _ _) y hy

theorem left_A3 (c : Dev nD) (t : Fin cfg0.N) (h : t.val % 8 = 0) (y : (Sc 256).Idx) (hy : edge y) :
    (outsAt0 m c t.val t.isLt).2.2.2.2 y = zero := by
  rw [outsAt0_A m c t h]
  dsimp only
  unfold sout0_A_3
  rw [runA_3 m c t h]
  exact edge_after _ _ _ _ (clean3 _ _) y hy

theorem edges_A (c : Dev nD) (t : Fin cfg0.N) (h : t.val % 8 = 0) :
    Edges (outsAt0 m c t.val t.isLt).2.1 (outsAt0 m c t.val t.isLt).2.2.1 (outsAt0 m c t.val t.isLt).2.2.2.1 (outsAt0 m c t.val t.isLt).2.2.2.2 :=
  ⟨left_A0 m c t h, left_A1 m c t h, left_A2 m c t h, left_A3 m c t h⟩

/-- What the point before left. -/
abbrev old (c : Dev nD) (t : Fin cfg0.N) := outsAt0 m c (t.val - 1) (Nat.lt_of_le_of_lt (Nat.sub_le _ _) t.isLt)

theorem left_B0 (c : Dev nD) (t : Fin cfg0.N) (h : ¬ t.val % 8 = 0) (e : ∀ y : (Sc 64).Idx, edge y → (old m c t).2.1 y = zero)
    (y : (Sc 64).Idx) (hy : edge y) : (outsAt0 m c t.val t.isLt).2.1 y = zero := by
  rw [outsAt0_B m c t h]
  dsimp only
  unfold sout0_B_0
  rw [runB_0 m c t _ _ _ _ h]
  exact edge_after _ _ _ _ (clean_old _ _ e) y hy

theorem left_B1 (c : Dev nD) (t : Fin cfg0.N) (h : ¬ t.val % 8 = 0) (e : ∀ y : (Sc 128).Idx, edge y → (old m c t).2.2.1 y = zero)
    (y : (Sc 128).Idx) (hy : edge y) : (outsAt0 m c t.val t.isLt).2.2.1 y = zero := by
  rw [outsAt0_B m c t h]
  dsimp only
  unfold sout0_B_1
  rw [runB_1 m c t _ _ _ _ h]
  exact edge_after _ _ _ _ (clean_old _ _ e) y hy

theorem left_B2 (c : Dev nD) (t : Fin cfg0.N) (h : ¬ t.val % 8 = 0) (e : ∀ y : (Sc 256).Idx, edge y → (old m c t).2.2.2.1 y = zero)
    (y : (Sc 256).Idx) (hy : edge y) : (outsAt0 m c t.val t.isLt).2.2.2.1 y = zero := by
  rw [outsAt0_B m c t h]
  dsimp only
  unfold sout0_B_2
  rw [runB_2 m c t _ _ _ _ h]
  exact edge_after _ _ _ _ (clean_old _ _ e) y hy

theorem left_B3 (c : Dev nD) (t : Fin cfg0.N) (h : ¬ t.val % 8 = 0) (e : ∀ y : (Sc 256).Idx, edge y → (old m c t).2.2.2.2 y = zero)
    (y : (Sc 256).Idx) (hy : edge y) : (outsAt0 m c t.val t.isLt).2.2.2.2 y = zero := by
  rw [outsAt0_B m c t h]
  dsimp only
  unfold sout0_B_3
  rw [runB_3 m c t _ _ _ _ h]
  exact edge_after _ _ _ _ (clean_old _ _ e) y hy

theorem edges_B (c : Dev nD) (t : Fin cfg0.N) (h : ¬ t.val % 8 = 0)
    (e : Edges (old m c t).2.1 (old m c t).2.2.1 (old m c t).2.2.2.1 (old m c t).2.2.2.2) :
    Edges (outsAt0 m c t.val t.isLt).2.1 (outsAt0 m c t.val t.isLt).2.2.1 (outsAt0 m c t.val t.isLt).2.2.2.1 (outsAt0 m c t.val t.isLt).2.2.2.2 :=
  ⟨left_B0 m c t h e.1, left_B1 m c t h e.2.1, left_B2 m c t h e.2.2.1, left_B3 m c t h e.2.2.2⟩

theorem edges_all (c : Dev nD) : ∀ (n : ℕ) (hn : n < cfg0.N),
    Edges (outsAt0 m c n hn).2.1 (outsAt0 m c n hn).2.2.1 (outsAt0 m c n hn).2.2.2.1 (outsAt0 m c n hn).2.2.2.2
  | 0, hn => edges_A m c ⟨0, hn⟩ rfl
  | n + 1, hn => edges_B m c ⟨n + 1, hn⟩ (by have : cfg0.N = 8 := N_0; show ¬ (n + 1) % 8 = 0; omega) (edges_all c n (Nat.lt_of_succ_lt hn))

/-! ## Both kinds of points read the arrays well -/

section
variable (I : Inp Ideal) (v0 : View sig .tc .vmem (Sc 64) .f32) (v1 : View sig .tc .vmem (Sc 128) .f32) (v2 : View sig .tc .vmem (Sc 256) .f32) (v3 : View sig .tc .vmem (Sc 256) .f32)
  (L0 : Pcs Ideal 64) (L1 : Pcs Ideal 128) (L2 : Pcs Ideal 256) (L3 : Pcs Ideal 256) (f0 : v0.ty.Contents (Elt Ideal)) (f1 : v1.ty.Contents (Elt Ideal)) (f2 : v2.ty.Contents (Elt Ideal)) (f3 : v3.ty.Contents (Elt Ideal)) (n : ℕ) (hn : n < 8)
include hn

theorem good_cov (k0 : Clean v0 v0.junk L0) (k1 : Clean v1 v1.junk L1) (k2 : Clean v2 v2.junk L2) (k3 : Clean v3 v3.junk L3) :
    Good I ⟨covRd v0, covRd v0, covRd v1, covRd v1, covRd v2, covRd v2, covRd v3, covRd v3, L0, L1, L2, L3⟩ n where
  a0 := sees_cov _ _ k0 n hn 0 (by omega)
  b0 := sees_mid _ _ n hn
  c0 := sees_cov _ _ k0 n hn 2 (by omega)
  a1 := sees_cov _ _ k1 n hn 0 (by omega)
  b1 := sees_mid _ _ n hn
  c1 := sees_cov _ _ k1 n hn 2 (by omega)
  a2 := sees_cov _ _ k2 n hn 0 (by omega)
  b2 := sees_mid _ _ n hn
  c2 := sees_cov _ _ k2 n hn 2 (by omega)
  a3 := sees_cov _ _ k3 n hn 0 (by omega)
  b3 := sees_mid _ _ n hn
  c3 := sees_cov _ _ k3 n hn 2 (by omega)

theorem good_over (k0 : Clean v0 f0 L0) (k1 : Clean v1 f1 L1) (k2 : Clean v2 f2 L2) (k3 : Clean v3 f3 L3) :
    Good I ⟨overRd v0 f0, covRd v0, overRd v1 f1, covRd v1, overRd v2 f2, covRd v2, overRd v3 f3, covRd v3, L0, L1, L2, L3⟩ n where
  a0 := sees_over _ _ k0 n hn 0 (by omega)
  b0 := sees_mid _ _ n hn
  c0 := sees_over _ _ k0 n hn 2 (by omega)
  a1 := sees_over _ _ k1 n hn 0 (by omega)
  b1 := sees_mid _ _ n hn
  c1 := sees_over _ _ k1 n hn 2 (by omega)
  a2 := sees_over _ _ k2 n hn 0 (by omega)
  b2 := sees_mid _ _ n hn
  c2 := sees_over _ _ k2 n hn 2 (by omega)
  a3 := sees_over _ _ k3 n hn 0 (by omega)
  b3 := sees_mid _ _ n hn
  c3 := sees_over _ _ k3 n hn 2 (by omega)
end

theorem good_A (I : Inp Ideal) (n : ℕ) (hn : n < 8) : Good I rdA n :=
  good_cov I _ _ _ _ _ _ _ _ n hn (clean0 _ _) (clean1 _ _) (clean2 _ _) (clean3 _ _)

theorem good_B (I : Inp Ideal) (s0 : Vec Ideal S8x64x514 .f32) (s1 : Vec Ideal S8x128x514 .f32) (s2 s3 : Vec Ideal S8x256x514 .f32)
    (e : Edges s0 s1 s2 s3) (n : ℕ) (hn : n < 8) : Good I (rdB s0 s1 s2 s3) n :=
  good_over I _ _ _ _ _ _ _ _ _ _ _ _ n hn (clean_old _ _ e.1) (clean_old _ _ e.2.1) (clean_old _ _ e.2.2.1) (clean_old _ _ e.2.2.2)

/-! ## The inputs are the blocks -/

theorem whole_load {s : Shape} {mm : Memref sig .tc .vmem s .f32} (h : mm.IsWhole) (X : Vec Ideal s .f32) (off : Fin s.rank → ℕ)
    (inb : ∀ a, off a + s.size a ≤ s.size a) :
    View.readAt (Elt Ideal) mm.view (Rect.unit (s := s) off s.size inb).toLoadRect (h.unread X) = X := by
  funext x
  show mm.view.read (Elt Ideal) (h.unread X) ((Rect.unit (s := s) off s.size inb).toLoadRect.idx x) = X x
  rw [h.read_unread]
  refine congrArg X (funext fun a => Fin.ext ?_)
  show off a + 1 * (x a).val = (x a).val
  have := inb a
  omega

/-- The rows an image starts from. -/
def rowsOf (c : Dev nD) (n : Fin 64) : Fin 64 → Fin 512 → EReal := fun r u => (m ((c : Thread nD τ).loc main_arg0) : FVec Ideal S64x64x512 .f32) (ix3 n r u)
/-- The decoder's weights among the arguments. -/
def wtsOf (c : Dev nD) : DWts where
  w0 := fun o k j => (m ((c : Thread nD τ).loc main_arg1) : FVec Ideal S128x64x3 .f32) (ix3 o k j)
  b0 := fun o => (m ((c : Thread nD τ).loc main_arg2) : FVec Ideal S128 .f32) (ix1 o)
  w1 := fun a o k => (m ((c : Thread nD τ).loc main_arg3) : FVec Ideal S128x128x4 .f32) (ix3 a o k)
  w2 := fun a o k => (m ((c : Thread nD τ).loc main_arg4) : FVec Ideal S128x64x8 .f32) (ix3 a o k)
  w3 := fun a o k => (m ((c : Thread nD τ).loc main_arg5) : FVec Ideal S64x1x16 .f32) (ix3 a o k)

theorem holds (c : Dev nD) (t : Fin cfg0.N) : Holds (wtsOf m c) (inpAt m c t) where
  w0 := fun o R => by
    refine (congrFun (whole_load (hs0_1 t) (iblk m c 1 t) ![0, 0] inb_S128x192_S128x192_0_0) (ix2 o R)).trans ?_
    rw [blk1, V1, pre0_at]; rfl
  b0 := fun o => by
    refine (congrFun (whole_load (hs0_2 t) (iblk m c 2 t) ![0, 0] inb_S128x1_S128x1_0_0) (ix2 o 0)).trans ?_
    rw [blk2, V2]
    pointwise []
    rfl
  w1 := fun r R => by
    refine (congrFun (whole_load (hs0_3 t) (iblk m c 3 t) ![0, 0] inb_S256x384_S256x384_0_0) (ix2 r R)).trans ?_
    rw [blk3, V13, pre1_at]; rfl
  w2 := fun r R => by
    refine (congrFun (whole_load (hs0_4 t) (iblk m c 4 t) ![0, 0] inb_S256x768_S256x768_0_0) (ix2 r R)).trans ?_
    rw [blk4, V24, pre2_at]; rfl
  w3 := fun r R => by
    refine (congrFun (whole_load (hs0_5 t) (iblk m c 5 t) ![0, 0] inb_S8x768_S8x768_0_0) (ix2 r R)).trans ?_
    rw [blk5, V36, pre3_at]; rfl

theorem first_row (c : Dev nD) (t : Fin cfg0.N) (i : Fin 8) (r : Fin 64) (u : Fin 512) :
    (inpAt m c t).p0 i.val (ix3 0 r u) = rowsOf m c (img t i) r u := by
  unfold Inp.p0
  rw [pay11_at]
  show (ms0_0 t).view.read (Elt Ideal) ((hs0_0 t).unread (iblk m c 0 t)) _ = _
  rw [(hs0_0 t).read_unread]
  have e : (Rect.unit (s := S8x64x512) ![(Fin.ofNat 8 i.val).val, 0, 0] S1x64x512.size (inb_i _)).toLoadRect.idx (ix3 0 r u) = (ix3 i r u : S8x64x512.Idx) := by
    funext a
    apply Fin.ext
    match a with
    | ⟨0, _⟩ => show i.val % 8 + 1 * 0 = i.val; omega
    | ⟨1, _⟩ => show 0 + 1 * r.val = r.val; omega
    | ⟨2, _⟩ => show 0 + 1 * u.val = u.val; omega
  rw [e, blk0]
  exact congrFun (V_main_arg0 m c) _

/-! ## The result of a point -/

theorem read_out (w : ℕ → Vec Ideal S1x8x512 .f32) (v : View sig .tc .vmem S8x8x512 .f32) (f : v.ty.Contents (Elt Ideal))
    (y : S8x8x512.Idx) : ∀ n, (y 0).val < n → n ≤ 8 →
      v.read (Elt Ideal) (v.writes (Elt Ideal) f (lsto w n)) y = w (y 0).val (ix3 0 (y 1) (y 2))
  | 0, h, _ => absurd h (Nat.not_lt_zero _)
  | n + 1, h, hn => by
    have hv : (Fin.ofNat 8 n).val = n := Nat.mod_eq_of_lt (by omega)
    unfold lsto
    by_cases c : (y 0).val = n
    · refine (View.read_writes_cons_unit_of_mem v f _ _ _ y (ix3 0 (y 1) (y 2)) rfl fun a => ?_).trans (by rw [c]; rfl)
      match a with
      | ⟨0, _⟩ => show (y 0).val = (Fin.ofNat 8 n).val + 0; omega
      | ⟨1, _⟩ => show (y 1).val = 0 + (y 1).val; omega
      | ⟨2, _⟩ => show (y 2).val = 0 + (y 2).val; omega
    · refine (View.read_writes_cons_unit_of_not_mem v f _ _ _ y rfl 0 (by
        show (y 0).val < (Fin.ofNat 8 n).val ∨ (Fin.ofNat 8 n).val + 1 ≤ (y 0).val
        omega)).trans (read_out w v f y n (by omega) (by omega))

theorem out_at (c : Dev nD) (t : Fin cfg0.N) (i : Fin 8) (r : Fin 8) (u : Fin 512) :
    (outsAt0 m c t.val t.isLt).1 (ix3 i r u)
      = (FloatOps.logistic ((wtsOf m c).h3 (rowsOf m c (img t i)) ⟨8 * u.val + r.val, by omega⟩) : Ideal .f32) := by
  by_cases h : t.val % 8 = 0
  · rw [outsAt0_A m c t h]
    dsimp only
    unfold out0_A_6
    rw [runA_out m c t h]
    refine (read_out _ VO0_6 _ (ix3 i r u) 8 i.isLt le_rfl).trans ?_
    exact p4_row _ _ _ (holds m c t) i.val i.isLt (good_A _ _ i.isLt) _ (first_row m c t i) r u
  · rw [outsAt0_B m c t h]
    dsimp only
    unfold out0_B_6
    rw [runB_out m c t _ _ _ _ h]
    refine (read_out _ VO0_6 _ (ix3 i r u) 8 i.isLt le_rfl).trans ?_
    exact p4_row _ _ _ (holds m c t) i.val i.isLt (good_B _ _ _ _ _ (edges_all m c _ _) _ i.isLt) _ (first_row m c t i) r u

end Cert.DecIdeal.Own

end
-- ==== Proof.Own.DecRef.lean ====
/- The reference of the decoder, layer by layer, and what each layer is as mathematics. -/
module

public import proofs.«01_k».proof.Proof.Gen.DecRefIdeal.Read
public import proofs.«01_k».proof.Proof.Own.DecSpec
public import Idealize.ShloMosaic.Lib.Pointwise
public import Idealize.ShloMosaic.Lib.Pipeline.ValueKit

@[expose] public section

set_option maxRecDepth 16384

noncomputable section

namespace Cert.DecRefIdeal.Own

open Cert.DecRefIdeal Cert.DecRefIdeal.Gen Cert.DecRefIdeal.Read Cert.Spec Idealize.ShloMosaic Idealize.ShloMosaic.TcCoe Idealize.SL.Sem
open Idealize.ShloMosaic.Tactic

/-- Terms added one after the other, from the first. -/
def addUp {s : Shape} (f : ℕ → FVec Ideal s .f32) : ℕ → FVec Ideal s .f32
  | 0 => f 0
  | n + 1 => addf (addUp f n) (f (n + 1))

/-- The padding value, an integer zero converted, and the zero put between entries. -/
def padv : FVec Ideal S_ .f32 := sitofp .f32 (constantI S_ 32 0#32)
def gapv : FVec Ideal S_ .f32 := constant S_ .f32 0x00000000#32

/-- The leaky rectifier. -/
def leaky {s : Shape} (h : (S_).BroadcastsInDim s ![]) (x : FVec Ideal s .f32) : FVec Ideal s .f32 :=
  select (cmpf .ogt x (broadcastInDim s ![] h (constant S_ .f32 0x00000000#32))) x
    (mulf (broadcastInDim s ![] h (constant S_ .f32 0x3C23D70A#32)) x)

theorem ev0a : ∀ k : Fin 3, S128x64x3.Slices ![0, 0, k.val] S128x64x1 := by decide
theorem ev0b : ∀ k : Fin 3, S64x64x514.Slices ![0, 0, k.val] S64x64x512 := by decide
theorem ev1a : ∀ k : Fin 4, S128x128x4.Slices ![0, 0, k.val] S128x128x1 := by decide
theorem ev1b : ∀ k : Fin 4, S64x128x1027.Slices ![0, 0, k.val] S64x128x1024 := by decide
theorem ev2a : ∀ k : Fin 8, S64x128x8.Slices ![0, 0, k.val] S64x128x1 := by decide
theorem ev2b : ∀ k : Fin 8, S64x128x2055.Slices ![0, 0, k.val] S64x128x2048 := by decide
theorem ev3a : ∀ k : Fin 16, S1x64x16.Slices ![0, 0, k.val] S1x64x1 := by decide
theorem ev3b : ∀ k : Fin 16, S64x64x4111.Slices ![0, 0, k.val] S64x64x4096 := by decide

/-- The padded and spread rows. -/
def row0 (x : FVec Ideal S64x64x512 .f32) : FVec Ideal S64x64x514 .f32 :=
  pad S64x64x514 ![0, 0, 1] ![0, 0, 1] ![0, 0, 0] x padv pads_S64x64x512_S64x64x514_000_000_110 h_S_
def row1 (x : FVec Ideal S64x128x512 .f32) : FVec Ideal S64x128x1027 .f32 :=
  pad S64x128x1027 ![0, 0, 2] ![0, 0, 2] ![0, 0, 0]
    (pad S64x128x1023 ![0, 0, 0] ![0, 0, 0] ![0, 0, 1] x gapv pads_S64x128x512_S64x128x1023_000_000_001 h_S_)
    padv pads_S64x128x1023_S64x128x1027_000_000_220 h_S_
def row2 (x : FVec Ideal S64x128x1024 .f32) : FVec Ideal S64x128x2055 .f32 :=
  pad S64x128x2055 ![0, 0, 4] ![0, 0, 4] ![0, 0, 0]
    (pad S64x128x2047 ![0, 0, 0] ![0, 0, 0] ![0, 0, 1] x gapv pads_S64x128x1024_S64x128x2047_000_000_001 h_S_)
    padv pads_S64x128x2047_S64x128x2055_000_000_440 h_S_
def row3 (x : FVec Ideal S64x64x2048 .f32) : FVec Ideal S64x64x4111 .f32 :=
  pad S64x64x4111 ![0, 0, 8] ![0, 0, 8] ![0, 0, 0]
    (pad S64x64x4095 ![0, 0, 0] ![0, 0, 0] ![0, 0, 1] x gapv pads_S64x64x2048_S64x64x4095_000_000_001 h_S_)
    padv pads_S64x64x4095_S64x64x4111_000_000_880 h_S_

/-- The flipped weights. -/
def flip1 (w : FVec Ideal S128x128x4 .f32) : FVec Ideal S128x128x4 .f32 :=
  transpose S128x128x4 [1, 0, 2] (Host.reverse [2] w) transposes_S128x128x4_S128x128x4_1_0_2
def flip2 (w : FVec Ideal S128x64x8 .f32) : FVec Ideal S64x128x8 .f32 :=
  transpose S64x128x8 [1, 0, 2] (Host.reverse [2] w) transposes_S128x64x8_S64x128x8_1_0_2
def flip3 (w : FVec Ideal S64x1x16 .f32) : FVec Ideal S1x64x16 .f32 :=
  transpose S1x64x16 [1, 0, 2] (Host.reverse [2] w) transposes_S64x1x16_S1x64x16_1_0_2

/-- One tap of each layer, from the padded rows and the flipped weights. -/
def tap0 (x : FVec Ideal S64x64x514 .f32) (w : FVec Ideal S128x64x3 .f32) (k : Fin 3) : FVec Ideal S64x128x512 .f32 :=
  transpose S64x128x512 [0, 2, 1] (Host.dotGeneral dot_S64x64x512_S128x64_S64x512x128_1_1_02_0_n_n none
    (extractStridedSlice S64x64x512 ![0, 0, k.val] x (ev0b k))
    (shapeCast S128x64 (extractStridedSlice S128x64x1 ![0, 0, k.val] w (ev0a k)) shapeCasts_S128x64x1_S128x64)) transposes_S64x512x128_S64x128x512_0_2_1
def tap1 (x : FVec Ideal S64x128x1027 .f32) (w : FVec Ideal S128x128x4 .f32) (k : Fin 4) : FVec Ideal S64x128x1024 .f32 :=
  transpose S64x128x1024 [0, 2, 1] (Host.dotGeneral dot_S64x128x1024_S128x128_S64x1024x128_1_1_02_0_n_n none
    (extractStridedSlice S64x128x1024 ![0, 0, k.val] x (ev1b k))
    (shapeCast S128x128 (extractStridedSlice S128x128x1 ![0, 0, k.val] w (ev1a k)) shapeCasts_S128x128x1_S128x128)) transposes_S64x1024x128_S64x128x1024_0_2_1
def tap2 (x : FVec Ideal S64x128x2055 .f32) (w : FVec Ideal S64x128x8 .f32) (k : Fin 8) : FVec Ideal S64x64x2048 .f32 :=
  transpose S64x64x2048 [0, 2, 1] (Host.dotGeneral dot_S64x128x2048_S64x128_S64x2048x64_1_1_02_0_n_n none
    (extractStridedSlice S64x128x2048 ![0, 0, k.val] x (ev2b k))
    (shapeCast S64x128 (extractStridedSlice S64x128x1 ![0, 0, k.val] w (ev2a k)) shapeCasts_S64x128x1_S64x128)) transposes_S64x2048x64_S64x64x2048_0_2_1
def tap3 (x : FVec Ideal S64x64x4111 .f32) (w : FVec Ideal S1x64x16 .f32) (k : Fin 16) : FVec Ideal S64x1x4096 .f32 :=
  transpose S64x1x4096 [0, 2, 1] (Host.dotGeneral dot_S64x64x4096_S1x64_S64x4096x1_1_1_02_0_n_n none
    (extractStridedSlice S64x64x4096 ![0, 0, k.val] x (ev3b k))
    (shapeCast S1x64 (extractStridedSlice S1x64x1 ![0, 0, k.val] w (ev3a k)) shapeCasts_S1x64x1_S1x64)) transposes_S64x4096x1_S64x1x4096_0_2_1

/-- The layers. -/
def lay0 (x : FVec Ideal S64x64x512 .f32) (w : FVec Ideal S128x64x3 .f32) (b : FVec Ideal S128 .f32) : FVec Ideal S64x128x512 .f32 :=
  addf (addUp (fun k => tap0 (row0 x) w (Fin.ofNat 3 k)) 2)
    (broadcastInDim S64x128x512 ![0, 1, 2] bcast_S1x128x1_S64x128x512_0_1_2 (broadcastInDim S1x128x1 ![1] bcast_S128_S1x128x1_1 b))
def lay1 (x : FVec Ideal S64x128x512 .f32) (w : FVec Ideal S128x128x4 .f32) : FVec Ideal S64x128x1024 .f32 :=
  leaky bcast_S_S64x128x1024 (addUp (fun k => tap1 (row1 x) (flip1 w) (Fin.ofNat 4 k)) 3)
def lay2 (x : FVec Ideal S64x128x1024 .f32) (w : FVec Ideal S128x64x8 .f32) : FVec Ideal S64x64x2048 .f32 :=
  leaky bcast_S_S64x64x2048 (addUp (fun k => tap2 (row2 x) (flip2 w) (Fin.ofNat 8 k)) 7)
def lay3 (x : FVec Ideal S64x64x2048 .f32) (w : FVec Ideal S64x1x16 .f32) : FVec Ideal S64x1x4096 .f32 :=
  addUp (fun k => tap3 (row3 x) (flip3 w) (Fin.ofNat 16 k)) 15
/-- The logistic function, laid out as the decoder's call leaves it. -/
def fin (x : FVec Ideal S64x1x4096 .f32) : FVec Ideal S64x8x512 .f32 :=
  transpose S64x8x512 [0, 2, 1] (shapeCast S64x512x8 (Host.divf (broadcastInDim S64x1x4096 ![] bcast_S_S64x1x4096 (constant S_ .f32 0x3F800000#32))
    (addf (broadcastInDim S64x1x4096 ![] bcast_S_S64x1x4096 (constant S_ .f32 0x3F800000#32)) (Host.exp (Host.negf x))))
    shapeCasts_S64x1x4096_S64x512x8) transposes_S64x512x8_S64x8x512_0_2_1

section
variable (x0 : FVec Ideal S64x64x512 .f32) (x1 : FVec Ideal S128x64x3 .f32) (x2 : FVec Ideal S128 .f32)
  (x3 : FVec Ideal S128x128x4 .f32) (x4 : FVec Ideal S128x64x8 .f32) (x5 : FVec Ideal S64x1x16 .f32)

theorem read0 : val_main_v20 (F := Ideal) x0 x1 x2 = lay0 x0 x1 x2 := by sl_kernel_rfl
theorem read1 : val_main_v52 (F := Ideal) x0 x1 x2 x3 = lay1 (val_main_v20 (F := Ideal) x0 x1 x2) x3 := by sl_kernel_rfl
theorem read2 : val_main_v108 (F := Ideal) x0 x1 x2 x3 x4 = lay2 (val_main_v52 (F := Ideal) x0 x1 x2 x3) x4 := by sl_kernel_rfl
theorem read3 : val_main_v207 (F := Ideal) x0 x1 x2 x3 x4 x5 = lay3 (val_main_v108 (F := Ideal) x0 x1 x2 x3 x4) x5 := by sl_kernel_rfl
theorem read4 : val_main_v215 (F := Ideal) x0 x1 x2 x3 x4 x5 = fin (val_main_v207 (F := Ideal) x0 x1 x2 x3 x4 x5) := by sl_kernel_rfl
end

/-! ## Read at an index -/

theorem zero_conv : (FloatOps.sitofp FTy.f32 (0#32) : Ideal .f32) = 0 := by
  simp [FloatOps.sitofp]
theorem zero_word : (Ideal.ofBits .f32 0x00000000#32) = 0 := by
  simp [Ideal.ofBits, Ideal.ieee]

theorem leaky_at {s : Shape} (h : (S_).BroadcastsInDim s ![]) (x : FVec Ideal s .f32) (j : s.Idx) : leaky h x j = lk (x j) := by
  pointwise [leaky]
  rfl

theorem addUp_at {s : Shape} (f : ℕ → FVec Ideal s .f32) (n : ℕ) (j : s.Idx) : addUp f n j = ∑ k : Fin (n + 1), f k.val j := by
  induction n with
  | zero => exact (Fin.sum_univ_one (fun k : Fin 1 => f k.val j)).symm
  | succ n ih => rw [Fin.sum_univ_castSucc]; exact congrArg (· + f (n + 1) j) ih

theorem tap0_at (x : FVec Ideal S64x64x514 .f32) (w : FVec Ideal S128x64x3 .f32) (k : Fin 3) (n : Fin 64) (o : Fin 128) (t : Fin 512) :
    tap0 x w k (ix3 n o t) = ∑ c : Fin 64, x (ix3 n c ⟨k.val + t.val, by omega⟩) * w (ix3 o c k) := by
  pointwise [tap0]
theorem tap1_at (x : FVec Ideal S64x128x1027 .f32) (w : FVec Ideal S128x128x4 .f32) (k : Fin 4) (n : Fin 64) (o : Fin 128) (t : Fin 1024) :
    tap1 x w k (ix3 n o t) = ∑ c : Fin 128, x (ix3 n c ⟨k.val + t.val, by omega⟩) * w (ix3 o c k) := by
  pointwise [tap1]
theorem tap2_at (x : FVec Ideal S64x128x2055 .f32) (w : FVec Ideal S64x128x8 .f32) (k : Fin 8) (n : Fin 64) (o : Fin 64) (t : Fin 2048) :
    tap2 x w k (ix3 n o t) = ∑ c : Fin 128, x (ix3 n c ⟨k.val + t.val, by omega⟩) * w (ix3 o c k) := by
  pointwise [tap2]
theorem tap3_at (x : FVec Ideal S64x64x4111 .f32) (w : FVec Ideal S1x64x16 .f32) (k : Fin 16) (n : Fin 64) (t : Fin 4096) :
    tap3 x w k (ix3 n 0 t) = ∑ c : Fin 64, x (ix3 n c ⟨k.val + t.val, by omega⟩) * w (ix3 0 c k) := by
  pointwise [tap3]

theorem row0_at (x : FVec Ideal S64x64x512 .f32) (n c : Fin 64) (i : Fin 514) :
    row0 x (ix3 n c i) = pd 1 (fun t => x (ix3 n c t)) i.val := by
  pointwise [row0, padv]
  rw [zero_conv]; rfl

theorem zero_pad {L K : ℕ} (p : ℕ) (f : Fin L → EReal) (i : ℕ) (hK : K + 1 = 2 * L) (e : EReal) (he : e = 0) :
    (if h : p ≤ i ∧ i - p < K then if h' : (i - p) % 2 = 0 ∧ (i - p) / 2 < L then f ⟨(i - p) / 2, h'.2⟩ else 0 else e) = dil p f i := by
  unfold dil
  by_cases h : p ≤ i ∧ i - p < K
  · rw [dif_pos h]
    by_cases h' : (i - p) % 2 = 0 ∧ (i - p) / 2 < L
    · rw [dif_pos h', dif_pos ⟨h.1, h'⟩]
    · rw [dif_neg h', dif_neg fun c => h' c.2]
  · rw [dif_neg h, dif_neg (by omega), he]

/-- A row padded after it was spread is the spread and padded row. -/
theorem row1_at (x : FVec Ideal S64x128x512 .f32) (n : Fin 64) (c : Fin 128) (i : Fin 1027) :
    row1 x (ix3 n c i) = dil 2 (fun t => x (ix3 n c t)) i.val := by
  rw [← zero_pad 2 (fun t => x (ix3 n c t)) i.val (K := 1023) rfl _ zero_conv]
  pointwise [row1, padv, gapv]
theorem row2_at (x : FVec Ideal S64x128x1024 .f32) (n : Fin 64) (c : Fin 128) (i : Fin 2055) :
    row2 x (ix3 n c i) = dil 4 (fun t => x (ix3 n c t)) i.val := by
  rw [← zero_pad 4 (fun t => x (ix3 n c t)) i.val (K := 2047) rfl _ zero_conv]
  pointwise [row2, padv, gapv]
theorem row3_at (x : FVec Ideal S64x64x2048 .f32) (n : Fin 64) (c : Fin 64) (i : Fin 4111) :
    row3 x (ix3 n c i) = dil 8 (fun t => x (ix3 n c t)) i.val := by
  rw [← zero_pad 8 (fun t => x (ix3 n c t)) i.val (K := 4095) rfl _ zero_conv]
  pointwise [row3, padv, gapv]

theorem flip1_at (w : FVec Ideal S128x128x4 .f32) (o c : Fin 128) (k : Fin 4) : flip1 w (ix3 o c k) = w (ix3 c o k.rev) := by
  pointwise [flip1]
  rfl
theorem flip2_at (w : FVec Ideal S128x64x8 .f32) (o : Fin 64) (c : Fin 128) (k : Fin 8) : flip2 w (ix3 o c k) = w (ix3 c o k.rev) := by
  pointwise [flip2]
  rfl
theorem flip3_at (w : FVec Ideal S64x1x16 .f32) (c : Fin 64) (k : Fin 16) : flip3 w (ix3 0 c k) = w (ix3 c 0 k.rev) := by
  pointwise [flip3]
  rfl

/-! ## The layers at an index -/

theorem lay0_at (x : FVec Ideal S64x64x512 .f32) (w : FVec Ideal S128x64x3 .f32) (b : FVec Ideal S128 .f32) (n : Fin 64) (o : Fin 128) (t : Fin 512) :
    lay0 x w b (ix3 n o t) = (∑ k : Fin 3, ∑ c : Fin 64, pd 1 (fun t => x (ix3 n c t)) (k.val + t.val) * w (ix3 o c k)) + b (ix1 o) := by
  have e : addUp (fun k => tap0 (row0 x) w (Fin.ofNat 3 k)) 2 (ix3 n o t)
      = ∑ k : Fin 3, ∑ c : Fin 64, pd 1 (fun t => x (ix3 n c t)) (k.val + t.val) * w (ix3 o c k) := by
    rw [addUp_at]
    refine Finset.sum_congr rfl fun k _ => ?_
    rw [show Fin.ofNat 3 k.val = k from Fin.ext (Nat.mod_eq_of_lt k.isLt), tap0_at]
    simp only [row0_at]
  rw [← e]
  pointwise [lay0]

theorem lay1_at (x : FVec Ideal S64x128x512 .f32) (w : FVec Ideal S128x128x4 .f32) (n : Fin 64) (o : Fin 128) (t : Fin 1024) :
    lay1 x w (ix3 n o t) = lk (up 4 (fun c t => x (ix3 n c t)) (fun c k => w (ix3 c o k.rev)) t.val) := by
  unfold lay1 up
  rw [leaky_at, addUp_at]
  refine congrArg lk (Finset.sum_congr rfl fun k _ => ?_)
  rw [show Fin.ofNat 4 k.val = k from Fin.ext (Nat.mod_eq_of_lt k.isLt), tap1_at]
  simp only [row1_at, flip1_at]

theorem lay2_at (x : FVec Ideal S64x128x1024 .f32) (w : FVec Ideal S128x64x8 .f32) (n : Fin 64) (o : Fin 64) (t : Fin 2048) :
    lay2 x w (ix3 n o t) = lk (up 8 (fun c t => x (ix3 n c t)) (fun c k => w (ix3 c o k.rev)) t.val) := by
  unfold lay2 up
  rw [leaky_at, addUp_at]
  refine congrArg lk (Finset.sum_congr rfl fun k _ => ?_)
  rw [show Fin.ofNat 8 k.val = k from Fin.ext (Nat.mod_eq_of_lt k.isLt), tap2_at]
  simp only [row2_at, flip2_at]

theorem lay3_at (x : FVec Ideal S64x64x2048 .f32) (w : FVec Ideal S64x1x16 .f32) (n : Fin 64) (t : Fin 4096) :
    lay3 x w (ix3 n 0 t) = up 16 (fun c t => x (ix3 n c t)) (fun c k => w (ix3 c 0 k.rev)) t.val := by
  unfold lay3 up
  rw [addUp_at]
  refine Finset.sum_congr rfl fun k _ => ?_
  rw [show Fin.ofNat 16 k.val = k from Fin.ext (Nat.mod_eq_of_lt k.isLt), tap3_at]
  simp only [row3_at, flip3_at]

theorem fin_at (x : FVec Ideal S64x1x4096 .f32) (n : Fin 64) (j : Fin 8) (u : Fin 512) :
    fin x (ix3 n j u) = (FloatOps.logistic (x (ix3 n 0 ⟨8 * u.val + j.val, by omega⟩)) : Ideal .f32) := by
  pointwise [fin]
  rw [show (⟨u.val * 8 + j.val, by omega⟩ : Fin 4096) = ⟨8 * u.val + j.val, by omega⟩ from Fin.ext (by simp only; omega)]
  rfl

/-- The decoder's weights, read off the arrays. -/
def dwts (w0 : FVec Ideal S128x64x3 .f32) (b0 : FVec Ideal S128 .f32) (w1 : FVec Ideal S128x128x4 .f32) (w2 : FVec Ideal S128x64x8 .f32)
    (w3 : FVec Ideal S64x1x16 .f32) : DWts where
  w0 := fun o c k => w0 (ix3 o c k)
  b0 := fun o => b0 (ix1 o)
  w1 := fun c o k => w1 (ix3 c o k)
  w2 := fun c o k => w2 (ix3 c o k)
  w3 := fun c o k => w3 (ix3 c o k)

/-- The reference's result at an index. -/
theorem ref_at (x0 : FVec Ideal S64x64x512 .f32) (x1 : FVec Ideal S128x64x3 .f32) (x2 : FVec Ideal S128 .f32) (x3 : FVec Ideal S128x128x4 .f32)
    (x4 : FVec Ideal S128x64x8 .f32) (x5 : FVec Ideal S64x1x16 .f32) (n : Fin 64) (j : Fin 8) (u : Fin 512) :
    val_main_v215 (F := Ideal) x0 x1 x2 x3 x4 x5 (ix3 n j u)
      = (FloatOps.logistic ((dwts x1 x2 x3 x4 x5).h3 (fun c t => x0 (ix3 n c t)) ⟨8 * u.val + j.val, by omega⟩) : Ideal .f32) := by
  have e0 : (fun (c : Fin 128) (t : Fin 512) => val_main_v20 (F := Ideal) x0 x1 x2 (ix3 n c t)) = (dwts x1 x2 x3 x4 x5).h0 (fun c t => x0 (ix3 n c t)) := by
    funext c t; rw [read0, lay0_at]; rfl
  have e1 : (fun (c : Fin 128) (t : Fin 1024) => val_main_v52 (F := Ideal) x0 x1 x2 x3 (ix3 n c t)) = (dwts x1 x2 x3 x4 x5).h1 (fun c t => x0 (ix3 n c t)) := by
    funext c t; rw [read1, lay1_at, e0]; rfl
  have e2 : (fun (c : Fin 64) (t : Fin 2048) => val_main_v108 (F := Ideal) x0 x1 x2 x3 x4 (ix3 n c t)) = (dwts x1 x2 x3 x4 x5).h2 (fun c t => x0 (ix3 n c t)) := by
    funext c t; rw [read2, lay2_at, e1]; rfl
  rw [read4, fin_at, read3, lay3_at, e2]; rfl

end Cert.DecRefIdeal.Own
-- ==== Proof.Own.DecValue.lean ====
/- The decoder: what its call leaves is what the reference computes from the same arguments. -/
module

public import proofs.«01_k».proof.Defs
public import proofs.«01_k».proof.Proof.Own.DecPoints
public import proofs.«01_k».proof.Proof.Own.DecRef
public import proofs.«01_k».proof.Proof.Gen.DecIdeal.Value
public import proofs.«01_k».proof.Proof.Gen.DecRefIdeal.Run
public import Idealize.ShloMosaic.Lib.Claim

@[expose] public section

set_option maxRecDepth 16384

noncomputable section

namespace Cert.DecIdeal.Own

open Cert.DecIdeal Cert.DecIdeal.Gen Cert.Spec
open Idealize.ShloMosaic Idealize.ShloMosaic.TcCoe Idealize.ShloMosaic.Tactic

variable (m : (ℓ : Loc nD τ sig) → Buf (Elt Ideal) ℓ) (c : Dev nD)

theorem flush6 : ∀ t : Fin cfg0.N, (cfg0.win 6).flush t = true := (by decide +kernel : ∀ t : Fin grid0.N, _)

theorem read6 (X : FVec Ideal S64x8x512 .f32) (t : Fin cfg0.N) (i j : Fin 8) (u : Fin 512) :
    (((cfg0.win 6).blk t).view.read (Elt Ideal) X : FVec Ideal S8x8x512 .f32) (ix3 i j u) = X (ix3 (img t i) j u) := by
  unfold img
  blk_point [idx t]

theorem cut6 (X : FVec Ideal S8x8x512 .f32) (t : Fin cfg0.N) (i j : Fin 8) (u : Fin 512) :
    ((cfg0.win 6).cut (grid0.coords t) X : FVec Ideal S8x8x512 .f32) (ix3 i j u) = X (ix3 i j u) := by
  blk_point [idx t]

/-- The decoded signals by phases. -/
theorem decoded (n : Fin 64) (j : Fin 8) (u : Fin 512) :
    ((dats m 0 c).arrAt 6 cfg0.N : FVec Ideal S64x8x512 .f32) (ix3 n j u)
      = (FloatOps.logistic ((wtsOf m c).h3 (rowsOf m c n) ⟨8 * u.val + j.val, by omega⟩) : Ideal .f32) := by
  have hN : cfg0.N = 8 := N_0
  have key : ∀ (t : Fin cfg0.N) (i : Fin 8), ((dats m 0 c).arrAt 6 cfg0.N : FVec Ideal S64x8x512 .f32) (ix3 (img t i) j u)
      = (FloatOps.logistic ((wtsOf m c).h3 (rowsOf m c (img t i)) ⟨8 * u.val + j.val, by omega⟩) : Ideal .f32) := fun t i => by
    have h := congrFun ((Cert.DecIdeal.Value.blocks6 m c t (flush6 t)).trans (Cert.DecIdeal.Value.flushed6 m c t)) (ix3 i j u)
    exact (read6 _ t i j u).symm.trans (h.trans ((cut6 _ t i j u).trans (out_at m c t i j u)))
  have h := key ⟨n.val / 8, by omega⟩ ⟨n.val % 8, by omega⟩
  have e : img ⟨n.val / 8, by omega⟩ ⟨n.val % 8, by omega⟩ = n := Fin.ext (by simp only [img]; omega)
  rwa [e] at h

end Cert.DecIdeal.Own

namespace Cert.Own

open Idealize.ShloMosaic Idealize.ShloMosaic.TcCoe Idealize.SL.Sem Idealize.ShloMosaic.Tactic

/-- The reference's result on the kernel's arguments is what the kernel leaves. -/
theorem decoded_eq (m : (ℓ : Loc Cert.DecIdeal.nD Cert.DecIdeal.τ Cert.DecIdeal.sig) → Buf (Elt Ideal) ℓ) (c : Dev Cert.DecIdeal.nD) :
    Cert.DecRefIdeal.Read.val_main_v215 (F := Ideal) (m ((c.tc : Thread _ _).loc Cert.DecIdeal.main_arg0)) (m ((c.tc : Thread _ _).loc Cert.DecIdeal.main_arg1))
      (m ((c.tc : Thread _ _).loc Cert.DecIdeal.main_arg2)) (m ((c.tc : Thread _ _).loc Cert.DecIdeal.main_arg3))
      (m ((c.tc : Thread _ _).loc Cert.DecIdeal.main_arg4)) (m ((c.tc : Thread _ _).loc Cert.DecIdeal.main_arg5))
      = (Cert.DecIdeal.Gen.dats m 0 c).arrAt 6 Cert.DecIdeal.cfg0.N := by
  funext j
  idx_vars j
  exact (Cert.DecRefIdeal.Own.ref_at _ _ _ _ _ _ j0 j1 j2).trans (Cert.DecIdeal.Own.decoded m c j0 j1 j2).symm

/-- The decoder: the kernel's result is the reference's. -/
theorem dec_value : Cert.algebraic_DecIdeal_DecRefIdeal := by
  intro m g m' g' _ hagree
  refine ⟨fun c => (Cert.DecIdeal.Gen.dats m 0 c).arrAt 6 Cert.DecIdeal.cfg0.N, Cert.DecIdeal.Value.run_blocks m g,
    θ_run_mono (Cert.DecRefIdeal.Value.run m' g') fun r h c => ?_⟩
  obtain ⟨e0, e1, e2, e3, e4, e5⟩ := hagree c
  have k := decoded_eq m c
  rw [← e0, ← e1, ← e2, ← e3, ← e4, ← e5] at k
  exact ⟨(h c).1.trans ((Cert.DecRefIdeal.Read.val_main_v215_eq (F := Ideal) (StableHlo.launchContents m' c)).trans k), (h c).2⟩

end Cert.Own
-- ==== Proof.lean ====
module

public import proofs.«01_k».proof.Defs
public import proofs.«01_k».proof.Proof.Own.KernelFrame
public import proofs.«01_k».proof.Proof.Own.KernelBits
public import proofs.«01_k».proof.Proof.Own.RefRun
public import proofs.«01_k».proof.Proof.Own.RegValue
public import proofs.«01_k».proof.Proof.Own.KernelValue
public import proofs.«01_k».proof.Proof.Own.DecValue
public import proofs.«01_k».proof.Proof.Gen.Reg.Frame
public import proofs.«01_k».proof.Proof.Gen.RegIdeal.Frame
public import proofs.«01_k».proof.Proof.Gen.RegIdeal.Value
public import proofs.«01_k».proof.Proof.Gen.Dec.Frame
public import proofs.«01_k».proof.Proof.Gen.DecIdeal.Frame
public import proofs.«01_k».proof.Proof.Gen.DecIdeal.Value
public import proofs.«01_k».proof.Proof.Gen.RegRefIdeal.Run
public import proofs.«01_k».proof.Proof.Gen.RegRefIdeal.Read
public import proofs.«01_k».proof.Proof.Gen.DecRefIdeal.Run
public import proofs.«01_k».proof.Proof.Gen.DecRefIdeal.Read
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference of the small heads declares no counter and writes no argument. -/
theorem reg_ref_frame : Cert.quiescent_RegRefIdeal := by
  intro m ρ _
  refine θ_run_mono (Cert.RegRefIdeal.Value.run m ρ) fun r h => ⟨fun c => ?_, sem_eq_zero_of_no_sems (by decide) r.2⟩
  exact (h c).2.2.2

/-- Nor does the decoder's. -/
theorem dec_ref_frame : Cert.quiescent_DecRefIdeal := by
  intro m ρ _
  refine θ_run_mono (Cert.DecRefIdeal.Value.run m ρ) fun r h => ⟨fun c => ?_, sem_eq_zero_of_no_sems (by decide) r.2⟩
  exact (h c).2

/-- The small heads: the kernel's three results are the reference's. -/
theorem reg_value : Cert.algebraic_RegIdeal_RegRefIdeal := by
  intro m g m' g' _ hagree
  refine ⟨fun c => (Cert.RegIdeal.Gen.dats m 0 c).arrAt 7 Cert.RegIdeal.cfg0.N, fun c => (Cert.RegIdeal.Gen.dats m 0 c).arrAt 8 Cert.RegIdeal.cfg0.N,
    fun c => (Cert.RegIdeal.Gen.dats m 0 c).arrAt 9 Cert.RegIdeal.cfg0.N, Cert.RegIdeal.Value.run_blocks m g,
    θ_run_mono (Cert.RegRefIdeal.Value.run m' g') fun r h c => ?_⟩
  obtain ⟨e0, e1, e2, e3, e4, e5, e6⟩ := hagree c
  refine ⟨(h c).1.trans ((Cert.RegRefIdeal.Read.val_main_v16_eq _ _ _ _ _).trans ?_),
    (h c).2.1.trans ((Cert.RegRefIdeal.Read.val_main_v30_eq _).trans ?_),
    (h c).2.2.1.trans ((Cert.RegRefIdeal.Read.val_main_v33_eq _).trans ?_), (h c).2.2.2⟩
  · rw [e0, e3, e4, e5, e6]
    exact (Cert.RegIdeal.Own.freq m c).symm
  · rw [e1]
    exact (Cert.RegIdeal.Own.perp m c).symm
  · rw [e2]
    exact (Cert.RegIdeal.Own.loss m c).symm

theorem claim : Cert.Claim := ⟨Cert.Kernel.Gen.facts, Cert.KernelIdeal.Gen.facts, Cert.ReferenceIdeal.Gen.facts, Cert.Reg.Gen.facts, Cert.RegIdeal.Gen.facts, Cert.RegRefIdeal.Gen.facts, Cert.Dec.Gen.facts, Cert.DecIdeal.Gen.facts, Cert.DecRefIdeal.Gen.facts, Cert.Pre_finite_latents.facts,
  Cert.Kernel.Own.frame, fun m ρ _ => Cert.KernelIdeal.Own.frame m ρ, fun m ρ _ => Cert.KernelIdeal.Own.frame m ρ,
  Cert.ReferenceIdeal.Own.frame, fun m ρ _ => Cert.ReferenceIdeal.Own.frame m ρ trivial,
  fun m ρ _ => Cert.Reg.Gen.frame m ρ, fun m ρ _ => Cert.RegIdeal.Gen.frame m ρ, reg_ref_frame,
  fun m ρ _ => Cert.Dec.Gen.frame m ρ, fun m ρ _ => Cert.DecIdeal.Gen.frame m ρ, dec_ref_frame,
  trivial, Cert.Own.kernel_value, trivial, reg_value, trivial, Cert.Own.dec_value⟩

end Cert.Proof

end
